-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)) (v2 : (c : Dev Cert.Kernel3Ideal.nD) → Buf (Elt Ideal) ((c.tc : Thread Cert.Kernel3Ideal.nD Cert.Kernel3Ideal.τ).loc Cert.Kernel3Ideal.main_v34_2)) (v3 : (c : Dev Cert.Kernel3Ideal.nD) → Buf (Elt Ideal) ((c.tc : Thread Cert.Kernel3Ideal.nD Cert.Kernel3Ideal.τ).loc Cert.Kernel3Ideal.main_v34_3)) (v4 : (c : Dev Cert.Kernel3Ideal.nD) → Buf (Elt Ideal) ((c.tc : Thread Cert.Kernel3Ideal.nD Cert.Kernel3Ideal.τ).loc Cert.Kernel3Ideal.main_v34_4)) (v5 : (c : Dev Cert.Kernel3Ideal.nD) → Buf (Elt Ideal) ((c.tc : Thread Cert.Kernel3Ideal.nD Cert.Kernel3Ideal.τ).loc Cert.Kernel3Ideal.main_v34_5)) (v6 : (c : Dev Cert.Kernel3Ideal.nD) → Buf (Elt Ideal) ((c.tc : Thread Cert.Kernel3Ideal.nD Cert.Kernel3Ideal.τ).loc Cert.Kernel3Ideal.main_v34_6)) (v7 : (c : Dev Cert.Kernel3Ideal.nD) → Buf (Elt Ideal) ((c.tc : Thread Cert.Kernel3Ideal.nD Cert.Kernel3Ideal.τ).loc Cert.Kernel3Ideal.main_v34_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_v34_2) = v2 c
          ∧ r.2.mem ((c.tc : Thread Cert.Kernel3Ideal.nD Cert.Kernel3Ideal.τ).loc Cert.Kernel3Ideal.main_v34_3) = v3 c
          ∧ r.2.mem ((c.tc : Thread Cert.Kernel3Ideal.nD Cert.Kernel3Ideal.τ).loc Cert.Kernel3Ideal.main_v34_4) = v4 c
          ∧ r.2.mem ((c.tc : Thread Cert.Kernel3Ideal.nD Cert.Kernel3Ideal.τ).loc Cert.Kernel3Ideal.main_v34_5) = v5 c
          ∧ r.2.mem ((c.tc : Thread Cert.Kernel3Ideal.nD Cert.Kernel3Ideal.τ).loc Cert.Kernel3Ideal.main_v34_6) = v6 c
          ∧ r.2.mem ((c.tc : Thread Cert.Kernel3Ideal.nD Cert.Kernel3Ideal.τ).loc Cert.Kernel3Ideal.main_v34_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v63) = v2 c
          ∧ r.2.mem ((c.tc : Thread Cert.Reference3Ideal.nD Cert.Reference3Ideal.τ).loc Cert.Reference3Ideal.main_v67) = v3 c
          ∧ r.2.mem ((c.tc : Thread Cert.Reference3Ideal.nD Cert.Reference3Ideal.τ).loc Cert.Reference3Ideal.main_v21) = v4 c
          ∧ r.2.mem ((c.tc : Thread Cert.Reference3Ideal.nD Cert.Reference3Ideal.τ).loc Cert.Reference3Ideal.main_v22) = v5 c
          ∧ r.2.mem ((c.tc : Thread Cert.Reference3Ideal.nD Cert.Reference3Ideal.τ).loc Cert.Reference3Ideal.main_v68) = v6 c
          ∧ r.2.mem ((c.tc : Thread Cert.Reference3Ideal.nD Cert.Reference3Ideal.τ).loc Cert.Reference3Ideal.main_v57) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v23)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S4x4096x512 : Shape := ⟨3, ![4, 4096, 512]⟩
abbrev S4x32x4096 : Shape := ⟨3, ![4, 32, 4096]⟩
abbrev S4x2x256x128 : Shape := ⟨4, ![4, 2, 256, 128]⟩
abbrev S4x2x80x256 : Shape := ⟨4, ![4, 2, 80, 256]⟩
abbrev S4x4096x256 : Shape := ⟨3, ![4, 4096, 256]⟩
abbrev S4x320x4096 : Shape := ⟨3, ![4, 320, 4096]⟩
abbrev S64x256 : Shape := ⟨2, ![64, 256]⟩
abbrev S2x1024x128 : Shape := ⟨3, ![2, 1024, 128]⟩
abbrev S1x256x256 : Shape := ⟨3, ![1, 256, 256]⟩
abbrev S1x16x256 : Shape := ⟨3, ![1, 16, 256]⟩
abbrev S1x1x256x128 : Shape := ⟨4, ![1, 1, 256, 128]⟩
abbrev S1x1x80x256 : Shape := ⟨4, ![1, 1, 80, 256]⟩
abbrev S1x4096x128 : Shape := ⟨3, ![1, 4096, 128]⟩
abbrev S1x80x4096 : Shape := ⟨3, ![1, 80, 4096]⟩
abbrev S1x1024x128 : Shape := ⟨3, ![1, 1024, 128]⟩
abbrev S512x512 : Shape := ⟨2, ![512, 512]⟩
abbrev S256x256 : Shape := ⟨2, ![256, 256]⟩
abbrev S256x128 : Shape := ⟨2, ![256, 128]⟩
abbrev S512x128 : Shape := ⟨2, ![512, 128]⟩
abbrev S1x512x128 : Shape := ⟨3, ![1, 512, 128]⟩
abbrev S1x512 : Shape := ⟨2, ![1, 512]⟩
abbrev S512x1 : Shape := ⟨2, ![512, 1]⟩
abbrev S1x256x128 : Shape := ⟨3, ![1, 256, 128]⟩
abbrev S768x128 : Shape := ⟨2, ![768, 128]⟩
abbrev S256x512 : Shape := ⟨2, ![256, 512]⟩
abbrev S768x512 : Shape := ⟨2, ![768, 512]⟩
abbrev S256x1 : Shape := ⟨2, ![256, 1]⟩
abbrev S512 : Shape := ⟨1, ![512]⟩
abbrev S80x256 : Shape := ⟨2, ![80, 256]⟩
abbrev S80x512 : Shape := ⟨2, ![80, 512]⟩
abbrev S64x512 : Shape := ⟨2, ![64, 512]⟩
abbrev S1x256 : Shape := ⟨2, ![1, 256]⟩
abbrev S64x1 : Shape := ⟨2, ![64, 1]⟩
abbrev S1x80x256 : Shape := ⟨3, ![1, 80, 256]⟩
abbrev S80x768 : Shape := ⟨2, ![80, 768]⟩
abbrev S8x256 : Shape := ⟨2, ![8, 256]⟩
abbrev S16x256 : Shape := ⟨2, ![16, 256]⟩
abbrev S24x256 : Shape := ⟨2, ![24, 256]⟩
abbrev S32x256 : Shape := ⟨2, ![32, 256]⟩
abbrev S40x256 : Shape := ⟨2, ![40, 256]⟩
abbrev S48x256 : Shape := ⟨2, ![48, 256]⟩
abbrev S56x256 : Shape := ⟨2, ![56, 256]⟩
abbrev S1x80x512 : Shape := ⟨3, ![1, 80, 512]⟩
abbrev S8x512 : Shape := ⟨2, ![8, 512]⟩
abbrev S8x1x512 : Shape := ⟨3, ![8, 1, 512]⟩
abbrev S8x64x512 : Shape := ⟨3, ![8, 64, 512]⟩
abbrev S128x256 : Shape := ⟨2, ![128, 256]⟩

abbrev nBuf : Space → Nat
  | .hbm => 10
  | .vmem => 26
  | .smem => 0
  | _ => 0

abbrev bufTy : (tb : Table) → Fin (tcTables nBuf tb) → BufTy
  | .hbm, ⟨0, _⟩ => ⟨S4x4096x512, .bf16⟩
  | .hbm, ⟨1, _⟩ => ⟨S4x32x4096, .f32⟩
  | .hbm, ⟨2, _⟩ => ⟨S4x2x256x128, .bf16⟩
  | .hbm, ⟨3, _⟩ => ⟨S4x2x80x256, .bf16⟩
  | .hbm, ⟨4, _⟩ => ⟨S4x4096x256, .bf16⟩
  | .hbm, ⟨5, _⟩ => ⟨S4x4096x256, .bf16⟩
  | .hbm, ⟨6, _⟩ => ⟨S4x320x4096, .bf16⟩
  | .hbm, ⟨7, _⟩ => ⟨S64x256, .bf16⟩
  | .hbm, ⟨8, _⟩ => ⟨S2x1024x128, .bf16⟩
  | .hbm, ⟨9, _⟩ => ⟨S4x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x16x256, .f32⟩
  | .local _ .vmem, ⟨3, _⟩ => ⟨S1x16x256, .f32⟩
  | .local _ .vmem, ⟨4, _⟩ => ⟨S1x1x256x128, .bf16⟩
  | .local _ .vmem, ⟨5, _⟩ => ⟨S1x1x256x128, .bf16⟩
  | .local _ .vmem, ⟨6, _⟩ => ⟨S1x1x80x256, .bf16⟩
  | .local _ .vmem, ⟨7, _⟩ => ⟨S1x1x80x256, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x80x4096, .bf16⟩
  | .local _ .vmem, ⟨11, _⟩ => ⟨S1x80x4096, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x80x4096, .bf16⟩
  | .local _ .vmem, ⟨15, _⟩ => ⟨S1x80x4096, .bf16⟩
  | .local _ .vmem, ⟨16, _⟩ => ⟨S64x256, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x256x256, .bf16⟩
  | .local _ .vmem, ⟨20, _⟩ => ⟨S1x256x256, .bf16⟩
  | .local _ .vmem, ⟨21, _⟩ => ⟨S64x256, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let arg2 : BitVec 32 := BitVec.ofNat 32 (i 2).val
  let c2_i32 : BitVec 32 := 2#32
  let v49 : BitVec 32 := Scalar.subi arg2 c2_i32
  let c0_i32_16 : BitVec 32 := 0#32
  let v50 : BitVec 32 := Scalar.addi v49 c0_i32_16
  let c0_i32_21 : BitVec 32 := 0#32
  let v55 : BitVec 32 := Scalar.maxsi v50 c0_i32_21
  let c256_i32_22 : BitVec 32 := 256#32
  let v56 : BitVec 32 := Scalar.muli v55 c256_i32_22
  v56
def k0_mult2 (i : grid0.Coords) : BitVec 32 :=
  let arg2 : BitVec 32 := BitVec.ofNat 32 (i 2).val
  let c2_i32_17 : BitVec 32 := 2#32
  let v51 : BitVec 32 := Scalar.subi arg2 c2_i32_17
  let c1_i32_18 : BitVec 32 := 1#32
  let v52 : BitVec 32 := Scalar.addi v51 c1_i32_18
  let c0_i32_23 : BitVec 32 := 0#32
  let v58 : BitVec 32 := Scalar.maxsi v52 c0_i32_23
  let c256_i32_24 : BitVec 32 := 256#32
  let v59 : BitVec 32 := Scalar.muli v58 c256_i32_24
  v59
def k0_mult3 (i : grid0.Coords) : BitVec 32 :=
  let arg2 : BitVec 32 := BitVec.ofNat 32 (i 2).val
  let c2_i32_19 : BitVec 32 := 2#32
  let v53 : BitVec 32 := Scalar.subi arg2 c2_i32_19
  let c2_i32_20 : BitVec 32 := 2#32
  let v54 : BitVec 32 := Scalar.addi v53 c2_i32_20
  let c0_i32_25 : BitVec 32 := 0#32
  let v61 : BitVec 32 := Scalar.maxsi v54 c0_i32_25
  let c256_i32_26 : BitVec 32 := 256#32
  let v62 : BitVec 32 := Scalar.muli v61 c256_i32_26
  v62
def k0_off1 (i : grid0.Coords) (c0_i32_16 : BitVec 32) : Fin 3 → Nat :=
  let c0_27 : Index := 0#32
  let arg2 : BitVec 32 := BitVec.ofNat 32 (i 2).val
  let c2_i32 : BitVec 32 := 2#32
  let v49 : BitVec 32 := Scalar.subi arg2 c2_i32
  let v50 : BitVec 32 := Scalar.addi v49 c0_i32_16
  let c0_i32_21 : BitVec 32 := 0#32
  let v55 : BitVec 32 := Scalar.maxsi v50 c0_i32_21
  let c256_i32_22 : BitVec 32 := 256#32
  let v56 : BitVec 32 := Scalar.muli v55 c256_i32_22
  let v57 : BitVec 32 := v56
  let v64 : Index := Scalar.indexCast v57
  let c0_28 : Index := 0#32
  ![0, v64.toNat, 0]
def k0_mult4 : BitVec 32 :=
  let c0_i32_77 : BitVec 32 := 0#32
  c0_i32_77
def k0_off2 (i : grid0.Coords) (c0_i32_16 : BitVec 32) : Fin 3 → Nat :=
  let c0_98 : Index := 0#32
  let c0_99 : Index := 0#32
  let arg2 : BitVec 32 := BitVec.ofNat 32 (i 2).val
  let c2_i32 : BitVec 32 := 2#32
  let v49 : BitVec 32 := Scalar.subi arg2 c2_i32
  let v50 : BitVec 32 := Scalar.addi v49 c0_i32_16
  let c0_i32_21 : BitVec 32 := 0#32
  let v55 : BitVec 32 := Scalar.maxsi v50 c0_i32_21
  let c256_i32_22 : BitVec 32 := 256#32
  let v56 : BitVec 32 := Scalar.muli v55 c256_i32_22
  let v57 : BitVec 32 := v56
  let v221 : Index := Scalar.indexCast v57
  ![0, 0, v221.toNat]
@[reducible] def k0_t1_loop (i : grid0.Coords) : Scf.Loop 32 :=
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_170 : BitVec 32 := 1#32
  ⟨c0_i32_168, v393, c1_i32_170⟩
def k0_mult5 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c0_i32_201 : BitVec 32 := 0#32
  let v505 : BitVec 32 := Scalar.addi v504 c0_i32_201
  let c1_i32_202 : BitVec 32 := 1#32
  let v506 : BitVec 32 := Scalar.addi v505 c1_i32_202
  let c512_i32 : BitVec 32 := 512#32
  let v507 : BitVec 32 := Scalar.muli v506 c512_i32
  v507
def k0_off3 (i : grid0.Coords) (k0_t1 : Fin (k0_t1_loop i).trips) (c0_i32_201 : BitVec 32) : Fin 3 → Nat :=
  let c0_203 : Index := 0#32
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let v505 : BitVec 32 := Scalar.addi v504 c0_i32_201
  let c1_i32_202 : BitVec 32 := 1#32
  let v506 : BitVec 32 := Scalar.addi v505 c1_i32_202
  let c512_i32 : BitVec 32 := 512#32
  let v507 : BitVec 32 := Scalar.muli v506 c512_i32
  let v508 : BitVec 32 := v507
  let v509 : Index := Scalar.indexCast v508
  let c0_204 : Index := 0#32
  ![0, v509.toNat, 0]
def k0_mult6 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c0_i32_211 : BitVec 32 := 0#32
  let v520 : BitVec 32 := Scalar.addi v504 c0_i32_211
  let c512_i32_212 : BitVec 32 := 512#32
  let v521 : BitVec 32 := Scalar.muli v520 c512_i32_212
  v521
def k0_off4 (i : grid0.Coords) (k0_t1 : Fin (k0_t1_loop i).trips) (c0_i32_211 : BitVec 32) : Fin 3 → Nat :=
  let c0_213 : Index := 0#32
  let c0_214 : Index := 0#32
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let v520 : BitVec 32 := Scalar.addi v504 c0_i32_211
  let c512_i32_212 : BitVec 32 := 512#32
  let v521 : BitVec 32 := Scalar.muli v520 c512_i32_212
  let v522 : BitVec 32 := v521
  let v523 : Index := Scalar.indexCast v522
  ![0, 0, v523.toNat]
def k0_mult7 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c0_i32_211 : BitVec 32 := 0#32
  let v520 : BitVec 32 := Scalar.addi v504 c0_i32_211
  let c8_i32_215 : BitVec 32 := 8#32
  let v526 : BitVec 32 := Scalar.muli v520 c8_i32_215
  v526
def k0_off5 (i : grid0.Coords) (k0_t1 : Fin (k0_t1_loop i).trips) (c0_i32_211 : BitVec 32) : Fin 2 → Nat :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let v520 : BitVec 32 := Scalar.addi v504 c0_i32_211
  let c8_i32_215 : BitVec 32 := 8#32
  let v526 : BitVec 32 := Scalar.muli v520 c8_i32_215
  let v527 : BitVec 32 := v526
  let v528 : Index := Scalar.indexCast v527
  let c0_216 : Index := 0#32
  ![v528.toNat, 0]
def k0_mult8 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c1_i32_225 : BitVec 32 := 1#32
  let v568 : BitVec 32 := Scalar.addi v504 c1_i32_225
  let c1_i32_226 : BitVec 32 := 1#32
  let v569 : BitVec 32 := Scalar.addi v568 c1_i32_226
  let c512_i32_227 : BitVec 32 := 512#32
  let v570 : BitVec 32 := Scalar.muli v569 c512_i32_227
  v570
def k0_mult9 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c1_i32_236 : BitVec 32 := 1#32
  let v583 : BitVec 32 := Scalar.addi v504 c1_i32_236
  let c512_i32_237 : BitVec 32 := 512#32
  let v584 : BitVec 32 := Scalar.muli v583 c512_i32_237
  v584
def k0_mult10 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c1_i32_236 : BitVec 32 := 1#32
  let v583 : BitVec 32 := Scalar.addi v504 c1_i32_236
  let c8_i32_240 : BitVec 32 := 8#32
  let v589 : BitVec 32 := Scalar.muli v583 c8_i32_240
  v589
def k0_mult11 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c2_i32_250 : BitVec 32 := 2#32
  let v631 : BitVec 32 := Scalar.addi v504 c2_i32_250
  let c1_i32_251 : BitVec 32 := 1#32
  let v632 : BitVec 32 := Scalar.addi v631 c1_i32_251
  let c512_i32_252 : BitVec 32 := 512#32
  let v633 : BitVec 32 := Scalar.muli v632 c512_i32_252
  v633
def k0_mult12 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c2_i32_261 : BitVec 32 := 2#32
  let v646 : BitVec 32 := Scalar.addi v504 c2_i32_261
  let c512_i32_262 : BitVec 32 := 512#32
  let v647 : BitVec 32 := Scalar.muli v646 c512_i32_262
  v647
def k0_mult13 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c2_i32_261 : BitVec 32 := 2#32
  let v646 : BitVec 32 := Scalar.addi v504 c2_i32_261
  let c8_i32_265 : BitVec 32 := 8#32
  let v652 : BitVec 32 := Scalar.muli v646 c8_i32_265
  v652
def k0_mult14 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c3_i32 : BitVec 32 := 3#32
  let v694 : BitVec 32 := Scalar.addi v504 c3_i32
  let c1_i32_275 : BitVec 32 := 1#32
  let v695 : BitVec 32 := Scalar.addi v694 c1_i32_275
  let c512_i32_276 : BitVec 32 := 512#32
  let v696 : BitVec 32 := Scalar.muli v695 c512_i32_276
  v696
def k0_mult15 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c3_i32_285 : BitVec 32 := 3#32
  let v709 : BitVec 32 := Scalar.addi v504 c3_i32_285
  let c512_i32_286 : BitVec 32 := 512#32
  let v710 : BitVec 32 := Scalar.muli v709 c512_i32_286
  v710
def k0_mult16 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c3_i32_285 : BitVec 32 := 3#32
  let v709 : BitVec 32 := Scalar.addi v504 c3_i32_285
  let c8_i32_289 : BitVec 32 := 8#32
  let v715 : BitVec 32 := Scalar.muli v709 c8_i32_289
  v715
def k0_mult17 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c4_i32 : BitVec 32 := 4#32
  let v757 : BitVec 32 := Scalar.addi v504 c4_i32
  let c1_i32_299 : BitVec 32 := 1#32
  let v758 : BitVec 32 := Scalar.addi v757 c1_i32_299
  let c512_i32_300 : BitVec 32 := 512#32
  let v759 : BitVec 32 := Scalar.muli v758 c512_i32_300
  v759
def k0_mult18 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c4_i32_309 : BitVec 32 := 4#32
  let v772 : BitVec 32 := Scalar.addi v504 c4_i32_309
  let c512_i32_310 : BitVec 32 := 512#32
  let v773 : BitVec 32 := Scalar.muli v772 c512_i32_310
  v773
def k0_mult19 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c4_i32_309 : BitVec 32 := 4#32
  let v772 : BitVec 32 := Scalar.addi v504 c4_i32_309
  let c8_i32_313 : BitVec 32 := 8#32
  let v778 : BitVec 32 := Scalar.muli v772 c8_i32_313
  v778
def k0_mult20 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c5_i32 : BitVec 32 := 5#32
  let v820 : BitVec 32 := Scalar.addi v504 c5_i32
  let c1_i32_323 : BitVec 32 := 1#32
  let v821 : BitVec 32 := Scalar.addi v820 c1_i32_323
  let c512_i32_324 : BitVec 32 := 512#32
  let v822 : BitVec 32 := Scalar.muli v821 c512_i32_324
  v822
def k0_mult21 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c5_i32_333 : BitVec 32 := 5#32
  let v835 : BitVec 32 := Scalar.addi v504 c5_i32_333
  let c512_i32_334 : BitVec 32 := 512#32
  let v836 : BitVec 32 := Scalar.muli v835 c512_i32_334
  v836
def k0_mult22 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c5_i32_333 : BitVec 32 := 5#32
  let v835 : BitVec 32 := Scalar.addi v504 c5_i32_333
  let c8_i32_337 : BitVec 32 := 8#32
  let v841 : BitVec 32 := Scalar.muli v835 c8_i32_337
  v841
def k0_mult23 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c6_i32 : BitVec 32 := 6#32
  let v883 : BitVec 32 := Scalar.addi v504 c6_i32
  let c1_i32_347 : BitVec 32 := 1#32
  let v884 : BitVec 32 := Scalar.addi v883 c1_i32_347
  let c512_i32_348 : BitVec 32 := 512#32
  let v885 : BitVec 32 := Scalar.muli v884 c512_i32_348
  v885
def k0_mult24 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c6_i32_357 : BitVec 32 := 6#32
  let v898 : BitVec 32 := Scalar.addi v504 c6_i32_357
  let c512_i32_358 : BitVec 32 := 512#32
  let v899 : BitVec 32 := Scalar.muli v898 c512_i32_358
  v899
def k0_mult25 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c6_i32_357 : BitVec 32 := 6#32
  let v898 : BitVec 32 := Scalar.addi v504 c6_i32_357
  let c8_i32_361 : BitVec 32 := 8#32
  let v904 : BitVec 32 := Scalar.muli v898 c8_i32_361
  v904
def k0_mult26 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c7_i32_371 : BitVec 32 := 7#32
  let v946 : BitVec 32 := Scalar.addi v504 c7_i32_371
  let c1_i32_372 : BitVec 32 := 1#32
  let v947 : BitVec 32 := Scalar.addi v946 c1_i32_372
  let c512_i32_373 : BitVec 32 := 512#32
  let v948 : BitVec 32 := Scalar.muli v947 c512_i32_373
  v948
def k0_mult27 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c7_i32_382 : BitVec 32 := 7#32
  let v961 : BitVec 32 := Scalar.addi v504 c7_i32_382
  let c512_i32_383 : BitVec 32 := 512#32
  let v962 : BitVec 32 := Scalar.muli v961 c512_i32_383
  v962
def k0_mult28 (i : grid0.Coords) (k0_t1 : Fin (k0_t1_loop i).trips) : BitVec 32 :=
  let c8_i32_200 : BitVec 32 := 8#32
  let c0_i32_168 : BitVec 32 := 0#32
  let c1_i32_170 : BitVec 32 := 1#32
  let arg19 : BitVec 32 := Scf.iv c0_i32_168 c1_i32_170 k0_t1
  let v504 : BitVec 32 := Scalar.muli c8_i32_200 arg19
  let c7_i32_382 : BitVec 32 := 7#32
  let v961 : BitVec 32 := Scalar.addi v504 c7_i32_382
  let c8_i32_386 : BitVec 32 := 8#32
  let v967 : BitVec 32 := Scalar.muli v961 c8_i32_386
  v967
@[reducible] def k0_t2_loop (i : grid0.Coords) : Scf.Loop 32 :=
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let v390 : BitVec 32 := Scalar.addi c0_i32_168 v389
  let c1_i32_171 : BitVec 32 := 1#32
  ⟨v393, v390, c1_i32_171⟩
def k0_mult29 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c0_i32_201 : BitVec 32 := 0#32
  let v505 : BitVec 32 := Scalar.addi v504 c0_i32_201
  let c1_i32_202 : BitVec 32 := 1#32
  let v506 : BitVec 32 := Scalar.addi v505 c1_i32_202
  let c512_i32 : BitVec 32 := 512#32
  let v507 : BitVec 32 := Scalar.muli v506 c512_i32
  v507
def k0_off6 (i : grid0.Coords) (k0_t2 : Fin (k0_t2_loop i).trips) (c0_i32_201 : BitVec 32) : Fin 3 → Nat :=
  let c0_203 : Index := 0#32
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let v505 : BitVec 32 := Scalar.addi v504 c0_i32_201
  let c1_i32_202 : BitVec 32 := 1#32
  let v506 : BitVec 32 := Scalar.addi v505 c1_i32_202
  let c512_i32 : BitVec 32 := 512#32
  let v507 : BitVec 32 := Scalar.muli v506 c512_i32
  let v508 : BitVec 32 := v507
  let v509 : Index := Scalar.indexCast v508
  let c0_204 : Index := 0#32
  ![0, v509.toNat, 0]
def k0_mult30 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c0_i32_211 : BitVec 32 := 0#32
  let v520 : BitVec 32 := Scalar.addi v504 c0_i32_211
  let c512_i32_212 : BitVec 32 := 512#32
  let v521 : BitVec 32 := Scalar.muli v520 c512_i32_212
  v521
def k0_off7 (i : grid0.Coords) (k0_t2 : Fin (k0_t2_loop i).trips) (c0_i32_211 : BitVec 32) : Fin 3 → Nat :=
  let c0_213 : Index := 0#32
  let c0_214 : Index := 0#32
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let v520 : BitVec 32 := Scalar.addi v504 c0_i32_211
  let c512_i32_212 : BitVec 32 := 512#32
  let v521 : BitVec 32 := Scalar.muli v520 c512_i32_212
  let v522 : BitVec 32 := v521
  let v523 : Index := Scalar.indexCast v522
  ![0, 0, v523.toNat]
def k0_mult31 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c0_i32_211 : BitVec 32 := 0#32
  let v520 : BitVec 32 := Scalar.addi v504 c0_i32_211
  let c8_i32_215 : BitVec 32 := 8#32
  let v526 : BitVec 32 := Scalar.muli v520 c8_i32_215
  v526
def k0_off8 (i : grid0.Coords) (k0_t2 : Fin (k0_t2_loop i).trips) (c0_i32_211 : BitVec 32) : Fin 2 → Nat :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let v520 : BitVec 32 := Scalar.addi v504 c0_i32_211
  let c8_i32_215 : BitVec 32 := 8#32
  let v526 : BitVec 32 := Scalar.muli v520 c8_i32_215
  let v527 : BitVec 32 := v526
  let v528 : Index := Scalar.indexCast v527
  let c0_216 : Index := 0#32
  ![v528.toNat, 0]
def k0_mult32 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c1_i32_225 : BitVec 32 := 1#32
  let v568 : BitVec 32 := Scalar.addi v504 c1_i32_225
  let c1_i32_226 : BitVec 32 := 1#32
  let v569 : BitVec 32 := Scalar.addi v568 c1_i32_226
  let c512_i32_227 : BitVec 32 := 512#32
  let v570 : BitVec 32 := Scalar.muli v569 c512_i32_227
  v570
def k0_mult33 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c1_i32_236 : BitVec 32 := 1#32
  let v583 : BitVec 32 := Scalar.addi v504 c1_i32_236
  let c512_i32_237 : BitVec 32 := 512#32
  let v584 : BitVec 32 := Scalar.muli v583 c512_i32_237
  v584
def k0_mult34 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c1_i32_236 : BitVec 32 := 1#32
  let v583 : BitVec 32 := Scalar.addi v504 c1_i32_236
  let c8_i32_240 : BitVec 32 := 8#32
  let v589 : BitVec 32 := Scalar.muli v583 c8_i32_240
  v589
def k0_mult35 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c2_i32_250 : BitVec 32 := 2#32
  let v631 : BitVec 32 := Scalar.addi v504 c2_i32_250
  let c1_i32_251 : BitVec 32 := 1#32
  let v632 : BitVec 32 := Scalar.addi v631 c1_i32_251
  let c512_i32_252 : BitVec 32 := 512#32
  let v633 : BitVec 32 := Scalar.muli v632 c512_i32_252
  v633
def k0_mult36 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c2_i32_261 : BitVec 32 := 2#32
  let v646 : BitVec 32 := Scalar.addi v504 c2_i32_261
  let c512_i32_262 : BitVec 32 := 512#32
  let v647 : BitVec 32 := Scalar.muli v646 c512_i32_262
  v647
def k0_mult37 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c2_i32_261 : BitVec 32 := 2#32
  let v646 : BitVec 32 := Scalar.addi v504 c2_i32_261
  let c8_i32_265 : BitVec 32 := 8#32
  let v652 : BitVec 32 := Scalar.muli v646 c8_i32_265
  v652
def k0_mult38 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c3_i32 : BitVec 32 := 3#32
  let v694 : BitVec 32 := Scalar.addi v504 c3_i32
  let c1_i32_275 : BitVec 32 := 1#32
  let v695 : BitVec 32 := Scalar.addi v694 c1_i32_275
  let c512_i32_276 : BitVec 32 := 512#32
  let v696 : BitVec 32 := Scalar.muli v695 c512_i32_276
  v696
def k0_mult39 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c3_i32_285 : BitVec 32 := 3#32
  let v709 : BitVec 32 := Scalar.addi v504 c3_i32_285
  let c512_i32_286 : BitVec 32 := 512#32
  let v710 : BitVec 32 := Scalar.muli v709 c512_i32_286
  v710
def k0_mult40 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c3_i32_285 : BitVec 32 := 3#32
  let v709 : BitVec 32 := Scalar.addi v504 c3_i32_285
  let c8_i32_289 : BitVec 32 := 8#32
  let v715 : BitVec 32 := Scalar.muli v709 c8_i32_289
  v715
def k0_mult41 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c4_i32 : BitVec 32 := 4#32
  let v757 : BitVec 32 := Scalar.addi v504 c4_i32
  let c1_i32_299 : BitVec 32 := 1#32
  let v758 : BitVec 32 := Scalar.addi v757 c1_i32_299
  let c512_i32_300 : BitVec 32 := 512#32
  let v759 : BitVec 32 := Scalar.muli v758 c512_i32_300
  v759
def k0_mult42 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c4_i32_309 : BitVec 32 := 4#32
  let v772 : BitVec 32 := Scalar.addi v504 c4_i32_309
  let c512_i32_310 : BitVec 32 := 512#32
  let v773 : BitVec 32 := Scalar.muli v772 c512_i32_310
  v773
def k0_mult43 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c4_i32_309 : BitVec 32 := 4#32
  let v772 : BitVec 32 := Scalar.addi v504 c4_i32_309
  let c8_i32_313 : BitVec 32 := 8#32
  let v778 : BitVec 32 := Scalar.muli v772 c8_i32_313
  v778
def k0_mult44 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c5_i32 : BitVec 32 := 5#32
  let v820 : BitVec 32 := Scalar.addi v504 c5_i32
  let c1_i32_323 : BitVec 32 := 1#32
  let v821 : BitVec 32 := Scalar.addi v820 c1_i32_323
  let c512_i32_324 : BitVec 32 := 512#32
  let v822 : BitVec 32 := Scalar.muli v821 c512_i32_324
  v822
def k0_mult45 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c5_i32_333 : BitVec 32 := 5#32
  let v835 : BitVec 32 := Scalar.addi v504 c5_i32_333
  let c512_i32_334 : BitVec 32 := 512#32
  let v836 : BitVec 32 := Scalar.muli v835 c512_i32_334
  v836
def k0_mult46 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c5_i32_333 : BitVec 32 := 5#32
  let v835 : BitVec 32 := Scalar.addi v504 c5_i32_333
  let c8_i32_337 : BitVec 32 := 8#32
  let v841 : BitVec 32 := Scalar.muli v835 c8_i32_337
  v841
def k0_mult47 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c6_i32 : BitVec 32 := 6#32
  let v883 : BitVec 32 := Scalar.addi v504 c6_i32
  let c1_i32_347 : BitVec 32 := 1#32
  let v884 : BitVec 32 := Scalar.addi v883 c1_i32_347
  let c512_i32_348 : BitVec 32 := 512#32
  let v885 : BitVec 32 := Scalar.muli v884 c512_i32_348
  v885
def k0_mult48 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c6_i32_357 : BitVec 32 := 6#32
  let v898 : BitVec 32 := Scalar.addi v504 c6_i32_357
  let c512_i32_358 : BitVec 32 := 512#32
  let v899 : BitVec 32 := Scalar.muli v898 c512_i32_358
  v899
def k0_mult49 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c6_i32_357 : BitVec 32 := 6#32
  let v898 : BitVec 32 := Scalar.addi v504 c6_i32_357
  let c8_i32_361 : BitVec 32 := 8#32
  let v904 : BitVec 32 := Scalar.muli v898 c8_i32_361
  v904
def k0_mult50 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c7_i32_371 : BitVec 32 := 7#32
  let v946 : BitVec 32 := Scalar.addi v504 c7_i32_371
  let c1_i32_372 : BitVec 32 := 1#32
  let v947 : BitVec 32 := Scalar.addi v946 c1_i32_372
  let c512_i32_373 : BitVec 32 := 512#32
  let v948 : BitVec 32 := Scalar.muli v947 c512_i32_373
  v948
def k0_mult51 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c7_i32_382 : BitVec 32 := 7#32
  let v961 : BitVec 32 := Scalar.addi v504 c7_i32_382
  let c512_i32_383 : BitVec 32 := 512#32
  let v962 : BitVec 32 := Scalar.muli v961 c512_i32_383
  v962
def k0_mult52 (i : grid0.Coords) (k0_t2 : Fin (k0_t2_loop i).trips) : BitVec 32 :=
  let c8_i32_200 : BitVec 32 := 8#32
  let c0_i32_168 : BitVec 32 := 0#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v389 : BitVec 32 := Scalar.subi v388 c0_i32_168
  let c1_i32_169 : BitVec 32 := 1#32
  let v391 : BitVec 32 := Scalar.divsi v389 c1_i32_169
  let v392 : BitVec 32 := Scalar.muli v391 c1_i32_169
  let v393 : BitVec 32 := Scalar.addi c0_i32_168 v392
  let c1_i32_171 : BitVec 32 := 1#32
  let arg19 : BitVec 32 := Scf.iv v393 c1_i32_171 k0_t2
  let v504 : BitVec 32 := Scalar.muli c8_i32_200 arg19
  let c7_i32_382 : BitVec 32 := 7#32
  let v961 : BitVec 32 := Scalar.addi v504 c7_i32_382
  let c8_i32_386 : BitVec 32 := 8#32
  let v967 : BitVec 32 := Scalar.muli v961 c8_i32_386
  v967
def k0_cond8 (i : grid0.Coords) : BitVec 1 :=
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c8_i32_180 : BitVec 32 := 8#32
  let c0_i32_181 : BitVec 32 := 0#32
  let v404 : BitVec 1 := Scalar.cmpi .eq c8_i32_180 c0_i32_181
  let c1_i32_182 : BitVec 32 := 1#32
  let v405 : BitVec 32 := Scalar.select v404 c1_i32_182 c8_i32_180
  let v406 : BitVec 32 := Scalar.remsi v371 v405
  let c0_i32_184 : BitVec 32 := 0#32
  let v408 : BitVec 1 := Scalar.cmpi .slt v406 c0_i32_184
  let c0_i32_185 : BitVec 32 := 0#32
  let v409 : BitVec 1 := Scalar.cmpi .slt v405 c0_i32_185
  let v410 : BitVec 1 := Scalar.xori v408 v409
  let c0_i32_183 : BitVec 32 := 0#32
  let v407 : BitVec 1 := Scalar.cmpi .ne v406 c0_i32_183
  let v411 : BitVec 1 := Scalar.andi v410 v407
  let v412 : BitVec 32 := Scalar.addi v406 v405
  let v413 : BitVec 32 := Scalar.select v411 v412 v406
  let c0_i32_186 : BitVec 32 := 0#32
  let v414 : BitVec 32 := Scalar.maxsi v413 c0_i32_186
  let c7_i32_187 : BitVec 32 := 7#32
  let v415 : BitVec 32 := Scalar.minsi v414 c7_i32_187
  let c0_i32_188 : BitVec 32 := 0#32
  let v416 : BitVec 1 := Scalar.cmpi .ne v415 c0_i32_188
  v416

def k0_cond9 (i : grid0.Coords) : BitVec 1 :=
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c8_i32_180 : BitVec 32 := 8#32
  let c0_i32_181 : BitVec 32 := 0#32
  let v404 : BitVec 1 := Scalar.cmpi .eq c8_i32_180 c0_i32_181
  let c1_i32_182 : BitVec 32 := 1#32
  let v405 : BitVec 32 := Scalar.select v404 c1_i32_182 c8_i32_180
  let v406 : BitVec 32 := Scalar.remsi v371 v405
  let c0_i32_184 : BitVec 32 := 0#32
  let v408 : BitVec 1 := Scalar.cmpi .slt v406 c0_i32_184
  let c0_i32_185 : BitVec 32 := 0#32
  let v409 : BitVec 1 := Scalar.cmpi .slt v405 c0_i32_185
  let v410 : BitVec 1 := Scalar.xori v408 v409
  let c0_i32_183 : BitVec 32 := 0#32
  let v407 : BitVec 1 := Scalar.cmpi .ne v406 c0_i32_183
  let v411 : BitVec 1 := Scalar.andi v410 v407
  let v412 : BitVec 32 := Scalar.addi v406 v405
  let v413 : BitVec 32 := Scalar.select v411 v412 v406
  let c0_i32_186 : BitVec 32 := 0#32
  let v414 : BitVec 32 := Scalar.maxsi v413 c0_i32_186
  let c7_i32_187 : BitVec 32 := 7#32
  let v415 : BitVec 32 := Scalar.minsi v414 c7_i32_187
  let c1_i32_200 : BitVec 32 := 1#32
  let v504 : BitVec 32 := Scalar.subi v415 c1_i32_200
  let c0_i32_201 : BitVec 32 := 0#32
  let v505 : BitVec 1 := Scalar.cmpi .ne v504 c0_i32_201
  v505

def k0_cond10 (i : grid0.Coords) : BitVec 1 :=
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c8_i32_180 : BitVec 32 := 8#32
  let c0_i32_181 : BitVec 32 := 0#32
  let v404 : BitVec 1 := Scalar.cmpi .eq c8_i32_180 c0_i32_181
  let c1_i32_182 : BitVec 32 := 1#32
  let v405 : BitVec 32 := Scalar.select v404 c1_i32_182 c8_i32_180
  let v406 : BitVec 32 := Scalar.remsi v371 v405
  let c0_i32_184 : BitVec 32 := 0#32
  let v408 : BitVec 1 := Scalar.cmpi .slt v406 c0_i32_184
  let c0_i32_185 : BitVec 32 := 0#32
  let v409 : BitVec 1 := Scalar.cmpi .slt v405 c0_i32_185
  let v410 : BitVec 1 := Scalar.xori v408 v409
  let c0_i32_183 : BitVec 32 := 0#32
  let v407 : BitVec 1 := Scalar.cmpi .ne v406 c0_i32_183
  let v411 : BitVec 1 := Scalar.andi v410 v407
  let v412 : BitVec 32 := Scalar.addi v406 v405
  let v413 : BitVec 32 := Scalar.select v411 v412 v406
  let c0_i32_186 : BitVec 32 := 0#32
  let v414 : BitVec 32 := Scalar.maxsi v413 c0_i32_186
  let c7_i32_187 : BitVec 32 := 7#32
  let v415 : BitVec 32 := Scalar.minsi v414 c7_i32_187
  let c1_i32_200 : BitVec 32 := 1#32
  let v504 : BitVec 32 := Scalar.subi v415 c1_i32_200
  let c1_i32_202 : BitVec 32 := 1#32
  let v507 : BitVec 32 := Scalar.subi v504 c1_i32_202
  let c0_i32_203 : BitVec 32 := 0#32
  let v508 : BitVec 1 := Scalar.cmpi .ne v507 c0_i32_203
  v508

def k0_cond11 (i : grid0.Coords) : BitVec 1 :=
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c8_i32_180 : BitVec 32 := 8#32
  let c0_i32_181 : BitVec 32 := 0#32
  let v404 : BitVec 1 := Scalar.cmpi .eq c8_i32_180 c0_i32_181
  let c1_i32_182 : BitVec 32 := 1#32
  let v405 : BitVec 32 := Scalar.select v404 c1_i32_182 c8_i32_180
  let v406 : BitVec 32 := Scalar.remsi v371 v405
  let c0_i32_184 : BitVec 32 := 0#32
  let v408 : BitVec 1 := Scalar.cmpi .slt v406 c0_i32_184
  let c0_i32_185 : BitVec 32 := 0#32
  let v409 : BitVec 1 := Scalar.cmpi .slt v405 c0_i32_185
  let v410 : BitVec 1 := Scalar.xori v408 v409
  let c0_i32_183 : BitVec 32 := 0#32
  let v407 : BitVec 1 := Scalar.cmpi .ne v406 c0_i32_183
  let v411 : BitVec 1 := Scalar.andi v410 v407
  let v412 : BitVec 32 := Scalar.addi v406 v405
  let v413 : BitVec 32 := Scalar.select v411 v412 v406
  let c0_i32_186 : BitVec 32 := 0#32
  let v414 : BitVec 32 := Scalar.maxsi v413 c0_i32_186
  let c7_i32_187 : BitVec 32 := 7#32
  let v415 : BitVec 32 := Scalar.minsi v414 c7_i32_187
  let c1_i32_200 : BitVec 32 := 1#32
  let v504 : BitVec 32 := Scalar.subi v415 c1_i32_200
  let c1_i32_202 : BitVec 32 := 1#32
  let v507 : BitVec 32 := Scalar.subi v504 c1_i32_202
  let c1_i32_204 : BitVec 32 := 1#32
  let v510 : BitVec 32 := Scalar.subi v507 c1_i32_204
  let c0_i32_205 : BitVec 32 := 0#32
  let v511 : BitVec 1 := Scalar.cmpi .ne v510 c0_i32_205
  v511

def k0_cond12 (i : grid0.Coords) : BitVec 1 :=
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c8_i32_180 : BitVec 32 := 8#32
  let c0_i32_181 : BitVec 32 := 0#32
  let v404 : BitVec 1 := Scalar.cmpi .eq c8_i32_180 c0_i32_181
  let c1_i32_182 : BitVec 32 := 1#32
  let v405 : BitVec 32 := Scalar.select v404 c1_i32_182 c8_i32_180
  let v406 : BitVec 32 := Scalar.remsi v371 v405
  let c0_i32_184 : BitVec 32 := 0#32
  let v408 : BitVec 1 := Scalar.cmpi .slt v406 c0_i32_184
  let c0_i32_185 : BitVec 32 := 0#32
  let v409 : BitVec 1 := Scalar.cmpi .slt v405 c0_i32_185
  let v410 : BitVec 1 := Scalar.xori v408 v409
  let c0_i32_183 : BitVec 32 := 0#32
  let v407 : BitVec 1 := Scalar.cmpi .ne v406 c0_i32_183
  let v411 : BitVec 1 := Scalar.andi v410 v407
  let v412 : BitVec 32 := Scalar.addi v406 v405
  let v413 : BitVec 32 := Scalar.select v411 v412 v406
  let c0_i32_186 : BitVec 32 := 0#32
  let v414 : BitVec 32 := Scalar.maxsi v413 c0_i32_186
  let c7_i32_187 : BitVec 32 := 7#32
  let v415 : BitVec 32 := Scalar.minsi v414 c7_i32_187
  let c1_i32_200 : BitVec 32 := 1#32
  let v504 : BitVec 32 := Scalar.subi v415 c1_i32_200
  let c1_i32_202 : BitVec 32 := 1#32
  let v507 : BitVec 32 := Scalar.subi v504 c1_i32_202
  let c1_i32_204 : BitVec 32 := 1#32
  let v510 : BitVec 32 := Scalar.subi v507 c1_i32_204
  let c1_i32_206 : BitVec 32 := 1#32
  let v513 : BitVec 32 := Scalar.subi v510 c1_i32_206
  let c0_i32_207 : BitVec 32 := 0#32
  let v514 : BitVec 1 := Scalar.cmpi .ne v513 c0_i32_207
  v514

def k0_cond13 (i : grid0.Coords) : BitVec 1 :=
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c8_i32_180 : BitVec 32 := 8#32
  let c0_i32_181 : BitVec 32 := 0#32
  let v404 : BitVec 1 := Scalar.cmpi .eq c8_i32_180 c0_i32_181
  let c1_i32_182 : BitVec 32 := 1#32
  let v405 : BitVec 32 := Scalar.select v404 c1_i32_182 c8_i32_180
  let v406 : BitVec 32 := Scalar.remsi v371 v405
  let c0_i32_184 : BitVec 32 := 0#32
  let v408 : BitVec 1 := Scalar.cmpi .slt v406 c0_i32_184
  let c0_i32_185 : BitVec 32 := 0#32
  let v409 : BitVec 1 := Scalar.cmpi .slt v405 c0_i32_185
  let v410 : BitVec 1 := Scalar.xori v408 v409
  let c0_i32_183 : BitVec 32 := 0#32
  let v407 : BitVec 1 := Scalar.cmpi .ne v406 c0_i32_183
  let v411 : BitVec 1 := Scalar.andi v410 v407
  let v412 : BitVec 32 := Scalar.addi v406 v405
  let v413 : BitVec 32 := Scalar.select v411 v412 v406
  let c0_i32_186 : BitVec 32 := 0#32
  let v414 : BitVec 32 := Scalar.maxsi v413 c0_i32_186
  let c7_i32_187 : BitVec 32 := 7#32
  let v415 : BitVec 32 := Scalar.minsi v414 c7_i32_187
  let c1_i32_200 : BitVec 32 := 1#32
  let v504 : BitVec 32 := Scalar.subi v415 c1_i32_200
  let c1_i32_202 : BitVec 32 := 1#32
  let v507 : BitVec 32 := Scalar.subi v504 c1_i32_202
  let c1_i32_204 : BitVec 32 := 1#32
  let v510 : BitVec 32 := Scalar.subi v507 c1_i32_204
  let c1_i32_206 : BitVec 32 := 1#32
  let v513 : BitVec 32 := Scalar.subi v510 c1_i32_206
  let c1_i32_208 : BitVec 32 := 1#32
  let v516 : BitVec 32 := Scalar.subi v513 c1_i32_208
  let c0_i32_209 : BitVec 32 := 0#32
  let v517 : BitVec 1 := Scalar.cmpi .ne v516 c0_i32_209
  v517

def k0_cond14 (i : grid0.Coords) : BitVec 1 :=
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c8_i32_180 : BitVec 32 := 8#32
  let c0_i32_181 : BitVec 32 := 0#32
  let v404 : BitVec 1 := Scalar.cmpi .eq c8_i32_180 c0_i32_181
  let c1_i32_182 : BitVec 32 := 1#32
  let v405 : BitVec 32 := Scalar.select v404 c1_i32_182 c8_i32_180
  let v406 : BitVec 32 := Scalar.remsi v371 v405
  let c0_i32_184 : BitVec 32 := 0#32
  let v408 : BitVec 1 := Scalar.cmpi .slt v406 c0_i32_184
  let c0_i32_185 : BitVec 32 := 0#32
  let v409 : BitVec 1 := Scalar.cmpi .slt v405 c0_i32_185
  let v410 : BitVec 1 := Scalar.xori v408 v409
  let c0_i32_183 : BitVec 32 := 0#32
  let v407 : BitVec 1 := Scalar.cmpi .ne v406 c0_i32_183
  let v411 : BitVec 1 := Scalar.andi v410 v407
  let v412 : BitVec 32 := Scalar.addi v406 v405
  let v413 : BitVec 32 := Scalar.select v411 v412 v406
  let c0_i32_186 : BitVec 32 := 0#32
  let v414 : BitVec 32 := Scalar.maxsi v413 c0_i32_186
  let c7_i32_187 : BitVec 32 := 7#32
  let v415 : BitVec 32 := Scalar.minsi v414 c7_i32_187
  let c1_i32_200 : BitVec 32 := 1#32
  let v504 : BitVec 32 := Scalar.subi v415 c1_i32_200
  let c1_i32_202 : BitVec 32 := 1#32
  let v507 : BitVec 32 := Scalar.subi v504 c1_i32_202
  let c1_i32_204 : BitVec 32 := 1#32
  let v510 : BitVec 32 := Scalar.subi v507 c1_i32_204
  let c1_i32_206 : BitVec 32 := 1#32
  let v513 : BitVec 32 := Scalar.subi v510 c1_i32_206
  let c1_i32_208 : BitVec 32 := 1#32
  let v516 : BitVec 32 := Scalar.subi v513 c1_i32_208
  let c1_i32_210 : BitVec 32 := 1#32
  let v519 : BitVec 32 := Scalar.subi v516 c1_i32_210
  let c0_i32_211 : BitVec 32 := 0#32
  let v520 : BitVec 1 := Scalar.cmpi .ne v519 c0_i32_211
  v520

def k0_mult53 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c0_i32_212 : BitVec 32 := 0#32
  let v522 : BitVec 32 := Scalar.addi v403 c0_i32_212
  let c1_i32_213 : BitVec 32 := 1#32
  let v523 : BitVec 32 := Scalar.addi v522 c1_i32_213
  let c512_i32 : BitVec 32 := 512#32
  let v524 : BitVec 32 := Scalar.muli v523 c512_i32
  v524
def k0_off9 (i : grid0.Coords) (c0_i32_212 : BitVec 32) : Fin 3 → Nat :=
  let c0_214 : Index := 0#32
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let v522 : BitVec 32 := Scalar.addi v403 c0_i32_212
  let c1_i32_213 : BitVec 32 := 1#32
  let v523 : BitVec 32 := Scalar.addi v522 c1_i32_213
  let c512_i32 : BitVec 32 := 512#32
  let v524 : BitVec 32 := Scalar.muli v523 c512_i32
  let v525 : BitVec 32 := v524
  let v526 : Index := Scalar.indexCast v525
  let c0_215 : Index := 0#32
  ![0, v526.toNat, 0]
def k0_mult54 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c0_i32_222 : BitVec 32 := 0#32
  let v537 : BitVec 32 := Scalar.addi v403 c0_i32_222
  let c512_i32_223 : BitVec 32 := 512#32
  let v538 : BitVec 32 := Scalar.muli v537 c512_i32_223
  v538
def k0_off10 (i : grid0.Coords) (c0_i32_222 : BitVec 32) : Fin 3 → Nat :=
  let c0_224 : Index := 0#32
  let c0_225 : Index := 0#32
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let v537 : BitVec 32 := Scalar.addi v403 c0_i32_222
  let c512_i32_223 : BitVec 32 := 512#32
  let v538 : BitVec 32 := Scalar.muli v537 c512_i32_223
  let v539 : BitVec 32 := v538
  let v540 : Index := Scalar.indexCast v539
  ![0, 0, v540.toNat]
def k0_mult55 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c0_i32_222 : BitVec 32 := 0#32
  let v537 : BitVec 32 := Scalar.addi v403 c0_i32_222
  let c8_i32_226 : BitVec 32 := 8#32
  let v543 : BitVec 32 := Scalar.muli v537 c8_i32_226
  v543
def k0_off11 (i : grid0.Coords) (c0_i32_222 : BitVec 32) : Fin 2 → Nat :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let v537 : BitVec 32 := Scalar.addi v403 c0_i32_222
  let c8_i32_226 : BitVec 32 := 8#32
  let v543 : BitVec 32 := Scalar.muli v537 c8_i32_226
  let v544 : BitVec 32 := v543
  let v545 : Index := Scalar.indexCast v544
  let c0_227 : Index := 0#32
  ![v545.toNat, 0]
def k0_mult56 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c1_i32_236 : BitVec 32 := 1#32
  let v585 : BitVec 32 := Scalar.addi v403 c1_i32_236
  let c1_i32_237 : BitVec 32 := 1#32
  let v586 : BitVec 32 := Scalar.addi v585 c1_i32_237
  let c512_i32_238 : BitVec 32 := 512#32
  let v587 : BitVec 32 := Scalar.muli v586 c512_i32_238
  v587
def k0_mult57 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c1_i32_247 : BitVec 32 := 1#32
  let v600 : BitVec 32 := Scalar.addi v403 c1_i32_247
  let c512_i32_248 : BitVec 32 := 512#32
  let v601 : BitVec 32 := Scalar.muli v600 c512_i32_248
  v601
def k0_mult58 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c1_i32_247 : BitVec 32 := 1#32
  let v600 : BitVec 32 := Scalar.addi v403 c1_i32_247
  let c8_i32_251 : BitVec 32 := 8#32
  let v606 : BitVec 32 := Scalar.muli v600 c8_i32_251
  v606
def k0_mult59 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c2_i32_261 : BitVec 32 := 2#32
  let v648 : BitVec 32 := Scalar.addi v403 c2_i32_261
  let c1_i32_262 : BitVec 32 := 1#32
  let v649 : BitVec 32 := Scalar.addi v648 c1_i32_262
  let c512_i32_263 : BitVec 32 := 512#32
  let v650 : BitVec 32 := Scalar.muli v649 c512_i32_263
  v650
def k0_mult60 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c2_i32_272 : BitVec 32 := 2#32
  let v663 : BitVec 32 := Scalar.addi v403 c2_i32_272
  let c512_i32_273 : BitVec 32 := 512#32
  let v664 : BitVec 32 := Scalar.muli v663 c512_i32_273
  v664
def k0_mult61 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c2_i32_272 : BitVec 32 := 2#32
  let v663 : BitVec 32 := Scalar.addi v403 c2_i32_272
  let c8_i32_276 : BitVec 32 := 8#32
  let v669 : BitVec 32 := Scalar.muli v663 c8_i32_276
  v669
def k0_mult62 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c3_i32 : BitVec 32 := 3#32
  let v711 : BitVec 32 := Scalar.addi v403 c3_i32
  let c1_i32_286 : BitVec 32 := 1#32
  let v712 : BitVec 32 := Scalar.addi v711 c1_i32_286
  let c512_i32_287 : BitVec 32 := 512#32
  let v713 : BitVec 32 := Scalar.muli v712 c512_i32_287
  v713
def k0_mult63 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c3_i32_296 : BitVec 32 := 3#32
  let v726 : BitVec 32 := Scalar.addi v403 c3_i32_296
  let c512_i32_297 : BitVec 32 := 512#32
  let v727 : BitVec 32 := Scalar.muli v726 c512_i32_297
  v727
def k0_mult64 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c3_i32_296 : BitVec 32 := 3#32
  let v726 : BitVec 32 := Scalar.addi v403 c3_i32_296
  let c8_i32_300 : BitVec 32 := 8#32
  let v732 : BitVec 32 := Scalar.muli v726 c8_i32_300
  v732
def k0_mult65 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c4_i32 : BitVec 32 := 4#32
  let v774 : BitVec 32 := Scalar.addi v403 c4_i32
  let c1_i32_310 : BitVec 32 := 1#32
  let v775 : BitVec 32 := Scalar.addi v774 c1_i32_310
  let c512_i32_311 : BitVec 32 := 512#32
  let v776 : BitVec 32 := Scalar.muli v775 c512_i32_311
  v776
def k0_mult66 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c4_i32_320 : BitVec 32 := 4#32
  let v789 : BitVec 32 := Scalar.addi v403 c4_i32_320
  let c512_i32_321 : BitVec 32 := 512#32
  let v790 : BitVec 32 := Scalar.muli v789 c512_i32_321
  v790
def k0_mult67 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c4_i32_320 : BitVec 32 := 4#32
  let v789 : BitVec 32 := Scalar.addi v403 c4_i32_320
  let c8_i32_324 : BitVec 32 := 8#32
  let v795 : BitVec 32 := Scalar.muli v789 c8_i32_324
  v795
def k0_mult68 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c5_i32 : BitVec 32 := 5#32
  let v837 : BitVec 32 := Scalar.addi v403 c5_i32
  let c1_i32_334 : BitVec 32 := 1#32
  let v838 : BitVec 32 := Scalar.addi v837 c1_i32_334
  let c512_i32_335 : BitVec 32 := 512#32
  let v839 : BitVec 32 := Scalar.muli v838 c512_i32_335
  v839
def k0_mult69 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c5_i32_344 : BitVec 32 := 5#32
  let v852 : BitVec 32 := Scalar.addi v403 c5_i32_344
  let c512_i32_345 : BitVec 32 := 512#32
  let v853 : BitVec 32 := Scalar.muli v852 c512_i32_345
  v853
def k0_mult70 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c5_i32_344 : BitVec 32 := 5#32
  let v852 : BitVec 32 := Scalar.addi v403 c5_i32_344
  let c8_i32_348 : BitVec 32 := 8#32
  let v858 : BitVec 32 := Scalar.muli v852 c8_i32_348
  v858
def k0_mult71 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c6_i32 : BitVec 32 := 6#32
  let v900 : BitVec 32 := Scalar.addi v403 c6_i32
  let c1_i32_358 : BitVec 32 := 1#32
  let v901 : BitVec 32 := Scalar.addi v900 c1_i32_358
  let c512_i32_359 : BitVec 32 := 512#32
  let v902 : BitVec 32 := Scalar.muli v901 c512_i32_359
  v902
def k0_mult72 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c6_i32_368 : BitVec 32 := 6#32
  let v915 : BitVec 32 := Scalar.addi v403 c6_i32_368
  let c512_i32_369 : BitVec 32 := 512#32
  let v916 : BitVec 32 := Scalar.muli v915 c512_i32_369
  v916
def k0_mult73 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c6_i32_368 : BitVec 32 := 6#32
  let v915 : BitVec 32 := Scalar.addi v403 c6_i32_368
  let c8_i32_372 : BitVec 32 := 8#32
  let v921 : BitVec 32 := Scalar.muli v915 c8_i32_372
  v921
def k0_mult74 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c7_i32_382 : BitVec 32 := 7#32
  let v963 : BitVec 32 := Scalar.addi v403 c7_i32_382
  let c512_i32_383 : BitVec 32 := 512#32
  let v964 : BitVec 32 := Scalar.muli v963 c512_i32_383
  v964
def k0_mult75 (i : grid0.Coords) : BitVec 32 :=
  let c8_i32_179 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v403 : BitVec 32 := Scalar.muli c8_i32_179 v388
  let c7_i32_382 : BitVec 32 := 7#32
  let v963 : BitVec 32 := Scalar.addi v403 c7_i32_382
  let c8_i32_386 : BitVec 32 := 8#32
  let v969 : BitVec 32 := Scalar.muli v963 c8_i32_386
  v969
def k0_mult76 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c0_i32_212 : BitVec 32 := 0#32
  let v522 : BitVec 32 := Scalar.addi v402 c0_i32_212
  let c1_i32_213 : BitVec 32 := 1#32
  let v523 : BitVec 32 := Scalar.addi v522 c1_i32_213
  let c512_i32 : BitVec 32 := 512#32
  let v524 : BitVec 32 := Scalar.muli v523 c512_i32
  v524
def k0_off12 (i : grid0.Coords) (c0_i32_212 : BitVec 32) : Fin 3 → Nat :=
  let c0_214 : Index := 0#32
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let v522 : BitVec 32 := Scalar.addi v402 c0_i32_212
  let c1_i32_213 : BitVec 32 := 1#32
  let v523 : BitVec 32 := Scalar.addi v522 c1_i32_213
  let c512_i32 : BitVec 32 := 512#32
  let v524 : BitVec 32 := Scalar.muli v523 c512_i32
  let v525 : BitVec 32 := v524
  let v526 : Index := Scalar.indexCast v525
  let c0_215 : Index := 0#32
  ![0, v526.toNat, 0]
def k0_mult77 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c0_i32_222 : BitVec 32 := 0#32
  let v537 : BitVec 32 := Scalar.addi v402 c0_i32_222
  let c512_i32_223 : BitVec 32 := 512#32
  let v538 : BitVec 32 := Scalar.muli v537 c512_i32_223
  v538
def k0_off13 (i : grid0.Coords) (c0_i32_222 : BitVec 32) : Fin 3 → Nat :=
  let c0_224 : Index := 0#32
  let c0_225 : Index := 0#32
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let v537 : BitVec 32 := Scalar.addi v402 c0_i32_222
  let c512_i32_223 : BitVec 32 := 512#32
  let v538 : BitVec 32 := Scalar.muli v537 c512_i32_223
  let v539 : BitVec 32 := v538
  let v540 : Index := Scalar.indexCast v539
  ![0, 0, v540.toNat]
def k0_mult78 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c0_i32_222 : BitVec 32 := 0#32
  let v537 : BitVec 32 := Scalar.addi v402 c0_i32_222
  let c8_i32_226 : BitVec 32 := 8#32
  let v543 : BitVec 32 := Scalar.muli v537 c8_i32_226
  v543
def k0_off14 (i : grid0.Coords) (c0_i32_222 : BitVec 32) : Fin 2 → Nat :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let v537 : BitVec 32 := Scalar.addi v402 c0_i32_222
  let c8_i32_226 : BitVec 32 := 8#32
  let v543 : BitVec 32 := Scalar.muli v537 c8_i32_226
  let v544 : BitVec 32 := v543
  let v545 : Index := Scalar.indexCast v544
  let c0_227 : Index := 0#32
  ![v545.toNat, 0]
def k0_mult79 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c1_i32_236 : BitVec 32 := 1#32
  let v585 : BitVec 32 := Scalar.addi v402 c1_i32_236
  let c1_i32_237 : BitVec 32 := 1#32
  let v586 : BitVec 32 := Scalar.addi v585 c1_i32_237
  let c512_i32_238 : BitVec 32 := 512#32
  let v587 : BitVec 32 := Scalar.muli v586 c512_i32_238
  v587
def k0_mult80 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c1_i32_247 : BitVec 32 := 1#32
  let v600 : BitVec 32 := Scalar.addi v402 c1_i32_247
  let c512_i32_248 : BitVec 32 := 512#32
  let v601 : BitVec 32 := Scalar.muli v600 c512_i32_248
  v601
def k0_mult81 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c1_i32_247 : BitVec 32 := 1#32
  let v600 : BitVec 32 := Scalar.addi v402 c1_i32_247
  let c8_i32_251 : BitVec 32 := 8#32
  let v606 : BitVec 32 := Scalar.muli v600 c8_i32_251
  v606
def k0_mult82 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c2_i32_261 : BitVec 32 := 2#32
  let v648 : BitVec 32 := Scalar.addi v402 c2_i32_261
  let c1_i32_262 : BitVec 32 := 1#32
  let v649 : BitVec 32 := Scalar.addi v648 c1_i32_262
  let c512_i32_263 : BitVec 32 := 512#32
  let v650 : BitVec 32 := Scalar.muli v649 c512_i32_263
  v650
def k0_mult83 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c2_i32_272 : BitVec 32 := 2#32
  let v663 : BitVec 32 := Scalar.addi v402 c2_i32_272
  let c512_i32_273 : BitVec 32 := 512#32
  let v664 : BitVec 32 := Scalar.muli v663 c512_i32_273
  v664
def k0_mult84 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c2_i32_272 : BitVec 32 := 2#32
  let v663 : BitVec 32 := Scalar.addi v402 c2_i32_272
  let c8_i32_276 : BitVec 32 := 8#32
  let v669 : BitVec 32 := Scalar.muli v663 c8_i32_276
  v669
def k0_mult85 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c3_i32 : BitVec 32 := 3#32
  let v711 : BitVec 32 := Scalar.addi v402 c3_i32
  let c1_i32_286 : BitVec 32 := 1#32
  let v712 : BitVec 32 := Scalar.addi v711 c1_i32_286
  let c512_i32_287 : BitVec 32 := 512#32
  let v713 : BitVec 32 := Scalar.muli v712 c512_i32_287
  v713
def k0_mult86 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c3_i32_296 : BitVec 32 := 3#32
  let v726 : BitVec 32 := Scalar.addi v402 c3_i32_296
  let c512_i32_297 : BitVec 32 := 512#32
  let v727 : BitVec 32 := Scalar.muli v726 c512_i32_297
  v727
def k0_mult87 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c3_i32_296 : BitVec 32 := 3#32
  let v726 : BitVec 32 := Scalar.addi v402 c3_i32_296
  let c8_i32_300 : BitVec 32 := 8#32
  let v732 : BitVec 32 := Scalar.muli v726 c8_i32_300
  v732
def k0_mult88 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c4_i32 : BitVec 32 := 4#32
  let v774 : BitVec 32 := Scalar.addi v402 c4_i32
  let c1_i32_310 : BitVec 32 := 1#32
  let v775 : BitVec 32 := Scalar.addi v774 c1_i32_310
  let c512_i32_311 : BitVec 32 := 512#32
  let v776 : BitVec 32 := Scalar.muli v775 c512_i32_311
  v776
def k0_mult89 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c4_i32_320 : BitVec 32 := 4#32
  let v789 : BitVec 32 := Scalar.addi v402 c4_i32_320
  let c512_i32_321 : BitVec 32 := 512#32
  let v790 : BitVec 32 := Scalar.muli v789 c512_i32_321
  v790
def k0_mult90 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c4_i32_320 : BitVec 32 := 4#32
  let v789 : BitVec 32 := Scalar.addi v402 c4_i32_320
  let c8_i32_324 : BitVec 32 := 8#32
  let v795 : BitVec 32 := Scalar.muli v789 c8_i32_324
  v795
def k0_mult91 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c5_i32 : BitVec 32 := 5#32
  let v837 : BitVec 32 := Scalar.addi v402 c5_i32
  let c1_i32_334 : BitVec 32 := 1#32
  let v838 : BitVec 32 := Scalar.addi v837 c1_i32_334
  let c512_i32_335 : BitVec 32 := 512#32
  let v839 : BitVec 32 := Scalar.muli v838 c512_i32_335
  v839
def k0_mult92 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c5_i32_344 : BitVec 32 := 5#32
  let v852 : BitVec 32 := Scalar.addi v402 c5_i32_344
  let c512_i32_345 : BitVec 32 := 512#32
  let v853 : BitVec 32 := Scalar.muli v852 c512_i32_345
  v853
def k0_mult93 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c5_i32_344 : BitVec 32 := 5#32
  let v852 : BitVec 32 := Scalar.addi v402 c5_i32_344
  let c8_i32_348 : BitVec 32 := 8#32
  let v858 : BitVec 32 := Scalar.muli v852 c8_i32_348
  v858
def k0_mult94 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c6_i32 : BitVec 32 := 6#32
  let v900 : BitVec 32 := Scalar.addi v402 c6_i32
  let c512_i32_358 : BitVec 32 := 512#32
  let v901 : BitVec 32 := Scalar.muli v900 c512_i32_358
  v901
def k0_mult95 (i : grid0.Coords) : BitVec 32 :=
  let c8_i32_178 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v402 : BitVec 32 := Scalar.muli c8_i32_178 v388
  let c6_i32 : BitVec 32 := 6#32
  let v900 : BitVec 32 := Scalar.addi v402 c6_i32
  let c8_i32_361 : BitVec 32 := 8#32
  let v906 : BitVec 32 := Scalar.muli v900 c8_i32_361
  v906
def k0_mult96 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c0_i32_210 : BitVec 32 := 0#32
  let v519 : BitVec 32 := Scalar.addi v401 c0_i32_210
  let c1_i32_211 : BitVec 32 := 1#32
  let v520 : BitVec 32 := Scalar.addi v519 c1_i32_211
  let c512_i32 : BitVec 32 := 512#32
  let v521 : BitVec 32 := Scalar.muli v520 c512_i32
  v521
def k0_off15 (i : grid0.Coords) (c0_i32_210 : BitVec 32) : Fin 3 → Nat :=
  let c0_212 : Index := 0#32
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let v519 : BitVec 32 := Scalar.addi v401 c0_i32_210
  let c1_i32_211 : BitVec 32 := 1#32
  let v520 : BitVec 32 := Scalar.addi v519 c1_i32_211
  let c512_i32 : BitVec 32 := 512#32
  let v521 : BitVec 32 := Scalar.muli v520 c512_i32
  let v522 : BitVec 32 := v521
  let v523 : Index := Scalar.indexCast v522
  let c0_213 : Index := 0#32
  ![0, v523.toNat, 0]
def k0_mult97 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c0_i32_220 : BitVec 32 := 0#32
  let v534 : BitVec 32 := Scalar.addi v401 c0_i32_220
  let c512_i32_221 : BitVec 32 := 512#32
  let v535 : BitVec 32 := Scalar.muli v534 c512_i32_221
  v535
def k0_off16 (i : grid0.Coords) (c0_i32_220 : BitVec 32) : Fin 3 → Nat :=
  let c0_222 : Index := 0#32
  let c0_223 : Index := 0#32
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let v534 : BitVec 32 := Scalar.addi v401 c0_i32_220
  let c512_i32_221 : BitVec 32 := 512#32
  let v535 : BitVec 32 := Scalar.muli v534 c512_i32_221
  let v536 : BitVec 32 := v535
  let v537 : Index := Scalar.indexCast v536
  ![0, 0, v537.toNat]
def k0_mult98 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c0_i32_220 : BitVec 32 := 0#32
  let v534 : BitVec 32 := Scalar.addi v401 c0_i32_220
  let c8_i32_224 : BitVec 32 := 8#32
  let v540 : BitVec 32 := Scalar.muli v534 c8_i32_224
  v540
def k0_off17 (i : grid0.Coords) (c0_i32_220 : BitVec 32) : Fin 2 → Nat :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let v534 : BitVec 32 := Scalar.addi v401 c0_i32_220
  let c8_i32_224 : BitVec 32 := 8#32
  let v540 : BitVec 32 := Scalar.muli v534 c8_i32_224
  let v541 : BitVec 32 := v540
  let v542 : Index := Scalar.indexCast v541
  let c0_225 : Index := 0#32
  ![v542.toNat, 0]
def k0_mult99 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c1_i32_234 : BitVec 32 := 1#32
  let v582 : BitVec 32 := Scalar.addi v401 c1_i32_234
  let c1_i32_235 : BitVec 32 := 1#32
  let v583 : BitVec 32 := Scalar.addi v582 c1_i32_235
  let c512_i32_236 : BitVec 32 := 512#32
  let v584 : BitVec 32 := Scalar.muli v583 c512_i32_236
  v584
def k0_mult100 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c1_i32_245 : BitVec 32 := 1#32
  let v597 : BitVec 32 := Scalar.addi v401 c1_i32_245
  let c512_i32_246 : BitVec 32 := 512#32
  let v598 : BitVec 32 := Scalar.muli v597 c512_i32_246
  v598
def k0_mult101 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c1_i32_245 : BitVec 32 := 1#32
  let v597 : BitVec 32 := Scalar.addi v401 c1_i32_245
  let c8_i32_249 : BitVec 32 := 8#32
  let v603 : BitVec 32 := Scalar.muli v597 c8_i32_249
  v603
def k0_mult102 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c2_i32_259 : BitVec 32 := 2#32
  let v645 : BitVec 32 := Scalar.addi v401 c2_i32_259
  let c1_i32_260 : BitVec 32 := 1#32
  let v646 : BitVec 32 := Scalar.addi v645 c1_i32_260
  let c512_i32_261 : BitVec 32 := 512#32
  let v647 : BitVec 32 := Scalar.muli v646 c512_i32_261
  v647
def k0_mult103 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c2_i32_270 : BitVec 32 := 2#32
  let v660 : BitVec 32 := Scalar.addi v401 c2_i32_270
  let c512_i32_271 : BitVec 32 := 512#32
  let v661 : BitVec 32 := Scalar.muli v660 c512_i32_271
  v661
def k0_mult104 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c2_i32_270 : BitVec 32 := 2#32
  let v660 : BitVec 32 := Scalar.addi v401 c2_i32_270
  let c8_i32_274 : BitVec 32 := 8#32
  let v666 : BitVec 32 := Scalar.muli v660 c8_i32_274
  v666
def k0_mult105 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c3_i32 : BitVec 32 := 3#32
  let v708 : BitVec 32 := Scalar.addi v401 c3_i32
  let c1_i32_284 : BitVec 32 := 1#32
  let v709 : BitVec 32 := Scalar.addi v708 c1_i32_284
  let c512_i32_285 : BitVec 32 := 512#32
  let v710 : BitVec 32 := Scalar.muli v709 c512_i32_285
  v710
def k0_mult106 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c3_i32_294 : BitVec 32 := 3#32
  let v723 : BitVec 32 := Scalar.addi v401 c3_i32_294
  let c512_i32_295 : BitVec 32 := 512#32
  let v724 : BitVec 32 := Scalar.muli v723 c512_i32_295
  v724
def k0_mult107 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c3_i32_294 : BitVec 32 := 3#32
  let v723 : BitVec 32 := Scalar.addi v401 c3_i32_294
  let c8_i32_298 : BitVec 32 := 8#32
  let v729 : BitVec 32 := Scalar.muli v723 c8_i32_298
  v729
def k0_mult108 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c4_i32 : BitVec 32 := 4#32
  let v771 : BitVec 32 := Scalar.addi v401 c4_i32
  let c1_i32_308 : BitVec 32 := 1#32
  let v772 : BitVec 32 := Scalar.addi v771 c1_i32_308
  let c512_i32_309 : BitVec 32 := 512#32
  let v773 : BitVec 32 := Scalar.muli v772 c512_i32_309
  v773
def k0_mult109 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c4_i32_318 : BitVec 32 := 4#32
  let v786 : BitVec 32 := Scalar.addi v401 c4_i32_318
  let c512_i32_319 : BitVec 32 := 512#32
  let v787 : BitVec 32 := Scalar.muli v786 c512_i32_319
  v787
def k0_mult110 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c4_i32_318 : BitVec 32 := 4#32
  let v786 : BitVec 32 := Scalar.addi v401 c4_i32_318
  let c8_i32_322 : BitVec 32 := 8#32
  let v792 : BitVec 32 := Scalar.muli v786 c8_i32_322
  v792
def k0_mult111 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c5_i32 : BitVec 32 := 5#32
  let v834 : BitVec 32 := Scalar.addi v401 c5_i32
  let c512_i32_332 : BitVec 32 := 512#32
  let v835 : BitVec 32 := Scalar.muli v834 c512_i32_332
  v835
def k0_mult112 (i : grid0.Coords) : BitVec 32 :=
  let c8_i32_177 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v401 : BitVec 32 := Scalar.muli c8_i32_177 v388
  let c5_i32 : BitVec 32 := 5#32
  let v834 : BitVec 32 := Scalar.addi v401 c5_i32
  let c8_i32_335 : BitVec 32 := 8#32
  let v840 : BitVec 32 := Scalar.muli v834 c8_i32_335
  v840
def k0_mult113 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c0_i32_208 : BitVec 32 := 0#32
  let v516 : BitVec 32 := Scalar.addi v400 c0_i32_208
  let c1_i32_209 : BitVec 32 := 1#32
  let v517 : BitVec 32 := Scalar.addi v516 c1_i32_209
  let c512_i32 : BitVec 32 := 512#32
  let v518 : BitVec 32 := Scalar.muli v517 c512_i32
  v518
def k0_off18 (i : grid0.Coords) (c0_i32_208 : BitVec 32) : Fin 3 → Nat :=
  let c0_210 : Index := 0#32
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let v516 : BitVec 32 := Scalar.addi v400 c0_i32_208
  let c1_i32_209 : BitVec 32 := 1#32
  let v517 : BitVec 32 := Scalar.addi v516 c1_i32_209
  let c512_i32 : BitVec 32 := 512#32
  let v518 : BitVec 32 := Scalar.muli v517 c512_i32
  let v519 : BitVec 32 := v518
  let v520 : Index := Scalar.indexCast v519
  let c0_211 : Index := 0#32
  ![0, v520.toNat, 0]
def k0_mult114 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c0_i32_218 : BitVec 32 := 0#32
  let v531 : BitVec 32 := Scalar.addi v400 c0_i32_218
  let c512_i32_219 : BitVec 32 := 512#32
  let v532 : BitVec 32 := Scalar.muli v531 c512_i32_219
  v532
def k0_off19 (i : grid0.Coords) (c0_i32_218 : BitVec 32) : Fin 3 → Nat :=
  let c0_220 : Index := 0#32
  let c0_221 : Index := 0#32
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let v531 : BitVec 32 := Scalar.addi v400 c0_i32_218
  let c512_i32_219 : BitVec 32 := 512#32
  let v532 : BitVec 32 := Scalar.muli v531 c512_i32_219
  let v533 : BitVec 32 := v532
  let v534 : Index := Scalar.indexCast v533
  ![0, 0, v534.toNat]
def k0_mult115 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c0_i32_218 : BitVec 32 := 0#32
  let v531 : BitVec 32 := Scalar.addi v400 c0_i32_218
  let c8_i32_222 : BitVec 32 := 8#32
  let v537 : BitVec 32 := Scalar.muli v531 c8_i32_222
  v537
def k0_off20 (i : grid0.Coords) (c0_i32_218 : BitVec 32) : Fin 2 → Nat :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let v531 : BitVec 32 := Scalar.addi v400 c0_i32_218
  let c8_i32_222 : BitVec 32 := 8#32
  let v537 : BitVec 32 := Scalar.muli v531 c8_i32_222
  let v538 : BitVec 32 := v537
  let v539 : Index := Scalar.indexCast v538
  let c0_223 : Index := 0#32
  ![v539.toNat, 0]
def k0_mult116 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c1_i32_232 : BitVec 32 := 1#32
  let v579 : BitVec 32 := Scalar.addi v400 c1_i32_232
  let c1_i32_233 : BitVec 32 := 1#32
  let v580 : BitVec 32 := Scalar.addi v579 c1_i32_233
  let c512_i32_234 : BitVec 32 := 512#32
  let v581 : BitVec 32 := Scalar.muli v580 c512_i32_234
  v581
def k0_mult117 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c1_i32_243 : BitVec 32 := 1#32
  let v594 : BitVec 32 := Scalar.addi v400 c1_i32_243
  let c512_i32_244 : BitVec 32 := 512#32
  let v595 : BitVec 32 := Scalar.muli v594 c512_i32_244
  v595
def k0_mult118 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c1_i32_243 : BitVec 32 := 1#32
  let v594 : BitVec 32 := Scalar.addi v400 c1_i32_243
  let c8_i32_247 : BitVec 32 := 8#32
  let v600 : BitVec 32 := Scalar.muli v594 c8_i32_247
  v600
def k0_mult119 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c2_i32_257 : BitVec 32 := 2#32
  let v642 : BitVec 32 := Scalar.addi v400 c2_i32_257
  let c1_i32_258 : BitVec 32 := 1#32
  let v643 : BitVec 32 := Scalar.addi v642 c1_i32_258
  let c512_i32_259 : BitVec 32 := 512#32
  let v644 : BitVec 32 := Scalar.muli v643 c512_i32_259
  v644
def k0_mult120 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c2_i32_268 : BitVec 32 := 2#32
  let v657 : BitVec 32 := Scalar.addi v400 c2_i32_268
  let c512_i32_269 : BitVec 32 := 512#32
  let v658 : BitVec 32 := Scalar.muli v657 c512_i32_269
  v658
def k0_mult121 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c2_i32_268 : BitVec 32 := 2#32
  let v657 : BitVec 32 := Scalar.addi v400 c2_i32_268
  let c8_i32_272 : BitVec 32 := 8#32
  let v663 : BitVec 32 := Scalar.muli v657 c8_i32_272
  v663
def k0_mult122 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c3_i32 : BitVec 32 := 3#32
  let v705 : BitVec 32 := Scalar.addi v400 c3_i32
  let c1_i32_282 : BitVec 32 := 1#32
  let v706 : BitVec 32 := Scalar.addi v705 c1_i32_282
  let c512_i32_283 : BitVec 32 := 512#32
  let v707 : BitVec 32 := Scalar.muli v706 c512_i32_283
  v707
def k0_mult123 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c3_i32_292 : BitVec 32 := 3#32
  let v720 : BitVec 32 := Scalar.addi v400 c3_i32_292
  let c512_i32_293 : BitVec 32 := 512#32
  let v721 : BitVec 32 := Scalar.muli v720 c512_i32_293
  v721
def k0_mult124 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c3_i32_292 : BitVec 32 := 3#32
  let v720 : BitVec 32 := Scalar.addi v400 c3_i32_292
  let c8_i32_296 : BitVec 32 := 8#32
  let v726 : BitVec 32 := Scalar.muli v720 c8_i32_296
  v726
def k0_mult125 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c4_i32 : BitVec 32 := 4#32
  let v768 : BitVec 32 := Scalar.addi v400 c4_i32
  let c512_i32_306 : BitVec 32 := 512#32
  let v769 : BitVec 32 := Scalar.muli v768 c512_i32_306
  v769
def k0_mult126 (i : grid0.Coords) : BitVec 32 :=
  let c8_i32_176 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v400 : BitVec 32 := Scalar.muli c8_i32_176 v388
  let c4_i32 : BitVec 32 := 4#32
  let v768 : BitVec 32 := Scalar.addi v400 c4_i32
  let c8_i32_309 : BitVec 32 := 8#32
  let v774 : BitVec 32 := Scalar.muli v768 c8_i32_309
  v774
def k0_mult127 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c0_i32_206 : BitVec 32 := 0#32
  let v513 : BitVec 32 := Scalar.addi v399 c0_i32_206
  let c1_i32_207 : BitVec 32 := 1#32
  let v514 : BitVec 32 := Scalar.addi v513 c1_i32_207
  let c512_i32 : BitVec 32 := 512#32
  let v515 : BitVec 32 := Scalar.muli v514 c512_i32
  v515
def k0_off21 (i : grid0.Coords) (c0_i32_206 : BitVec 32) : Fin 3 → Nat :=
  let c0_208 : Index := 0#32
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let v513 : BitVec 32 := Scalar.addi v399 c0_i32_206
  let c1_i32_207 : BitVec 32 := 1#32
  let v514 : BitVec 32 := Scalar.addi v513 c1_i32_207
  let c512_i32 : BitVec 32 := 512#32
  let v515 : BitVec 32 := Scalar.muli v514 c512_i32
  let v516 : BitVec 32 := v515
  let v517 : Index := Scalar.indexCast v516
  let c0_209 : Index := 0#32
  ![0, v517.toNat, 0]
def k0_mult128 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c0_i32_216 : BitVec 32 := 0#32
  let v528 : BitVec 32 := Scalar.addi v399 c0_i32_216
  let c512_i32_217 : BitVec 32 := 512#32
  let v529 : BitVec 32 := Scalar.muli v528 c512_i32_217
  v529
def k0_off22 (i : grid0.Coords) (c0_i32_216 : BitVec 32) : Fin 3 → Nat :=
  let c0_218 : Index := 0#32
  let c0_219 : Index := 0#32
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let v528 : BitVec 32 := Scalar.addi v399 c0_i32_216
  let c512_i32_217 : BitVec 32 := 512#32
  let v529 : BitVec 32 := Scalar.muli v528 c512_i32_217
  let v530 : BitVec 32 := v529
  let v531 : Index := Scalar.indexCast v530
  ![0, 0, v531.toNat]
def k0_mult129 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c0_i32_216 : BitVec 32 := 0#32
  let v528 : BitVec 32 := Scalar.addi v399 c0_i32_216
  let c8_i32_220 : BitVec 32 := 8#32
  let v534 : BitVec 32 := Scalar.muli v528 c8_i32_220
  v534
def k0_off23 (i : grid0.Coords) (c0_i32_216 : BitVec 32) : Fin 2 → Nat :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let v528 : BitVec 32 := Scalar.addi v399 c0_i32_216
  let c8_i32_220 : BitVec 32 := 8#32
  let v534 : BitVec 32 := Scalar.muli v528 c8_i32_220
  let v535 : BitVec 32 := v534
  let v536 : Index := Scalar.indexCast v535
  let c0_221 : Index := 0#32
  ![v536.toNat, 0]
def k0_mult130 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c1_i32_230 : BitVec 32 := 1#32
  let v576 : BitVec 32 := Scalar.addi v399 c1_i32_230
  let c1_i32_231 : BitVec 32 := 1#32
  let v577 : BitVec 32 := Scalar.addi v576 c1_i32_231
  let c512_i32_232 : BitVec 32 := 512#32
  let v578 : BitVec 32 := Scalar.muli v577 c512_i32_232
  v578
def k0_mult131 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c1_i32_241 : BitVec 32 := 1#32
  let v591 : BitVec 32 := Scalar.addi v399 c1_i32_241
  let c512_i32_242 : BitVec 32 := 512#32
  let v592 : BitVec 32 := Scalar.muli v591 c512_i32_242
  v592
def k0_mult132 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c1_i32_241 : BitVec 32 := 1#32
  let v591 : BitVec 32 := Scalar.addi v399 c1_i32_241
  let c8_i32_245 : BitVec 32 := 8#32
  let v597 : BitVec 32 := Scalar.muli v591 c8_i32_245
  v597
def k0_mult133 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c2_i32_255 : BitVec 32 := 2#32
  let v639 : BitVec 32 := Scalar.addi v399 c2_i32_255
  let c1_i32_256 : BitVec 32 := 1#32
  let v640 : BitVec 32 := Scalar.addi v639 c1_i32_256
  let c512_i32_257 : BitVec 32 := 512#32
  let v641 : BitVec 32 := Scalar.muli v640 c512_i32_257
  v641
def k0_mult134 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c2_i32_266 : BitVec 32 := 2#32
  let v654 : BitVec 32 := Scalar.addi v399 c2_i32_266
  let c512_i32_267 : BitVec 32 := 512#32
  let v655 : BitVec 32 := Scalar.muli v654 c512_i32_267
  v655
def k0_mult135 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c2_i32_266 : BitVec 32 := 2#32
  let v654 : BitVec 32 := Scalar.addi v399 c2_i32_266
  let c8_i32_270 : BitVec 32 := 8#32
  let v660 : BitVec 32 := Scalar.muli v654 c8_i32_270
  v660
def k0_mult136 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c3_i32 : BitVec 32 := 3#32
  let v702 : BitVec 32 := Scalar.addi v399 c3_i32
  let c512_i32_280 : BitVec 32 := 512#32
  let v703 : BitVec 32 := Scalar.muli v702 c512_i32_280
  v703
def k0_mult137 (i : grid0.Coords) : BitVec 32 :=
  let c8_i32_175 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v399 : BitVec 32 := Scalar.muli c8_i32_175 v388
  let c3_i32 : BitVec 32 := 3#32
  let v702 : BitVec 32 := Scalar.addi v399 c3_i32
  let c8_i32_283 : BitVec 32 := 8#32
  let v708 : BitVec 32 := Scalar.muli v702 c8_i32_283
  v708
def k0_mult138 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c0_i32_204 : BitVec 32 := 0#32
  let v510 : BitVec 32 := Scalar.addi v398 c0_i32_204
  let c1_i32_205 : BitVec 32 := 1#32
  let v511 : BitVec 32 := Scalar.addi v510 c1_i32_205
  let c512_i32 : BitVec 32 := 512#32
  let v512 : BitVec 32 := Scalar.muli v511 c512_i32
  v512
def k0_off24 (i : grid0.Coords) (c0_i32_204 : BitVec 32) : Fin 3 → Nat :=
  let c0_206 : Index := 0#32
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let v510 : BitVec 32 := Scalar.addi v398 c0_i32_204
  let c1_i32_205 : BitVec 32 := 1#32
  let v511 : BitVec 32 := Scalar.addi v510 c1_i32_205
  let c512_i32 : BitVec 32 := 512#32
  let v512 : BitVec 32 := Scalar.muli v511 c512_i32
  let v513 : BitVec 32 := v512
  let v514 : Index := Scalar.indexCast v513
  let c0_207 : Index := 0#32
  ![0, v514.toNat, 0]
def k0_mult139 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c0_i32_214 : BitVec 32 := 0#32
  let v525 : BitVec 32 := Scalar.addi v398 c0_i32_214
  let c512_i32_215 : BitVec 32 := 512#32
  let v526 : BitVec 32 := Scalar.muli v525 c512_i32_215
  v526
def k0_off25 (i : grid0.Coords) (c0_i32_214 : BitVec 32) : Fin 3 → Nat :=
  let c0_216 : Index := 0#32
  let c0_217 : Index := 0#32
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let v525 : BitVec 32 := Scalar.addi v398 c0_i32_214
  let c512_i32_215 : BitVec 32 := 512#32
  let v526 : BitVec 32 := Scalar.muli v525 c512_i32_215
  let v527 : BitVec 32 := v526
  let v528 : Index := Scalar.indexCast v527
  ![0, 0, v528.toNat]
def k0_mult140 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c0_i32_214 : BitVec 32 := 0#32
  let v525 : BitVec 32 := Scalar.addi v398 c0_i32_214
  let c8_i32_218 : BitVec 32 := 8#32
  let v531 : BitVec 32 := Scalar.muli v525 c8_i32_218
  v531
def k0_off26 (i : grid0.Coords) (c0_i32_214 : BitVec 32) : Fin 2 → Nat :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let v525 : BitVec 32 := Scalar.addi v398 c0_i32_214
  let c8_i32_218 : BitVec 32 := 8#32
  let v531 : BitVec 32 := Scalar.muli v525 c8_i32_218
  let v532 : BitVec 32 := v531
  let v533 : Index := Scalar.indexCast v532
  let c0_219 : Index := 0#32
  ![v533.toNat, 0]
def k0_mult141 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c1_i32_228 : BitVec 32 := 1#32
  let v573 : BitVec 32 := Scalar.addi v398 c1_i32_228
  let c1_i32_229 : BitVec 32 := 1#32
  let v574 : BitVec 32 := Scalar.addi v573 c1_i32_229
  let c512_i32_230 : BitVec 32 := 512#32
  let v575 : BitVec 32 := Scalar.muli v574 c512_i32_230
  v575
def k0_mult142 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c1_i32_239 : BitVec 32 := 1#32
  let v588 : BitVec 32 := Scalar.addi v398 c1_i32_239
  let c512_i32_240 : BitVec 32 := 512#32
  let v589 : BitVec 32 := Scalar.muli v588 c512_i32_240
  v589
def k0_mult143 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c1_i32_239 : BitVec 32 := 1#32
  let v588 : BitVec 32 := Scalar.addi v398 c1_i32_239
  let c8_i32_243 : BitVec 32 := 8#32
  let v594 : BitVec 32 := Scalar.muli v588 c8_i32_243
  v594
def k0_mult144 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c2_i32_253 : BitVec 32 := 2#32
  let v636 : BitVec 32 := Scalar.addi v398 c2_i32_253
  let c512_i32_254 : BitVec 32 := 512#32
  let v637 : BitVec 32 := Scalar.muli v636 c512_i32_254
  v637
def k0_mult145 (i : grid0.Coords) : BitVec 32 :=
  let c8_i32_174 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v398 : BitVec 32 := Scalar.muli c8_i32_174 v388
  let c2_i32_253 : BitVec 32 := 2#32
  let v636 : BitVec 32 := Scalar.addi v398 c2_i32_253
  let c8_i32_257 : BitVec 32 := 8#32
  let v642 : BitVec 32 := Scalar.muli v636 c8_i32_257
  v642
def k0_mult146 (i : grid0.Coords) : BitVec 32 :=
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let c0_i32_202 : BitVec 32 := 0#32
  let v507 : BitVec 32 := Scalar.addi v397 c0_i32_202
  let c1_i32_203 : BitVec 32 := 1#32
  let v508 : BitVec 32 := Scalar.addi v507 c1_i32_203
  let c512_i32 : BitVec 32 := 512#32
  let v509 : BitVec 32 := Scalar.muli v508 c512_i32
  v509
def k0_off27 (i : grid0.Coords) : Fin 3 → Nat :=
  let c0_204 : Index := 0#32
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let c0_i32_202 : BitVec 32 := 0#32
  let v507 : BitVec 32 := Scalar.addi v397 c0_i32_202
  let c1_i32_203 : BitVec 32 := 1#32
  let v508 : BitVec 32 := Scalar.addi v507 c1_i32_203
  let c512_i32 : BitVec 32 := 512#32
  let v509 : BitVec 32 := Scalar.muli v508 c512_i32
  let v510 : BitVec 32 := v509
  let v511 : Index := Scalar.indexCast v510
  let c0_205 : Index := 0#32
  ![0, v511.toNat, 0]
def k0_mult147 (i : grid0.Coords) : BitVec 32 :=
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let c0_i32_212 : BitVec 32 := 0#32
  let v522 : BitVec 32 := Scalar.addi v397 c0_i32_212
  let c512_i32_213 : BitVec 32 := 512#32
  let v523 : BitVec 32 := Scalar.muli v522 c512_i32_213
  v523
def k0_off28 (i : grid0.Coords) (c0_i32_212 : BitVec 32) : Fin 3 → Nat :=
  let c0_214 : Index := 0#32
  let c0_215 : Index := 0#32
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let v522 : BitVec 32 := Scalar.addi v397 c0_i32_212
  let c512_i32_213 : BitVec 32 := 512#32
  let v523 : BitVec 32 := Scalar.muli v522 c512_i32_213
  let v524 : BitVec 32 := v523
  let v525 : Index := Scalar.indexCast v524
  ![0, 0, v525.toNat]
def k0_mult148 (i : grid0.Coords) : BitVec 32 :=
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let c0_i32_212 : BitVec 32 := 0#32
  let v522 : BitVec 32 := Scalar.addi v397 c0_i32_212
  let c8_i32_216 : BitVec 32 := 8#32
  let v528 : BitVec 32 := Scalar.muli v522 c8_i32_216
  v528
def k0_off29 (i : grid0.Coords) (c0_i32_212 : BitVec 32) : Fin 2 → Nat :=
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let v522 : BitVec 32 := Scalar.addi v397 c0_i32_212
  let c8_i32_216 : BitVec 32 := 8#32
  let v528 : BitVec 32 := Scalar.muli v522 c8_i32_216
  let v529 : BitVec 32 := v528
  let v530 : Index := Scalar.indexCast v529
  let c0_217 : Index := 0#32
  ![v530.toNat, 0]
def k0_mult149 (i : grid0.Coords) : BitVec 32 :=
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let c1_i32_226 : BitVec 32 := 1#32
  let v570 : BitVec 32 := Scalar.addi v397 c1_i32_226
  let c512_i32_227 : BitVec 32 := 512#32
  let v571 : BitVec 32 := Scalar.muli v570 c512_i32_227
  v571
def k0_mult150 (i : grid0.Coords) : BitVec 32 :=
  let c8_i32_173 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v397 : BitVec 32 := Scalar.muli c8_i32_173 v388
  let c1_i32_226 : BitVec 32 := 1#32
  let v570 : BitVec 32 := Scalar.addi v397 c1_i32_226
  let c8_i32_230 : BitVec 32 := 8#32
  let v576 : BitVec 32 := Scalar.muli v570 c8_i32_230
  v576
def k0_mult151 (i : grid0.Coords) : BitVec 32 :=
  let c8_i32_172 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v396 : BitVec 32 := Scalar.muli c8_i32_172 v388
  let c0_i32_200 : BitVec 32 := 0#32
  let v504 : BitVec 32 := Scalar.addi v396 c0_i32_200
  let c512_i32 : BitVec 32 := 512#32
  let v505 : BitVec 32 := Scalar.muli v504 c512_i32
  v505
def k0_off30 (i : grid0.Coords) : Fin 3 → Nat :=
  let c0_201 : Index := 0#32
  let c0_202 : Index := 0#32
  let c8_i32_172 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v396 : BitVec 32 := Scalar.muli c8_i32_172 v388
  let c0_i32_200 : BitVec 32 := 0#32
  let v504 : BitVec 32 := Scalar.addi v396 c0_i32_200
  let c512_i32 : BitVec 32 := 512#32
  let v505 : BitVec 32 := Scalar.muli v504 c512_i32
  let v506 : BitVec 32 := v505
  let v507 : Index := Scalar.indexCast v506
  ![0, 0, v507.toNat]
def k0_mult152 (i : grid0.Coords) : BitVec 32 :=
  let c8_i32_172 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v396 : BitVec 32 := Scalar.muli c8_i32_172 v388
  let c0_i32_200 : BitVec 32 := 0#32
  let v504 : BitVec 32 := Scalar.addi v396 c0_i32_200
  let c8_i32_203 : BitVec 32 := 8#32
  let v510 : BitVec 32 := Scalar.muli v504 c8_i32_203
  v510
def k0_off31 (i : grid0.Coords) : Fin 2 → Nat :=
  let c8_i32_172 : BitVec 32 := 8#32
  let arg2 : BitVec 32 := BitVec.ofNat 32 (i 2).val
  let c0_i32_155 : BitVec 32 := 0#32
  let v356 : BitVec 1 := Scalar.cmpi .sgt arg2 c0_i32_155
  let v357 : BitVec 32 := Scalar.extui v356
  let c0_i32_156 : BitVec 32 := 0#32
  let v358 : BitVec 1 := Scalar.cmpi .slt arg2 c0_i32_156
  let v359 : BitVec 32 := Scalar.extui v358
  let v360 : BitVec 32 := Scalar.subi v357 v359
  let c2_i32_154 : BitVec 32 := 2#32
  let c0_i32_157 : BitVec 32 := 0#32
  let v361 : BitVec 1 := Scalar.cmpi .sgt c2_i32_154 c0_i32_157
  let v362 : BitVec 32 := Scalar.extui v361
  let c0_i32_158 : BitVec 32 := 0#32
  let v363 : BitVec 1 := Scalar.cmpi .slt c2_i32_154 c0_i32_158
  let v364 : BitVec 32 := Scalar.extui v363
  let v365 : BitVec 32 := Scalar.subi v362 v364
  let v366 : BitVec 1 := Scalar.cmpi .ne v360 v365
  let v367 : BitVec 32 := Scalar.remsi arg2 c2_i32_154
  let c0_i32_159 : BitVec 32 := 0#32
  let v368 : BitVec 1 := Scalar.cmpi .ne v367 c0_i32_159
  let v369 : BitVec 1 := Scalar.andi v366 v368
  let v355 : BitVec 32 := Scalar.divsi arg2 c2_i32_154
  let c1_i32_160 : BitVec 32 := 1#32
  let v370 : BitVec 32 := Scalar.subi v355 c1_i32_160
  let v371 : BitVec 32 := Scalar.select v369 v370 v355
  let c0_i32_162 : BitVec 32 := 0#32
  let v373 : BitVec 1 := Scalar.cmpi .sgt v371 c0_i32_162
  let v374 : BitVec 32 := Scalar.extui v373
  let c0_i32_163 : BitVec 32 := 0#32
  let v375 : BitVec 1 := Scalar.cmpi .slt v371 c0_i32_163
  let v376 : BitVec 32 := Scalar.extui v375
  let v377 : BitVec 32 := Scalar.subi v374 v376
  let c8_i32_161 : BitVec 32 := 8#32
  let c0_i32_164 : BitVec 32 := 0#32
  let v378 : BitVec 1 := Scalar.cmpi .sgt c8_i32_161 c0_i32_164
  let v379 : BitVec 32 := Scalar.extui v378
  let c0_i32_165 : BitVec 32 := 0#32
  let v380 : BitVec 1 := Scalar.cmpi .slt c8_i32_161 c0_i32_165
  let v381 : BitVec 32 := Scalar.extui v380
  let v382 : BitVec 32 := Scalar.subi v379 v381
  let v383 : BitVec 1 := Scalar.cmpi .ne v377 v382
  let v384 : BitVec 32 := Scalar.remsi v371 c8_i32_161
  let c0_i32_166 : BitVec 32 := 0#32
  let v385 : BitVec 1 := Scalar.cmpi .ne v384 c0_i32_166
  let v386 : BitVec 1 := Scalar.andi v383 v385
  let v372 : BitVec 32 := Scalar.divsi v371 c8_i32_161
  let c1_i32_167 : BitVec 32 := 1#32
  let v387 : BitVec 32 := Scalar.subi v372 c1_i32_167
  let v388 : BitVec 32 := Scalar.select v386 v387 v372
  let v396 : BitVec 32 := Scalar.muli c8_i32_172 v388
  let c0_i32_200 : BitVec 32 := 0#32
  let v504 : BitVec 32 := Scalar.addi v396 c0_i32_200
  let c8_i32_203 : BitVec 32 := 8#32
  let v510 : BitVec 32 := Scalar.muli v504 c8_i32_203
  let v511 : BitVec 32 := v510
  let v512 : Index := Scalar.indexCast v511
  let c0_204 : Index := 0#32
  ![v512.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x80x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x80x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Kernel2.lean ====
abbrev S4x4096x1024 : Shape := ⟨3, ![4, 4096, 1024]⟩
abbrev S4x4096x512 : Shape := ⟨3, ![4, 4096, 512]⟩
abbrev S8x6144 : Shape := ⟨2, ![8, 6144]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x6144 : Shape := ⟨2, ![4, 6144]⟩
abbrev S24x1x1024 : Shape := ⟨3, ![24, 1, 1024]⟩
abbrev S1024x1024 : Shape := ⟨2, ![1024, 1024]⟩
abbrev S4x6x1x1024 : Shape := ⟨4, ![4, 6, 1, 1024]⟩
abbrev S512x1024 : Shape := ⟨2, ![512, 1024]⟩
abbrev S1024x2816 : Shape := ⟨2, ![1024, 2816]⟩
abbrev S2816x1024 : Shape := ⟨2, ![2816, 1024]⟩
abbrev S1024 : Shape := ⟨1, ![1024]⟩
abbrev S1x1024x512 : Shape := ⟨3, ![1, 1024, 512]⟩
abbrev S1x6x1x1024 : Shape := ⟨4, ![1, 6, 1, 1024]⟩
abbrev S1x1x1x1024 : Shape := ⟨4, ![1, 1, 1, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S1024x512 : Shape := ⟨2, ![1024, 512]⟩
abbrev S256x2816 : Shape := ⟨2, ![256, 2816]⟩

abbrev nBuf : Space → Nat
  | .hbm => 34
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S8x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024, .f32⟩
  | .hbm, ⟨12, _⟩ => ⟨S4x6144, .f32⟩
  | .hbm, ⟨13, _⟩ => ⟨S24x1x1024, .f32⟩
  | .hbm, ⟨14, _⟩ => ⟨S1024x1024, .f32⟩
  | .hbm, ⟨15, _⟩ => ⟨S1024x1024, .bf16⟩
  | .hbm, ⟨16, _⟩ => ⟨S4x6x1x1024, .f32⟩
  | .hbm, ⟨17, _⟩ => ⟨S512x1024, .bf16⟩
  | .hbm, ⟨18, _⟩ => ⟨S512x1024, .bf16⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .f32⟩
  | .hbm, ⟨24, _⟩ => ⟨S2816x1024, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x6x1x1024, .f32⟩
  | .local _ .vmem, ⟨7, _⟩ => ⟨S1x6x1x1024, .f32⟩
  | .local _ .vmem, ⟨8, _⟩ => ⟨S512x1024, .bf16⟩
  | .local _ .vmem, ⟨9, _⟩ => ⟨S512x1024, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024x1024, .f32⟩
  | .local _ .vmem, ⟨18, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x4096x1024 : Shape := ⟨3, ![4, 4096, 1024]⟩
abbrev S4x4096x512 : Shape := ⟨3, ![4, 4096, 512]⟩
abbrev S8x6144 : Shape := ⟨2, ![8, 6144]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x6144 : Shape := ⟨2, ![4, 6144]⟩
abbrev S4x1x6144 : Shape := ⟨3, ![4, 1, 6144]⟩
abbrev S4x1x1024 : Shape := ⟨3, ![4, 1, 1024]⟩
abbrev S1024x1024 : Shape := ⟨2, ![1024, 1024]⟩
abbrev S_ : Shape := ⟨0, ![]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S8x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024, .f32⟩
  | .hbm, ⟨12, _⟩ => ⟨S4x6144, .f32⟩
  | .hbm, ⟨13, _⟩ => ⟨S4x1x6144, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x4096x1024, .bf16⟩
  | .hbm, ⟨21, _⟩ => ⟨S4x4096x1024, .f32⟩
  | .hbm, ⟨22, _⟩ => ⟨S1024x1024, .f32⟩
  | .hbm, ⟨23, _⟩ => ⟨S4x4096x1024, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x1x1024, .f32⟩
  | .hbm, ⟨63, _⟩ => ⟨S4x1x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S1024x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S_, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S1024x2816, .f32⟩
  | .hbm, ⟨80, _⟩ => ⟨S4x4096x2816, .f32⟩
  | .hbm, ⟨81, _⟩ => ⟨S4x4096x2816, .f32⟩
  | .hbm, ⟨82, _⟩ => ⟨S2816x1024, .f32⟩
  | .hbm, ⟨83, _⟩ => ⟨S4x4096x1024, .f32⟩
  | .hbm, ⟨84, _⟩ => ⟨S_, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S4x4096, .f32⟩
  | .hbm, ⟨94, _⟩ => ⟨S4x4096x1, .f32⟩
  | .hbm, ⟨95, _⟩ => ⟨S_, .f32⟩
  | .hbm, ⟨96, _⟩ => ⟨S4x4096x1, .f32⟩
  | .hbm, ⟨97, _⟩ => ⟨S4x4096x1, .f32⟩
  | .hbm, ⟨98, _⟩ => ⟨S4x4096x1024, .f32⟩
  | .hbm, ⟨99, _⟩ => ⟨S4x4096x1024, .f32⟩
  | .hbm, ⟨100, _⟩ => ⟨S4x4096x1024, .f32⟩
  | .hbm, ⟨101, _⟩ => ⟨S_, .f32⟩
  | .hbm, ⟨102, _⟩ => ⟨S4x4096, .f32⟩
  | .hbm, ⟨103, _⟩ => ⟨S4x4096x1, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S4x4096x1024, .f32⟩
  | .hbm, ⟨108, _⟩ => ⟨S4x4096x1024, .f32⟩
  | .hbm, ⟨109, _⟩ => ⟨S_, .f32⟩
  | .hbm, ⟨110, _⟩ => ⟨S4x4096x1, .f32⟩
  | .hbm, ⟨111, _⟩ => ⟨S4x4096x1, .f32⟩
  | .hbm, ⟨112, _⟩ => ⟨S4x4096x1, .f32⟩
  | .hbm, ⟨113, _⟩ => ⟨S4x4096x1024, .f32⟩
  | .hbm, ⟨114, _⟩ => ⟨S4x4096x1024, .f32⟩
  | .hbm, ⟨115, _⟩ => ⟨S1x1x1024, .f32⟩
  | .hbm, ⟨116, _⟩ => ⟨S4x4096x1024, .f32⟩
  | .hbm, ⟨117, _⟩ => ⟨S4x4096x1024, .f32⟩
  | .hbm, ⟨118, _⟩ => ⟨S1x1x1024, .f32⟩
  | .hbm, ⟨119, _⟩ => ⟨S4x4096x1024, .f32⟩
  | .hbm, ⟨120, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_cst_8 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_9 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== Kernel3.lean ====
abbrev S4x4096x1024 : Shape := ⟨3, ![4, 4096, 1024]⟩
abbrev S8x6144 : Shape := ⟨2, ![8, 6144]⟩
abbrev S1x1024x3352 : Shape := ⟨3, ![1, 1024, 3352]⟩
abbrev S4x6144 : Shape := ⟨2, ![4, 6144]⟩
abbrev S24x1x1024 : Shape := ⟨3, ![24, 1, 1024]⟩
abbrev S1024x3352 : Shape := ⟨2, ![1024, 3352]⟩
abbrev S1024x512 : Shape := ⟨2, ![1024, 512]⟩
abbrev S1024x128 : Shape := ⟨2, ![1024, 128]⟩
abbrev S1024x24 : Shape := ⟨2, ![1024, 24]⟩
abbrev S1024x2048 : Shape := ⟨2, ![1024, 2048]⟩
abbrev S_ : Shape := ⟨0, ![]⟩
abbrev S1024x2x64 : Shape := ⟨3, ![1024, 2, 64]⟩
abbrev S1024x2x128 : Shape := ⟨3, ![1024, 2, 128]⟩
abbrev S1024x256 : Shape := ⟨2, ![1024, 256]⟩
abbrev S1024x3328 : Shape := ⟨2, ![1024, 3328]⟩
abbrev S1024x2x12 : Shape := ⟨3, ![1024, 2, 12]⟩
abbrev S1024x2x16 : Shape := ⟨3, ![1024, 2, 16]⟩
abbrev S1024x32 : Shape := ⟨2, ![1024, 32]⟩
abbrev S1024x2x80 : Shape := ⟨3, ![1024, 2, 80]⟩
abbrev S1024x160 : Shape := ⟨2, ![1024, 160]⟩
abbrev S1024x352 : Shape := ⟨2, ![1024, 352]⟩
abbrev S352x1024 : Shape := ⟨2, ![352, 1024]⟩
abbrev S4x4096x2048 : Shape := ⟨3, ![4, 4096, 2048]⟩
abbrev S4x4096x512 : Shape := ⟨3, ![4, 4096, 512]⟩
abbrev S4x4096x256 : Shape := ⟨3, ![4, 4096, 256]⟩
abbrev S4x4096x128 : Shape := ⟨3, ![4, 4096, 128]⟩
abbrev S4x320x4096 : Shape := ⟨3, ![4, 320, 4096]⟩
abbrev S4x32x4096 : Shape := ⟨3, ![4, 32, 4096]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x512 : Shape := ⟨3, ![1, 512, 512]⟩
abbrev S1x512x256 : Shape := ⟨3, ![1, 512, 256]⟩
abbrev S1x512x128 : Shape := ⟨3, ![1, 512, 128]⟩
abbrev S1x320x512 : Shape := ⟨3, ![1, 320, 512]⟩
abbrev S1x32x512 : Shape := ⟨3, ![1, 32, 512]⟩
abbrev S512x1024 : Shape := ⟨2, ![512, 1024]⟩
abbrev S1x1024 : Shape := ⟨2, ![1, 1024]⟩
abbrev S512x3328 : Shape := ⟨2, ![512, 3328]⟩
abbrev S512x2048 : Shape := ⟨2, ![512, 2048]⟩
abbrev S512x512 : Shape := ⟨2, ![512, 512]⟩
abbrev S512x256 : Shape := ⟨2, ![512, 256]⟩
abbrev S512x128 : Shape := ⟨2, ![512, 128]⟩
abbrev S352x512 : Shape := ⟨2, ![352, 512]⟩
abbrev S320x512 : Shape := ⟨2, ![320, 512]⟩
abbrev S32x512 : Shape := ⟨2, ![32, 512]⟩

abbrev nBuf : Space → Nat
  | .hbm => 56
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024x3352, .f32⟩
  | .hbm, ⟨3, _⟩ => ⟨S4x6144, .f32⟩
  | .hbm, ⟨4, _⟩ => ⟨S24x1x1024, .f32⟩
  | .hbm, ⟨5, _⟩ => ⟨S1024x3352, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x24, .f32⟩
  | .hbm, ⟨14, _⟩ => ⟨S1024x2048, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x2x64, .f32⟩
  | .hbm, ⟨19, _⟩ => ⟨S_, .i32⟩
  | .hbm, ⟨20, _⟩ => ⟨S_, .f32⟩
  | .hbm, ⟨21, _⟩ => ⟨S1024x2x128, .f32⟩
  | .hbm, ⟨22, _⟩ => ⟨S1024x256, .f32⟩
  | .hbm, ⟨23, _⟩ => ⟨S1024x2x64, .f32⟩
  | .hbm, ⟨24, _⟩ => ⟨S_, .i32⟩
  | .hbm, ⟨25, _⟩ => ⟨S_, .f32⟩
  | .hbm, ⟨26, _⟩ => ⟨S1024x2x128, .f32⟩
  | .hbm, ⟨27, _⟩ => ⟨S1024x256, .f32⟩
  | .hbm, ⟨28, _⟩ => ⟨S1024x3328, .f32⟩
  | .hbm, ⟨29, _⟩ => ⟨S1024x3328, .bf16⟩
  | .hbm, ⟨30, _⟩ => ⟨S1024x2x12, .f32⟩
  | .hbm, ⟨31, _⟩ => ⟨S_, .i32⟩
  | .hbm, ⟨32, _⟩ => ⟨S_, .f32⟩
  | .hbm, ⟨33, _⟩ => ⟨S1024x2x16, .f32⟩
  | .hbm, ⟨34, _⟩ => ⟨S1024x32, .f32⟩
  | .hbm, ⟨35, _⟩ => ⟨S1024x2x64, .f32⟩
  | .hbm, ⟨36, _⟩ => ⟨S_, .i32⟩
  | .hbm, ⟨37, _⟩ => ⟨S_, .f32⟩
  | .hbm, ⟨38, _⟩ => ⟨S1024x2x80, .f32⟩
  | .hbm, ⟨39, _⟩ => ⟨S1024x160, .f32⟩
  | .hbm, ⟨40, _⟩ => ⟨S1024x2x64, .f32⟩
  | .hbm, ⟨41, _⟩ => ⟨S_, .i32⟩
  | .hbm, ⟨42, _⟩ => ⟨S_, .f32⟩
  | .hbm, ⟨43, _⟩ => ⟨S1024x2x80, .f32⟩
  | .hbm, ⟨44, _⟩ => ⟨S1024x160, .f32⟩
  | .hbm, ⟨45, _⟩ => ⟨S1024x352, .f32⟩
  | .hbm, ⟨46, _⟩ => ⟨S352x1024, .f32⟩
  | .hbm, ⟨47, _⟩ => ⟨S352x1024, .bf16⟩
  | .hbm, ⟨48, _⟩ => ⟨S4x4096x2048, .f32⟩
  | .hbm, ⟨49, _⟩ => ⟨S4x4096x512, .bf16⟩
  | .hbm, ⟨50, _⟩ => ⟨S4x4096x256, .bf16⟩
  | .hbm, ⟨51, _⟩ => ⟨S4x4096x256, .bf16⟩
  | .hbm, ⟨52, _⟩ => ⟨S4x4096x128, .f32⟩
  | .hbm, ⟨53, _⟩ => ⟨S4x4096x128, .f32⟩
  | .hbm, ⟨54, _⟩ => ⟨S4x320x4096, .bf16⟩
  | .hbm, ⟨55, _⟩ => ⟨S4x32x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3328, .bf16⟩
  | .local _ .vmem, ⟨7, _⟩ => ⟨S352x1024, .bf16⟩
  | .local _ .vmem, ⟨8, _⟩ => ⟨S1x512x2048, .f32⟩
  | .local _ .vmem, ⟨9, _⟩ => ⟨S1x512x2048, .f32⟩
  | .local _ .vmem, ⟨10, _⟩ => ⟨S1x512x512, .bf16⟩
  | .local _ .vmem, ⟨11, _⟩ => ⟨S1x512x512, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x320x512, .bf16⟩
  | .local _ .vmem, ⟨21, _⟩ => ⟨S1x320x512, .bf16⟩
  | .local _ .vmem, ⟨22, _⟩ => ⟨S1x32x512, .f32⟩
  | .local _ .vmem, ⟨23, _⟩ => ⟨S1x32x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_call2_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_call3_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_call4_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_v34_3 : Ref sig .tc := ⟨.hbm, 51, rfl⟩
abbrev main_v34_4 : Ref sig .tc := ⟨.hbm, 52, rfl⟩
abbrev main_v34_5 : Ref sig .tc := ⟨.hbm, 53, rfl⟩
abbrev main_v34_6 : Ref sig .tc := ⟨.hbm, 54, rfl⟩
abbrev main_v34_7 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x320x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x4096x1024 : Shape := ⟨3, ![4, 4096, 1024]⟩
abbrev S8x6144 : Shape := ⟨2, ![8, 6144]⟩
abbrev S1x1024x3352 : Shape := ⟨3, ![1, 1024, 3352]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S1024x3352 : Shape := ⟨2, ![1024, 3352]⟩
abbrev S4x4096x3352 : Shape := ⟨3, ![4, 4096, 3352]⟩
abbrev S4x4096x512 : Shape := ⟨3, ![4, 4096, 512]⟩
abbrev S4x4096x128 : Shape := ⟨3, ![4, 4096, 128]⟩
abbrev S4x4096x24 : Shape := ⟨3, ![4, 4096, 24]⟩
abbrev S4096 : Shape := ⟨1, ![4096]⟩
abbrev S4096x1 : Shape := ⟨2, ![4096, 1]⟩
abbrev S4096x6 : Shape := ⟨2, ![4096, 6]⟩
abbrev S1x4096x1x6 : Shape := ⟨4, ![1, 4096, 1, 6]⟩
abbrev S4x4096x2x6 : Shape := ⟨4, ![4, 4096, 2, 6]⟩
abbrev S4x4096x2x58 : Shape := ⟨4, ![4, 4096, 2, 58]⟩
abbrev S4x4096x2x1 : Shape := ⟨4, ![4, 4096, 2, 1]⟩
abbrev S4x4096x2x15 : Shape := ⟨4, ![4, 4096, 2, 15]⟩
abbrev S4x4096x2x64 : Shape := ⟨4, ![4, 4096, 2, 64]⟩
abbrev S4x4096x2x80 : Shape := ⟨4, ![4, 4096, 2, 80]⟩
abbrev S4x4096x160 : Shape := ⟨3, ![4, 4096, 160]⟩
abbrev S4x4096x320 : Shape := ⟨3, ![4, 4096, 320]⟩
abbrev S4x320x4096 : Shape := ⟨3, ![4, 320, 4096]⟩
abbrev S4x4096x2x12 : Shape := ⟨4, ![4, 4096, 2, 12]⟩
abbrev S4x4096x2x16 : Shape := ⟨4, ![4, 4096, 2, 16]⟩
abbrev S4x4096x32 : Shape := ⟨3, ![4, 4096, 32]⟩
abbrev S4x32x4096 : Shape := ⟨3, ![4, 32, 4096]⟩
abbrev S4x4096x2048 : Shape := ⟨3, ![4, 4096, 2048]⟩
abbrev S4x4096x2x128 : Shape := ⟨4, ![4, 4096, 2, 128]⟩
abbrev S4x4096x256 : Shape := ⟨3, ![4, 4096, 256]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024x3352, .f32⟩
  | .hbm, ⟨3, _⟩ => ⟨S4x6144, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S1024x3352, .f32⟩
  | .hbm, ⟨19, _⟩ => ⟨S4x4096x3352, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x128, .f32⟩
  | .hbm, ⟨26, _⟩ => ⟨S4x4096x128, .f32⟩
  | .hbm, ⟨27, _⟩ => ⟨S4x4096x128, .f32⟩
  | .hbm, ⟨28, _⟩ => ⟨S4x4096x128, .f32⟩
  | .hbm, ⟨29, _⟩ => ⟨S4x4096x128, .f32⟩
  | .hbm, ⟨30, _⟩ => ⟨S4x4096x128, .f32⟩
  | .hbm, ⟨31, _⟩ => ⟨S4x4096x24, .f32⟩
  | .hbm, ⟨32, _⟩ => ⟨S_, .f32⟩
  | .hbm, ⟨33, _⟩ => ⟨S4x4096x512, .f32⟩
  | .hbm, ⟨34, _⟩ => ⟨S4x4096x512, .f32⟩
  | .hbm, ⟨35, _⟩ => ⟨S4096, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S_, .i1⟩
  | .hbm, ⟨52, _⟩ => ⟨S4096, .i1⟩
  | .hbm, ⟨53, _⟩ => ⟨S4096, .i1⟩
  | .hbm, ⟨54, _⟩ => ⟨S4096, .i1⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096x1, .i32⟩
  | .hbm, ⟨61, _⟩ => ⟨S4096x1, .i32⟩
  | .hbm, ⟨62, _⟩ => ⟨S4096x1, .i32⟩
  | .hbm, ⟨63, _⟩ => ⟨S4096x1, .i32⟩
  | .hbm, ⟨64, _⟩ => ⟨S4096x1, .i32⟩
  | .hbm, ⟨65, _⟩ => ⟨S4096x6, .i32⟩
  | .hbm, ⟨66, _⟩ => ⟨S4096x6, .f32⟩
  | .hbm, ⟨67, _⟩ => ⟨S1x4096x1x6, .f32⟩
  | .hbm, ⟨68, _⟩ => ⟨S4x4096x2x6, .f32⟩
  | .hbm, ⟨69, _⟩ => ⟨S_, .f32⟩
  | .hbm, ⟨70, _⟩ => ⟨S4x4096x2x58, .f32⟩
  | .hbm, ⟨71, _⟩ => ⟨S_, .f32⟩
  | .hbm, ⟨72, _⟩ => ⟨S4x4096x2x1, .f32⟩
  | .hbm, ⟨73, _⟩ => ⟨S_, .f32⟩
  | .hbm, ⟨74, _⟩ => ⟨S4x4096x2x15, .f32⟩
  | .hbm, ⟨75, _⟩ => ⟨S4x4096x2x64, .f32⟩
  | .hbm, ⟨76, _⟩ => ⟨S4x4096x2x80, .f32⟩
  | .hbm, ⟨77, _⟩ => ⟨S4x4096x160, .f32⟩
  | .hbm, ⟨78, _⟩ => ⟨S4x4096x2x64, .f32⟩
  | .hbm, ⟨79, _⟩ => ⟨S4x4096x2x80, .f32⟩
  | .hbm, ⟨80, _⟩ => ⟨S4x4096x160, .f32⟩
  | .hbm, ⟨81, _⟩ => ⟨S4x4096x320, .f32⟩
  | .hbm, ⟨82, _⟩ => ⟨S4x320x4096, .f32⟩
  | .hbm, ⟨83, _⟩ => ⟨S4x4096x2x12, .f32⟩
  | .hbm, ⟨84, _⟩ => ⟨S_, .i32⟩
  | .hbm, ⟨85, _⟩ => ⟨S_, .f32⟩
  | .hbm, ⟨86, _⟩ => ⟨S4x4096x2x16, .f32⟩
  | .hbm, ⟨87, _⟩ => ⟨S4x4096x32, .f32⟩
  | .hbm, ⟨88, _⟩ => ⟨S4x32x4096, .f32⟩
  | .hbm, ⟨89, _⟩ => ⟨S4x4096x2048, .f32⟩
  | .hbm, ⟨90, _⟩ => ⟨S4x4096x512, .bf16⟩
  | .hbm, ⟨91, _⟩ => ⟨S4x4096x2x64, .f32⟩
  | .hbm, ⟨92, _⟩ => ⟨S4x4096x2x128, .f32⟩
  | .hbm, ⟨93, _⟩ => ⟨S4x4096x256, .f32⟩
  | .hbm, ⟨94, _⟩ => ⟨S4x4096x256, .bf16⟩
  | .hbm, ⟨95, _⟩ => ⟨S4x4096x2x64, .f32⟩
  | .hbm, ⟨96, _⟩ => ⟨S4x4096x2x128, .f32⟩
  | .hbm, ⟨97, _⟩ => ⟨S4x4096x256, .f32⟩
  | .hbm, ⟨98, _⟩ => ⟨S4x4096x256, .bf16⟩
  | .hbm, ⟨99, _⟩ => ⟨S4x320x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_1 : Ref sig .tc := ⟨.hbm, 69, rfl⟩
abbrev main_v43 : Ref sig .tc := ⟨.hbm, 70, rfl⟩
abbrev main_cst_2 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_4 : Ref sig .tc := ⟨.hbm, 84, rfl⟩
abbrev main_call1_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Kernel4.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1024x6144, .f32⟩
  | .hbm, ⟨7, _⟩ => ⟨S6144, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S4x6144 : Shape := ⟨2, ![4, 6144]⟩
abbrev S8x6144 : Shape := ⟨2, ![8, 6144]⟩
abbrev S6144 : Shape := ⟨1, ![6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1024x6144, .f32⟩
  | .hbm, ⟨13, _⟩ => ⟨S4x6144, .f32⟩
  | .hbm, ⟨14, _⟩ => ⟨S_, .i32⟩
  | .hbm, ⟨15, _⟩ => ⟨S_, .f32⟩
  | .hbm, ⟨16, _⟩ => ⟨S8x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel5.lean ====
abbrev S4x4096x128 : Shape := ⟨3, ![4, 4096, 128]⟩
abbrev S1x32x64 : Shape := ⟨3, ![1, 32, 64]⟩
abbrev S1x2048x256 : Shape := ⟨3, ![1, 2048, 256]⟩
abbrev S1x256x64 : Shape := ⟨3, ![1, 256, 64]⟩
abbrev S256x64 : Shape := ⟨2, ![256, 64]⟩
abbrev S_ : Shape := ⟨0, ![]⟩
abbrev S256x128 : Shape := ⟨2, ![256, 128]⟩
abbrev S4x256x2048 : Shape := ⟨3, ![4, 256, 2048]⟩
abbrev S32x64 : Shape := ⟨2, ![32, 64]⟩
abbrev S2x16x1x64 : Shape := ⟨4, ![2, 16, 1, 64]⟩
abbrev S2x16x2x64 : Shape := ⟨4, ![2, 16, 2, 64]⟩
abbrev S1x4096 : Shape := ⟨2, ![1, 4096]⟩
abbrev S2048x256 : Shape := ⟨2, ![2048, 256]⟩
abbrev S2x16x1x64x256 : Shape := ⟨5, ![2, 16, 1, 64, 256]⟩
abbrev S2x2 : Shape := ⟨2, ![2, 2]⟩
abbrev S2x1x1x2x1x1 : Shape := ⟨6, ![2, 1, 1, 2, 1, 1]⟩
abbrev S1x2x16x1x64x256 : Shape := ⟨6, ![1, 2, 16, 1, 64, 256]⟩
abbrev S2x2x16x2x64x256 : Shape := ⟨6, ![2, 2, 16, 2, 64, 256]⟩
abbrev S2x4096x256 : Shape := ⟨3, ![2, 4096, 256]⟩
abbrev S4x2x256x128 : Shape := ⟨4, ![4, 2, 256, 128]⟩
abbrev S1x256x2048 : Shape := ⟨3, ![1, 256, 2048]⟩
abbrev S1x4096x256 : Shape := ⟨3, ![1, 4096, 256]⟩
abbrev S1x1x256x128 : Shape := ⟨4, ![1, 1, 256, 128]⟩
abbrev S256x2048 : Shape := ⟨2, ![256, 2048]⟩
abbrev S1x2048 : Shape := ⟨2, ![1, 2048]⟩
abbrev S256x256 : Shape := ⟨2, ![256, 256]⟩

abbrev nBuf : Space → Nat
  | .hbm => 31
  | .vmem => 8
  | .smem => 0
  | _ => 0

abbrev bufTy : (tb : Table) → Fin (tcTables nBuf tb) → BufTy
  | .hbm, ⟨0, _⟩ => ⟨S4x4096x128, .f32⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S256x64, .f32⟩
  | .hbm, ⟨5, _⟩ => ⟨S_, .i32⟩
  | .hbm, ⟨6, _⟩ => ⟨S_, .f32⟩
  | .hbm, ⟨7, _⟩ => ⟨S256x128, .f32⟩
  | .hbm, ⟨8, _⟩ => ⟨S256x128, .bf16⟩
  | .hbm, ⟨9, _⟩ => ⟨S4x256x2048, .f32⟩
  | .hbm, ⟨10, _⟩ => ⟨S32x64, .f32⟩
  | .hbm, ⟨11, _⟩ => ⟨S2x16x1x64, .f32⟩
  | .hbm, ⟨12, _⟩ => ⟨S2x16x2x64, .f32⟩
  | .hbm, ⟨13, _⟩ => ⟨S1x4096, .f32⟩
  | .hbm, ⟨14, _⟩ => ⟨S2048x256, .f32⟩
  | .hbm, ⟨15, _⟩ => ⟨S2x16x1x64x256, .f32⟩
  | .hbm, ⟨16, _⟩ => ⟨S2x2, .i32⟩
  | .hbm, ⟨17, _⟩ => ⟨S2x2, .i32⟩
  | .hbm, ⟨18, _⟩ => ⟨S_, .i32⟩
  | .hbm, ⟨19, _⟩ => ⟨S2x2, .i32⟩
  | .hbm, ⟨20, _⟩ => ⟨S2x2, .i32⟩
  | .hbm, ⟨21, _⟩ => ⟨S2x2, .i1⟩
  | .hbm, ⟨22, _⟩ => ⟨S2x2, .f32⟩
  | .hbm, ⟨23, _⟩ => ⟨S2x1x1x2x1x1, .f32⟩
  | .hbm, ⟨24, _⟩ => ⟨S1x2x16x1x64x256, .f32⟩
  | .hbm, ⟨25, _⟩ => ⟨S2x2x16x2x64x256, .f32⟩
  | .hbm, ⟨26, _⟩ => ⟨S2x2x16x2x64x256, .f32⟩
  | .hbm, ⟨27, _⟩ => ⟨S2x2x16x2x64x256, .f32⟩
  | .hbm, ⟨28, _⟩ => ⟨S2x4096x256, .f32⟩
  | .hbm, ⟨29, _⟩ => ⟨S2x4096x256, .bf16⟩
  | .hbm, ⟨30, _⟩ => ⟨S4x2x256x128, .bf16⟩
  | .local _ .vmem, ⟨0, _⟩ => ⟨S1x256x2048, .f32⟩
  | .local _ .vmem, ⟨1, _⟩ => ⟨S1x256x2048, .f32⟩
  | .local _ .vmem, ⟨2, _⟩ => ⟨S1x4096, .f32⟩
  | .local _ .vmem, ⟨3, _⟩ => ⟨S1x4096x256, .bf16⟩
  | .local _ .vmem, ⟨4, _⟩ => ⟨S1x4096x256, .bf16⟩
  | .local _ .vmem, ⟨5, _⟩ => ⟨S256x128, .bf16⟩
  | .local _ .vmem, ⟨6, _⟩ => ⟨S1x1x256x128, .bf16⟩
  | .local _ .vmem, ⟨7, _⟩ => ⟨S1x1x256x128, .bf16⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x4096x128 : Shape := ⟨3, ![4, 4096, 128]⟩
abbrev S1x32x64 : Shape := ⟨3, ![1, 32, 64]⟩
abbrev S1x2048x256 : Shape := ⟨3, ![1, 2048, 256]⟩
abbrev S1x256x64 : Shape := ⟨3, ![1, 256, 64]⟩
abbrev S32x64 : Shape := ⟨2, ![32, 64]⟩
abbrev S2048x256 : Shape := ⟨2, ![2048, 256]⟩
abbrev S256x64 : Shape := ⟨2, ![256, 64]⟩
abbrev S4x4096x2x64 : Shape := ⟨4, ![4, 4096, 2, 64]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S4x256x32x2x64 : Shape := ⟨5, ![4, 256, 32, 2, 64]⟩
abbrev S1x1x32x1x64 : Shape := ⟨5, ![1, 1, 32, 1, 64]⟩
abbrev S4x256x2x32x64 : Shape := ⟨5, ![4, 256, 2, 32, 64]⟩
abbrev S4x256x2x2048 : Shape := ⟨4, ![4, 256, 2, 2048]⟩
abbrev S4x256x2x256 : Shape := ⟨4, ![4, 256, 2, 256]⟩
abbrev S4x256x2x64 : Shape := ⟨4, ![4, 256, 2, 64]⟩
abbrev S4x2x256x64 : Shape := ⟨4, ![4, 2, 256, 64]⟩
abbrev S256x6 : Shape := ⟨2, ![256, 6]⟩
abbrev S1x1x256x6 : Shape := ⟨4, ![1, 1, 256, 6]⟩
abbrev S4x2x256x6 : Shape := ⟨4, ![4, 2, 256, 6]⟩
abbrev S4x2x256x58 : Shape := ⟨4, ![4, 2, 256, 58]⟩
abbrev S4x2x256x128 : Shape := ⟨4, ![4, 2, 256, 128]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S4x4096x2x64, .f32⟩
  | .hbm, ⟨8, _⟩ => ⟨S256, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S32, .i32⟩
  | .hbm, ⟨14, _⟩ => ⟨S1x32, .i32⟩
  | .hbm, ⟨15, _⟩ => ⟨S256x32, .i32⟩
  | .hbm, ⟨16, _⟩ => ⟨S256x32, .i32⟩
  | .hbm, ⟨17, _⟩ => ⟨S256x32, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S256x32, .i32⟩
  | .hbm, ⟨25, _⟩ => ⟨S256x32, .i32⟩
  | .hbm, ⟨26, _⟩ => ⟨S_, .i32⟩
  | .hbm, ⟨27, _⟩ => ⟨S256x32, .i32⟩
  | .hbm, ⟨28, _⟩ => ⟨S256x32, .i1⟩
  | .hbm, ⟨29, _⟩ => ⟨S_, .i32⟩
  | .hbm, ⟨30, _⟩ => ⟨S256x32, .i32⟩
  | .hbm, ⟨31, _⟩ => ⟨S256x32, .i1⟩
  | .hbm, ⟨32, _⟩ => ⟨S_, .i32⟩
  | .hbm, ⟨33, _⟩ => ⟨S_, .i1⟩
  | .hbm, ⟨34, _⟩ => ⟨S256x32, .i1⟩
  | .hbm, ⟨35, _⟩ => ⟨S256x32, .i1⟩
  | .hbm, ⟨36, _⟩ => ⟨S256x32, .i1⟩
  | .hbm, ⟨37, _⟩ => ⟨S256x32, .i32⟩
  | .hbm, ⟨38, _⟩ => ⟨S256x32, .i32⟩
  | .hbm, ⟨39, _⟩ => ⟨S256x32, .i32⟩
  | .hbm, ⟨40, _⟩ => ⟨S_, .i32⟩
  | .hbm, ⟨41, _⟩ => ⟨S256x32, .i32⟩
  | .hbm, ⟨42, _⟩ => ⟨S256x32, .i1⟩
  | .hbm, ⟨43, _⟩ => ⟨S_, .i32⟩
  | .hbm, ⟨44, _⟩ => ⟨S256x32, .i32⟩
  | .hbm, ⟨45, _⟩ => ⟨S256x32, .i32⟩
  | .hbm, ⟨46, _⟩ => ⟨S256x32, .i32⟩
  | .hbm, ⟨47, _⟩ => ⟨S256x32x1, .i32⟩
  | .hbm, ⟨48, _⟩ => ⟨S4x256x32x2x64, .f32⟩
  | .hbm, ⟨49, _⟩ => ⟨S1x1x32x1x64, .f32⟩
  | .hbm, ⟨50, _⟩ => ⟨S4x256x32x2x64, .f32⟩
  | .hbm, ⟨51, _⟩ => ⟨S4x256x32x2x64, .f32⟩
  | .hbm, ⟨52, _⟩ => ⟨S4x256x2x32x64, .f32⟩
  | .hbm, ⟨53, _⟩ => ⟨S4x256x2x2048, .f32⟩
  | .hbm, ⟨54, _⟩ => ⟨S4x256x2x256, .f32⟩
  | .hbm, ⟨55, _⟩ => ⟨S4x256x2x256, .f32⟩
  | .hbm, ⟨56, _⟩ => ⟨S4x256x2x256, .f32⟩
  | .hbm, ⟨57, _⟩ => ⟨S_, .f32⟩
  | .hbm, ⟨58, _⟩ => ⟨S4x256x2x256, .f32⟩
  | .hbm, ⟨59, _⟩ => ⟨S4x256x2x256, .f32⟩
  | .hbm, ⟨60, _⟩ => ⟨S4x256x2x256, .f32⟩
  | .hbm, ⟨61, _⟩ => ⟨S_, .f32⟩
  | .hbm, ⟨62, _⟩ => ⟨S4x256x2x256, .f32⟩
  | .hbm, ⟨63, _⟩ => ⟨S4x256x2x256, .f32⟩
  | .hbm, ⟨64, _⟩ => ⟨S4x256x2x256, .f32⟩
  | .hbm, ⟨65, _⟩ => ⟨S_, .f32⟩
  | .hbm, ⟨66, _⟩ => ⟨S4x256x2x256, .f32⟩
  | .hbm, ⟨67, _⟩ => ⟨S4x256x2x256, .f32⟩
  | .hbm, ⟨68, _⟩ => ⟨S_, .f32⟩
  | .hbm, ⟨69, _⟩ => ⟨S4x256x2x256, .f32⟩
  | .hbm, ⟨70, _⟩ => ⟨S4x256x2x256, .f32⟩
  | .hbm, ⟨71, _⟩ => ⟨S4x256x2x256, .f32⟩
  | .hbm, ⟨72, _⟩ => ⟨S4x256x2x64, .f32⟩
  | .hbm, ⟨73, _⟩ => ⟨S4x2x256x64, .f32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S_, .i32⟩
  | .hbm, ⟨82, _⟩ => ⟨S256, .i32⟩
  | .hbm, ⟨83, _⟩ => ⟨S256, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S256, .i32⟩
  | .hbm, ⟨91, _⟩ => ⟨S256, .i32⟩
  | .hbm, ⟨92, _⟩ => ⟨S_, .i32⟩
  | .hbm, ⟨93, _⟩ => ⟨S256, .i32⟩
  | .hbm, ⟨94, _⟩ => ⟨S256, .i1⟩
  | .hbm, ⟨95, _⟩ => ⟨S_, .i32⟩
  | .hbm, ⟨96, _⟩ => ⟨S256, .i32⟩
  | .hbm, ⟨97, _⟩ => ⟨S256, .i1⟩
  | .hbm, ⟨98, _⟩ => ⟨S_, .i32⟩
  | .hbm, ⟨99, _⟩ => ⟨S_, .i1⟩
  | .hbm, ⟨100, _⟩ => ⟨S256, .i1⟩
  | .hbm, ⟨101, _⟩ => ⟨S256, .i1⟩
  | .hbm, ⟨102, _⟩ => ⟨S256, .i1⟩
  | .hbm, ⟨103, _⟩ => ⟨S256, .i32⟩
  | .hbm, ⟨104, _⟩ => ⟨S256, .i32⟩
  | .hbm, ⟨105, _⟩ => ⟨S256, .i32⟩
  | .hbm, ⟨106, _⟩ => ⟨S256, .i32⟩
  | .hbm, ⟨107, _⟩ => ⟨S256x1, .i32⟩
  | .hbm, ⟨108, _⟩ => ⟨S256x1, .i32⟩
  | .hbm, ⟨109, _⟩ => ⟨S256x1, .i32⟩
  | .hbm, ⟨110, _⟩ => ⟨S256x1, .i32⟩
  | .hbm, ⟨111, _⟩ => ⟨S256x1, .i32⟩
  | .hbm, ⟨112, _⟩ => ⟨S256x1, .i32⟩
  | .hbm, ⟨113, _⟩ => ⟨S256x6, .i32⟩
  | .hbm, ⟨114, _⟩ => ⟨S256x6, .f32⟩
  | .hbm, ⟨115, _⟩ => ⟨S1x1x256x6, .f32⟩
  | .hbm, ⟨116, _⟩ => ⟨S4x2x256x6, .f32⟩
  | .hbm, ⟨117, _⟩ => ⟨S_, .f32⟩
  | .hbm, ⟨118, _⟩ => ⟨S4x2x256x58, .f32⟩
  | .hbm, ⟨119, _⟩ => ⟨S4x2x256x128, .f32⟩
  | .hbm, ⟨120, _⟩ => ⟨S4x2x256x128, .bf16⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v13 : Ref sig .tc := ⟨.hbm, 39, rfl⟩
abbrev main_c_1 : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_6 : Ref sig .tc := ⟨.hbm, 75, rfl⟩
abbrev main_v43 : Ref sig .tc := ⟨.hbm, 76, rfl⟩
abbrev main_v44 : Ref sig .tc := ⟨.hbm, 77, rfl⟩
abbrev main_c_7 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_call1_v0 : Ref sig .tc := ⟨.hbm, 85, rfl⟩
abbrev main_call1_c : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_c_1 : Ref sig .tc := ⟨.hbm, 92, rfl⟩
abbrev main_call1_v5 : Ref sig .tc := ⟨.hbm, 93, rfl⟩
abbrev main_call1_v6 : Ref sig .tc := ⟨.hbm, 94, rfl⟩
abbrev main_call1_c_2 : Ref sig .tc := ⟨.hbm, 95, rfl⟩
abbrev main_call1_v7 : Ref sig .tc := ⟨.hbm, 96, rfl⟩
abbrev main_call1_v8 : Ref sig .tc := ⟨.hbm, 97, rfl⟩
abbrev main_call1_c_3 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_v12 : Ref sig .tc := ⟨.hbm, 102, rfl⟩
abbrev main_call1_v13 : Ref sig .tc := ⟨.hbm, 103, rfl⟩
abbrev main_call1_v14 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_10 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩

abbrev nD : Nat := 1
abbrev τ : Topo := Topo.v7x

variable {F : FTy → Type} [FloatOps F]
-- ==== Kernel6.lean ====
abbrev S4x4096x128 : Shape := ⟨3, ![4, 4096, 128]⟩
abbrev S1x32x64 : Shape := ⟨3, ![1, 32, 64]⟩
abbrev S1x2048x256 : Shape := ⟨3, ![1, 2048, 256]⟩
abbrev S1x256x64 : Shape := ⟨3, ![1, 256, 64]⟩
abbrev S4x256x2048 : Shape := ⟨3, ![4, 256, 2048]⟩
abbrev S32x64 : Shape := ⟨2, ![32, 64]⟩
abbrev S2x16x1x64 : Shape := ⟨4, ![2, 16, 1, 64]⟩
abbrev S2x16x2x64 : Shape := ⟨4, ![2, 16, 2, 64]⟩
abbrev S1x4096 : Shape := ⟨2, ![1, 4096]⟩
abbrev S2048x256 : Shape := ⟨2, ![2048, 256]⟩
abbrev S2x16x1x64x256 : Shape := ⟨5, ![2, 16, 1, 64, 256]⟩
abbrev S2x2 : Shape := ⟨2, ![2, 2]⟩
abbrev S_ : Shape := ⟨0, ![]⟩
abbrev S2x1x1x2x1x1 : Shape := ⟨6, ![2, 1, 1, 2, 1, 1]⟩
abbrev S1x2x16x1x64x256 : Shape := ⟨6, ![1, 2, 16, 1, 64, 256]⟩
abbrev S2x2x16x2x64x256 : Shape := ⟨6, ![2, 2, 16, 2, 64, 256]⟩
abbrev S2x4096x256 : Shape := ⟨3, ![2, 4096, 256]⟩
abbrev S256x64 : Shape := ⟨2, ![256, 64]⟩
abbrev S64x256 : Shape := ⟨2, ![64, 256]⟩
abbrev S80x256 : Shape := ⟨2, ![80, 256]⟩
abbrev S4x2x80x256 : Shape := ⟨4, ![4, 2, 80, 256]⟩
abbrev S1x256x2048 : Shape := ⟨3, ![1, 256, 2048]⟩
abbrev S1x4096x256 : Shape := ⟨3, ![1, 4096, 256]⟩
abbrev S1x1x80x256 : Shape := ⟨4, ![1, 1, 80, 256]⟩
abbrev S256x2048 : Shape := ⟨2, ![256, 2048]⟩
abbrev S1x2048 : Shape := ⟨2, ![1, 2048]⟩
abbrev S256x256 : Shape := ⟨2, ![256, 256]⟩

abbrev nBuf : Space → Nat
  | .hbm => 32
  | .vmem => 8
  | .smem => 0
  | _ => 0

abbrev bufTy : (tb : Table) → Fin (tcTables nBuf tb) → BufTy
  | .hbm, ⟨0, _⟩ => ⟨S4x4096x128, .f32⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S4x256x2048, .f32⟩
  | .hbm, ⟨5, _⟩ => ⟨S32x64, .f32⟩
  | .hbm, ⟨6, _⟩ => ⟨S2x16x1x64, .f32⟩
  | .hbm, ⟨7, _⟩ => ⟨S2x16x2x64, .f32⟩
  | .hbm, ⟨8, _⟩ => ⟨S1x4096, .f32⟩
  | .hbm, ⟨9, _⟩ => ⟨S2048x256, .f32⟩
  | .hbm, ⟨10, _⟩ => ⟨S2x16x1x64x256, .f32⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .f32⟩
  | .hbm, ⟨18, _⟩ => ⟨S2x1x1x2x1x1, .f32⟩
  | .hbm, ⟨19, _⟩ => ⟨S1x2x16x1x64x256, .f32⟩
  | .hbm, ⟨20, _⟩ => ⟨S2x2x16x2x64x256, .f32⟩
  | .hbm, ⟨21, _⟩ => ⟨S2x2x16x2x64x256, .f32⟩
  | .hbm, ⟨22, _⟩ => ⟨S2x2x16x2x64x256, .f32⟩
  | .hbm, ⟨23, _⟩ => ⟨S2x4096x256, .f32⟩
  | .hbm, ⟨24, _⟩ => ⟨S2x4096x256, .bf16⟩
  | .hbm, ⟨25, _⟩ => ⟨S256x64, .f32⟩
  | .hbm, ⟨26, _⟩ => ⟨S64x256, .f32⟩
  | .hbm, ⟨27, _⟩ => ⟨S_, .i32⟩
  | .hbm, ⟨28, _⟩ => ⟨S_, .f32⟩
  | .hbm, ⟨29, _⟩ => ⟨S80x256, .f32⟩
  | .hbm, ⟨30, _⟩ => ⟨S80x256, .bf16⟩
  | .hbm, ⟨31, _⟩ => ⟨S4x2x80x256, .bf16⟩
  | .local _ .vmem, ⟨0, _⟩ => ⟨S1x256x2048, .f32⟩
  | .local _ .vmem, ⟨1, _⟩ => ⟨S1x256x2048, .f32⟩
  | .local _ .vmem, ⟨2, _⟩ => ⟨S1x4096, .f32⟩
  | .local _ .vmem, ⟨3, _⟩ => ⟨S1x4096x256, .bf16⟩
  | .local _ .vmem, ⟨4, _⟩ => ⟨S1x4096x256, .bf16⟩
  | .local _ .vmem, ⟨5, _⟩ => ⟨S80x256, .bf16⟩
  | .local _ .vmem, ⟨6, _⟩ => ⟨S1x1x80x256, .bf16⟩
  | .local _ .vmem, ⟨7, _⟩ => ⟨S1x1x80x256, .bf16⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_call0_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S80x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x4096x128 : Shape := ⟨3, ![4, 4096, 128]⟩
abbrev S1x32x64 : Shape := ⟨3, ![1, 32, 64]⟩
abbrev S1x2048x256 : Shape := ⟨3, ![1, 2048, 256]⟩
abbrev S1x256x64 : Shape := ⟨3, ![1, 256, 64]⟩
abbrev S32x64 : Shape := ⟨2, ![32, 64]⟩
abbrev S2048x256 : Shape := ⟨2, ![2048, 256]⟩
abbrev S256x64 : Shape := ⟨2, ![256, 64]⟩
abbrev S4x4096x2x64 : Shape := ⟨4, ![4, 4096, 2, 64]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S4x256x32x2x64 : Shape := ⟨5, ![4, 256, 32, 2, 64]⟩
abbrev S1x1x32x1x64 : Shape := ⟨5, ![1, 1, 32, 1, 64]⟩
abbrev S4x256x2x32x64 : Shape := ⟨5, ![4, 256, 2, 32, 64]⟩
abbrev S4x256x2x2048 : Shape := ⟨4, ![4, 256, 2, 2048]⟩
abbrev S4x256x2x256 : Shape := ⟨4, ![4, 256, 2, 256]⟩
abbrev S4x256x2x64 : Shape := ⟨4, ![4, 256, 2, 64]⟩
abbrev S4x2x64x256 : Shape := ⟨4, ![4, 2, 64, 256]⟩
abbrev S4x2x1x256 : Shape := ⟨4, ![4, 2, 1, 256]⟩
abbrev S4x2x15x256 : Shape := ⟨4, ![4, 2, 15, 256]⟩
abbrev S4x2x80x256 : Shape := ⟨4, ![4, 2, 80, 256]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S4x4096x2x64, .f32⟩
  | .hbm, ⟨8, _⟩ => ⟨S256, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S32, .i32⟩
  | .hbm, ⟨14, _⟩ => ⟨S1x32, .i32⟩
  | .hbm, ⟨15, _⟩ => ⟨S256x32, .i32⟩
  | .hbm, ⟨16, _⟩ => ⟨S256x32, .i32⟩
  | .hbm, ⟨17, _⟩ => ⟨S256x32, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S256x32, .i32⟩
  | .hbm, ⟨25, _⟩ => ⟨S256x32, .i32⟩
  | .hbm, ⟨26, _⟩ => ⟨S_, .i32⟩
  | .hbm, ⟨27, _⟩ => ⟨S256x32, .i32⟩
  | .hbm, ⟨28, _⟩ => ⟨S256x32, .i1⟩
  | .hbm, ⟨29, _⟩ => ⟨S_, .i32⟩
  | .hbm, ⟨30, _⟩ => ⟨S256x32, .i32⟩
  | .hbm, ⟨31, _⟩ => ⟨S256x32, .i1⟩
  | .hbm, ⟨32, _⟩ => ⟨S_, .i32⟩
  | .hbm, ⟨33, _⟩ => ⟨S_, .i1⟩
  | .hbm, ⟨34, _⟩ => ⟨S256x32, .i1⟩
  | .hbm, ⟨35, _⟩ => ⟨S256x32, .i1⟩
  | .hbm, ⟨36, _⟩ => ⟨S256x32, .i1⟩
  | .hbm, ⟨37, _⟩ => ⟨S256x32, .i32⟩
  | .hbm, ⟨38, _⟩ => ⟨S256x32, .i32⟩
  | .hbm, ⟨39, _⟩ => ⟨S256x32, .i32⟩
  | .hbm, ⟨40, _⟩ => ⟨S_, .i32⟩
  | .hbm, ⟨41, _⟩ => ⟨S256x32, .i32⟩
  | .hbm, ⟨42, _⟩ => ⟨S256x32, .i1⟩
  | .hbm, ⟨43, _⟩ => ⟨S_, .i32⟩
  | .hbm, ⟨44, _⟩ => ⟨S256x32, .i32⟩
  | .hbm, ⟨45, _⟩ => ⟨S256x32, .i32⟩
  | .hbm, ⟨46, _⟩ => ⟨S256x32, .i32⟩
  | .hbm, ⟨47, _⟩ => ⟨S256x32x1, .i32⟩
  | .hbm, ⟨48, _⟩ => ⟨S4x256x32x2x64, .f32⟩
  | .hbm, ⟨49, _⟩ => ⟨S1x1x32x1x64, .f32⟩
  | .hbm, ⟨50, _⟩ => ⟨S4x256x32x2x64, .f32⟩
  | .hbm, ⟨51, _⟩ => ⟨S4x256x32x2x64, .f32⟩
  | .hbm, ⟨52, _⟩ => ⟨S4x256x2x32x64, .f32⟩
  | .hbm, ⟨53, _⟩ => ⟨S4x256x2x2048, .f32⟩
  | .hbm, ⟨54, _⟩ => ⟨S4x256x2x256, .f32⟩
  | .hbm, ⟨55, _⟩ => ⟨S4x256x2x256, .f32⟩
  | .hbm, ⟨56, _⟩ => ⟨S4x256x2x256, .f32⟩
  | .hbm, ⟨57, _⟩ => ⟨S_, .f32⟩
  | .hbm, ⟨58, _⟩ => ⟨S4x256x2x256, .f32⟩
  | .hbm, ⟨59, _⟩ => ⟨S4x256x2x256, .f32⟩
  | .hbm, ⟨60, _⟩ => ⟨S4x256x2x256, .f32⟩
  | .hbm, ⟨61, _⟩ => ⟨S_, .f32⟩
  | .hbm, ⟨62, _⟩ => ⟨S4x256x2x256, .f32⟩
  | .hbm, ⟨63, _⟩ => ⟨S4x256x2x256, .f32⟩
  | .hbm, ⟨64, _⟩ => ⟨S4x256x2x256, .f32⟩
  | .hbm, ⟨65, _⟩ => ⟨S_, .f32⟩
  | .hbm, ⟨66, _⟩ => ⟨S4x256x2x256, .f32⟩
  | .hbm, ⟨67, _⟩ => ⟨S4x256x2x256, .f32⟩
  | .hbm, ⟨68, _⟩ => ⟨S_, .f32⟩
  | .hbm, ⟨69, _⟩ => ⟨S4x256x2x256, .f32⟩
  | .hbm, ⟨70, _⟩ => ⟨S4x256x2x256, .f32⟩
  | .hbm, ⟨71, _⟩ => ⟨S4x256x2x256, .f32⟩
  | .hbm, ⟨72, _⟩ => ⟨S4x256x2x64, .f32⟩
  | .hbm, ⟨73, _⟩ => ⟨S4x2x64x256, .f32⟩
  | .hbm, ⟨74, _⟩ => ⟨S_, .f32⟩
  | .hbm, ⟨75, _⟩ => ⟨S4x2x1x256, .f32⟩
  | .hbm, ⟨76, _⟩ => ⟨S_, .f32⟩
  | .hbm, ⟨77, _⟩ => ⟨S4x2x15x256, .f32⟩
  | .hbm, ⟨78, _⟩ => ⟨S4x2x80x256, .f32⟩
  | .hbm, ⟨79, _⟩ => ⟨S4x2x80x256, .bf16⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v13 : Ref sig .tc := ⟨.hbm, 39, rfl⟩
abbrev main_c_1 : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩

abbrev nD : Nat := 1
abbrev τ : Topo := Topo.v7x

variable {F : FTy → Type} [FloatOps F]
-- ==== Proof.Parts.lean ====
/-
  The body of the attention kernel, part by part, at any value instance: from the staged inputs at given contents and
  the result's staging buffer and the five scratch buffers at anything, each part runs to the same resources. The two
  parts that hold a branch on the grid point (the rank switch and the tail switch) are in `Switch.lean`.
-/
module

public import proofs.«01_k».proof.Proof.Gen.KernelIdeal.Frame
public import proofs.«01_k».proof.Proof.Gen.KernelIdeal.Loops
public import Idealize.ShloMosaic.Lib.Tactic
public import Idealize.ShloMosaic.Lib.Pipeline.Kit

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref owned whole at some contents. -/
abbrev some_ (c : Dev nD) {sh : Shape} {e : EltTy} (M : Memref sig .tc .vmem sh e) : sProp 𝕄 := iprop(∃ x, owns (c : Thread nD τ) M fullShare x)

/-- What every part holds: the staged inputs at their contents, the result's buffer and the scratch at anything. -/
abbrev Held (c : Dev nD) (arg3 : Memref sig .tc .vmem S1x256x256 .bf16) (arg4 : Memref sig .tc .vmem S1x16x256 .f32) (arg5 : Memref sig .tc .vmem S1x1x256x128 .bf16) (arg6 : Memref sig .tc .vmem S1x1x80x256 .bf16) (arg7 : Memref sig .tc .vmem S1x4096x128 .bf16) (arg8 : Memref sig .tc .vmem S1x80x4096 .bf16) (arg9 : Memref sig .tc .vmem S1x4096x128 .bf16) (arg10 : Memref sig .tc .vmem S1x80x4096 .bf16) (arg11 : Memref sig .tc .vmem S64x256 .bf16) (arg12 : Memref sig .tc .vmem S1x1024x128 .bf16) (arg13 : Memref sig .tc .vmem S1x256x256 .bf16) (arg14 : Memref sig .tc .vmem S64x256 .f32) (arg15 : Memref sig .tc .vmem S512x512 .f32) (arg16 : Memref sig .tc .vmem S512x512 .f32) (arg17 : Memref sig .tc .vmem S512x512 .f32) (arg18 : Memref sig .tc .vmem S512x512 .f32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ some_ (F := F) c arg13 ∗ some_ (F := F) c arg14 ∗ some_ (F := F) c arg15 ∗ some_ (F := F) c arg16 ∗ some_ (F := F) c arg17 ∗ some_ (F := F) c arg18)

theorem part341_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole)  (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part341 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) (fun _ => Held (F := F) c arg3 arg4 arg5 arg6 arg7 arg8 arg9 arg10 arg11 arg12 arg13 arg14 arg15 arg16 arg17 arg18 x3 x4 x5 x6 x7 x8 x9 x10 x11 x12) := by
  rw [k0_part341_eq_skeleton]; unfold k0_part341_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part342_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v0 : BitVec 32) (v31 : BitVec 32) (v33 : IVec S1x512 32) (v35 : IVec S1x512 1) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part342 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v0 v31 v33 v35) (fun _ => Held (F := F) c arg3 arg4 arg5 arg6 arg7 arg8 arg9 arg10 arg11 arg12 arg13 arg14 arg15 arg16 arg17 arg18 x3 x4 x5 x6 x7 x8 x9 x10 x11 x12) := by
  rw [k0_part342_eq_skeleton]; unfold k0_part342_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part343_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v73 : FVec F S768x128 .bf16) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part343 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v73) (fun _ => Held (F := F) c arg3 arg4 arg5 arg6 arg7 arg8 arg9 arg10 arg11 arg12 arg13 arg14 arg15 arg16 arg17 arg18 x3 x4 x5 x6 x7 x8 x9 x10 x11 x12) := by
  rw [k0_part343_eq_skeleton]; unfold k0_part343_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part344_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v79 : FVec F S256x512 .f32) (v89 : IVec S256x512 1) (v97 : FVec F S256x512 .bf16) (v107 : FVec F S1x512 .f32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part344 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v79 v89 v97 v107) (fun _ => Held (F := F) c arg3 arg4 arg5 arg6 arg7 arg8 arg9 arg10 arg11 arg12 arg13 arg14 arg15 arg16 arg17 arg18 x3 x4 x5 x6 x7 x8 x9 x10 x11 x12) := by
  rw [k0_part344_eq_skeleton]; unfold k0_part344_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part345_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v0 : BitVec 32) (v17 : FVec F S512x128 .bf16) (v28 : FVec F S512x128 .bf16) (v131 : FVec F S256x512 .bf16) (v141 : FVec F S1x512 .f32) (v151 : FVec F S64x256 .f32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part345 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v17 v28 v131 v141 v151) (fun _ => Held (F := F) c arg3 arg4 arg5 arg6 arg7 arg8 arg9 arg10 arg11 arg12 arg13 arg14 arg15 arg16 arg17 arg18 x3 x4 x5 x6 x7 x8 x9 x10 x11 x12) := by
  rw [k0_part345_eq_skeleton]; unfold k0_part345_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part346_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v57 : BitVec 32) (v60 : BitVec 32) (v63 : BitVec 32) (v158 : FVec F S64x256 .f32) (v171 : IVec S64x1 32) (v174 : IVec S1x256 32) (v176 : IVec S1x256 32) (v190 : IVec S1x256 1) (v192 : IVec S1x256 32) (c0_i32_91 : BitVec 32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part346 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v57 v60 v63 v158 v171 v174 v176 v190 v192 c0_i32_91) (fun _ => Held (F := F) c arg3 arg4 arg5 arg6 arg7 arg8 arg9 arg10 arg11 arg12 arg13 arg14 arg15 arg16 arg17 arg18 x3 x4 x5 x6 x7 x8 x9 x10 x11 x12) := by
  rw [k0_part346_eq_skeleton]; unfold k0_part346_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part347_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v50 : BitVec 32) (v52 : BitVec 32) (v80 : FVec F S768x512 .f32) (v81 : FVec F S768x512 .f32) (v230 : FVec F S80x768 .bf16) (v231 : IVec S256x512 32) (v234 : BitVec 32) (v236 : IVec S256x512 32) (c0_i32_107 : BitVec 32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part347 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v50 v52 v80 v81 v230 v231 v234 v236 c0_i32_107) (fun _ => Held (F := F) c arg3 arg4 arg5 arg6 arg7 arg8 arg9 arg10 arg11 arg12 arg13 arg14 arg15 arg16 arg17 arg18 x3 x4 x5 x6 x7 x8 x9 x10 x11 x12) := by
  rw [k0_part347_eq_skeleton]; unfold k0_part347_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part348_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v0 : BitVec 32) (v50 : BitVec 32) (v52 : BitVec 32) (v81 : FVec F S768x512 .f32) (v230 : FVec F S80x768 .bf16) (v231 : IVec S256x512 32) (v248 : IVec S256x512 32) (v280 : FVec F S256x512 .f32) (v281 : IVec S256x512 1) (v282 : FVec F S256x512 .f32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part348 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v50 v52 v81 v230 v231 v248 v280 v281 v282) (fun _ => Held (F := F) c arg3 arg4 arg5 arg6 arg7 arg8 arg9 arg10 arg11 arg12 arg13 arg14 arg15 arg16 arg17 arg18 x3 x4 x5 x6 x7 x8 x9 x10 x11 x12) := by
  rw [k0_part348_eq_skeleton]; unfold k0_part348_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part350_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v17 : FVec F S512x128 .bf16) (v28 : FVec F S512x128 .bf16) (v351 : FVec F S1x512 .f32) (v352 : FVec F S80x512 .f32) (v353 : FVec F S1x512 .f32) (v354 : FVec F S80x512 .f32) (c2_i32_154 : BitVec 32) (v355 : BitVec 32) (v360 : BitVec 32) (v362 : BitVec 32) (c0_i32_158 : BitVec 32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part350 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v17 v28 v351 v352 v353 v354 c2_i32_154 v355 v360 v362 c0_i32_158) (fun _ => Held (F := F) c arg3 arg4 arg5 arg6 arg7 arg8 arg9 arg10 arg11 arg12 arg13 arg14 arg15 arg16 arg17 arg18 x3 x4 x5 x6 x7 x8 x9 x10 x11 x12) := by
  rw [k0_part350_eq_skeleton]; unfold k0_part350_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem part352_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v110 : FVec F S64x512 .f32) (v144 : FVec F S64x512 .f32) (v279 : FVec F S64x512 .f32) (v310 : FVec F S64x512 .f32) (v423 : FVec F S64x512 .f32) (v429 : FVec F S64x512 .f32) (v438 : FVec F S16x256 .f32) (v442 : FVec F S64x256 .f32) (v443 : FVec F S1x256 .f32) (v444 : FVec F S64x256 .f32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part352 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v110 v144 v279 v310 v423 v429 v438 v442 v443 v444) (fun _ => Held (F := F) c arg3 arg4 arg5 arg6 arg7 arg8 arg9 arg10 arg11 arg12 arg13 arg14 arg15 arg16 arg17 arg18 x3 x4 x5 x6 x7 x8 x9 x10 x11 x12) := by
  rw [k0_part352_eq_skeleton]; unfold k0_part352_skel Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.KernelIdeal.Hand

end
-- ==== Proof.Switch.lean ====
/-
  The two parts of the attention kernel's body that hold a branch on the grid point: the switch over the number of
  ranked rows and the switch over the tail's steps. Each is a nest of conditionals; every branch is run once, whatever
  the conditions say, and ends in the same resources.
-/
module

public import proofs.«01_k».proof.Proof.Parts
public import Idealize.ShloMosaic.Lib.Tactic
public import Idealize.ShloMosaic.Lib.Pipeline.Kit

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The index of the rank switch's branch: the number of ranked rows, in units of 64 compressed blocks, clamped to `0 … 7`. -/
def rankIx (v312 : BitVec 32) (v323 v325 : BitVec 1) : BitVec 32 :=
  let v326 : BitVec 1 := Scalar.andi v323 v325
  let v327 : BitVec 32 := Scalar.subi v312 1#32
  let v328 : BitVec 32 := Scalar.select v326 v327 v312
  let v329 : BitVec 32 := Scalar.muli v328 8#32
  let v330 : BitVec 32 := Scalar.subi v329 1#32
  let v331 : BitVec 32 := Scalar.divsi v330 64#32
  let v332 : BitVec 1 := Scalar.cmpi .sgt v330 0#32
  let v333 : BitVec 32 := Scalar.extui v332
  let v334 : BitVec 1 := Scalar.cmpi .slt v330 0#32
  let v335 : BitVec 32 := Scalar.extui v334
  let v336 : BitVec 32 := Scalar.subi v333 v335
  let v337 : BitVec 1 := Scalar.cmpi .sgt 64#32 0#32
  let v338 : BitVec 32 := Scalar.extui v337
  let v339 : BitVec 1 := Scalar.cmpi .slt 64#32 0#32
  let v340 : BitVec 32 := Scalar.extui v339
  let v341 : BitVec 32 := Scalar.subi v338 v340
  let v342 : BitVec 1 := Scalar.cmpi .ne v336 v341
  let v343 : BitVec 32 := Scalar.remsi v330 64#32
  let v344 : BitVec 1 := Scalar.cmpi .ne v343 0#32
  let v345 : BitVec 1 := Scalar.andi v342 v344
  let v346 : BitVec 32 := Scalar.subi v331 1#32
  let v347 : BitVec 32 := Scalar.select v345 v346 v331
  let v348 : BitVec 32 := Scalar.maxsi v347 0#32
  let v349 : BitVec 32 := Scalar.minsi v348 7#32
  v349

theorem rank0_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1)  (h1 : ¬ (Scalar.cmpi .ne (rankIx v312 v323 v325) 0#32 = 1#1)) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

theorem rank1_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (h1 : Scalar.cmpi .ne (rankIx v312 v323 v325) 0#32 = 1#1) (h2 : ¬ (Scalar.cmpi .ne (Scalar.subi (rankIx v312 v323 v325) 1#32) 0#32 = 1#1)) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

theorem rank2_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (h1 : Scalar.cmpi .ne (rankIx v312 v323 v325) 0#32 = 1#1) (h2 : Scalar.cmpi .ne (Scalar.subi (rankIx v312 v323 v325) 1#32) 0#32 = 1#1) (h3 : ¬ (Scalar.cmpi .ne (Scalar.subi (Scalar.subi (rankIx v312 v323 v325) 1#32) 1#32) 0#32 = 1#1)) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

theorem rank3_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (h1 : Scalar.cmpi .ne (rankIx v312 v323 v325) 0#32 = 1#1) (h2 : Scalar.cmpi .ne (Scalar.subi (rankIx v312 v323 v325) 1#32) 0#32 = 1#1) (h3 : Scalar.cmpi .ne (Scalar.subi (Scalar.subi (rankIx v312 v323 v325) 1#32) 1#32) 0#32 = 1#1) (h4 : ¬ (Scalar.cmpi .ne (Scalar.subi (Scalar.subi (Scalar.subi (rankIx v312 v323 v325) 1#32) 1#32) 1#32) 0#32 = 1#1)) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

theorem rank4_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (h1 : Scalar.cmpi .ne (rankIx v312 v323 v325) 0#32 = 1#1) (h2 : Scalar.cmpi .ne (Scalar.subi (rankIx v312 v323 v325) 1#32) 0#32 = 1#1) (h3 : Scalar.cmpi .ne (Scalar.subi (Scalar.subi (rankIx v312 v323 v325) 1#32) 1#32) 0#32 = 1#1) (h4 : Scalar.cmpi .ne (Scalar.subi (Scalar.subi (Scalar.subi (rankIx v312 v323 v325) 1#32) 1#32) 1#32) 0#32 = 1#1) (h5 : ¬ (Scalar.cmpi .ne (Scalar.subi (Scalar.subi (Scalar.subi (Scalar.subi (rankIx v312 v323 v325) 1#32) 1#32) 1#32) 1#32) 0#32 = 1#1)) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

theorem rank5_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (h1 : Scalar.cmpi .ne (rankIx v312 v323 v325) 0#32 = 1#1) (h2 : Scalar.cmpi .ne (Scalar.subi (rankIx v312 v323 v325) 1#32) 0#32 = 1#1) (h3 : Scalar.cmpi .ne (Scalar.subi (Scalar.subi (rankIx v312 v323 v325) 1#32) 1#32) 0#32 = 1#1) (h4 : Scalar.cmpi .ne (Scalar.subi (Scalar.subi (Scalar.subi (rankIx v312 v323 v325) 1#32) 1#32) 1#32) 0#32 = 1#1) (h5 : Scalar.cmpi .ne (Scalar.subi (Scalar.subi (Scalar.subi (Scalar.subi (rankIx v312 v323 v325) 1#32) 1#32) 1#32) 1#32) 0#32 = 1#1) (h6 : ¬ (Scalar.cmpi .ne (Scalar.subi (Scalar.subi (Scalar.subi (Scalar.subi (Scalar.subi (rankIx v312 v323 v325) 1#32) 1#32) 1#32) 1#32) 1#32) 0#32 = 1#1)) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

theorem rank6_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (h1 : Scalar.cmpi .ne (rankIx v312 v323 v325) 0#32 = 1#1) (h2 : Scalar.cmpi .ne (Scalar.subi (rankIx v312 v323 v325) 1#32) 0#32 = 1#1) (h3 : Scalar.cmpi .ne (Scalar.subi (Scalar.subi (rankIx v312 v323 v325) 1#32) 1#32) 0#32 = 1#1) (h4 : Scalar.cmpi .ne (Scalar.subi (Scalar.subi (Scalar.subi (rankIx v312 v323 v325) 1#32) 1#32) 1#32) 0#32 = 1#1) (h5 : Scalar.cmpi .ne (Scalar.subi (Scalar.subi (Scalar.subi (Scalar.subi (rankIx v312 v323 v325) 1#32) 1#32) 1#32) 1#32) 0#32 = 1#1) (h6 : Scalar.cmpi .ne (Scalar.subi (Scalar.subi (Scalar.subi (Scalar.subi (Scalar.subi (rankIx v312 v323 v325) 1#32) 1#32) 1#32) 1#32) 1#32) 0#32 = 1#1) (h7 : ¬ (Scalar.cmpi .ne (Scalar.subi (Scalar.subi (Scalar.subi (Scalar.subi (Scalar.subi (Scalar.subi (rankIx v312 v323 v325) 1#32) 1#32) 1#32) 1#32) 1#32) 1#32) 0#32 = 1#1)) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

theorem rank7_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (h1 : Scalar.cmpi .ne (rankIx v312 v323 v325) 0#32 = 1#1) (h2 : Scalar.cmpi .ne (Scalar.subi (rankIx v312 v323 v325) 1#32) 0#32 = 1#1) (h3 : Scalar.cmpi .ne (Scalar.subi (Scalar.subi (rankIx v312 v323 v325) 1#32) 1#32) 0#32 = 1#1) (h4 : Scalar.cmpi .ne (Scalar.subi (Scalar.subi (Scalar.subi (rankIx v312 v323 v325) 1#32) 1#32) 1#32) 0#32 = 1#1) (h5 : Scalar.cmpi .ne (Scalar.subi (Scalar.subi (Scalar.subi (Scalar.subi (rankIx v312 v323 v325) 1#32) 1#32) 1#32) 1#32) 0#32 = 1#1) (h6 : Scalar.cmpi .ne (Scalar.subi (Scalar.subi (Scalar.subi (Scalar.subi (Scalar.subi (rankIx v312 v323 v325) 1#32) 1#32) 1#32) 1#32) 1#32) 0#32 = 1#1) (h7 : Scalar.cmpi .ne (Scalar.subi (Scalar.subi (Scalar.subi (Scalar.subi (Scalar.subi (Scalar.subi (rankIx v312 v323 v325) 1#32) 1#32) 1#32) 1#32) 1#32) 1#32) 0#32 = 1#1) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  rw [k0_part349_eq_skeleton]; unfold k0_part349_skel some_ owns
  unfold rankIx at *
  iintro ⟨%x14, %f14, -, H14⟩
  sl_exec_parts
  sl_step
  iexists _; iexists _; isplitr; swap; · iexact H14
  ipureintro; rfl

set_option maxHeartbeats 1600000 in
theorem part349_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) :
    some_ (F := F) c arg14
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => some_ (F := F) c arg14) := by
  by_cases h1 : Scalar.cmpi .ne (rankIx v312 v323 v325) 0#32 = 1#1; swap
  · exact rank0_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1
  by_cases h2 : Scalar.cmpi .ne (Scalar.subi (rankIx v312 v323 v325) 1#32) 0#32 = 1#1; swap
  · exact rank1_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1 h2
  by_cases h3 : Scalar.cmpi .ne (Scalar.subi (Scalar.subi (rankIx v312 v323 v325) 1#32) 1#32) 0#32 = 1#1; swap
  · exact rank2_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1 h2 h3
  by_cases h4 : Scalar.cmpi .ne (Scalar.subi (Scalar.subi (Scalar.subi (rankIx v312 v323 v325) 1#32) 1#32) 1#32) 0#32 = 1#1; swap
  · exact rank3_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1 h2 h3 h4
  by_cases h5 : Scalar.cmpi .ne (Scalar.subi (Scalar.subi (Scalar.subi (Scalar.subi (rankIx v312 v323 v325) 1#32) 1#32) 1#32) 1#32) 0#32 = 1#1; swap
  · exact rank4_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1 h2 h3 h4 h5
  by_cases h6 : Scalar.cmpi .ne (Scalar.subi (Scalar.subi (Scalar.subi (Scalar.subi (Scalar.subi (rankIx v312 v323 v325) 1#32) 1#32) 1#32) 1#32) 1#32) 0#32 = 1#1; swap
  · exact rank5_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1 h2 h3 h4 h5 h6
  by_cases h7 : Scalar.cmpi .ne (Scalar.subi (Scalar.subi (Scalar.subi (Scalar.subi (Scalar.subi (Scalar.subi (rankIx v312 v323 v325) 1#32) 1#32) 1#32) 1#32) 1#32) 1#32) 0#32 = 1#1; swap
  · exact rank6_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1 h2 h3 h4 h5 h6 h7
  exact rank7_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 h1 h2 h3 h4 h5 h6 h7

theorem tail0_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16)  (h1 : ¬ (k0_cond8 i = 1#1)) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem tail1_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) (h1 : k0_cond8 i = 1#1) (h2 : ¬ (k0_cond9 i = 1#1)) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem tail2_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) (h1 : k0_cond8 i = 1#1) (h2 : k0_cond9 i = 1#1) (h3 : ¬ (k0_cond10 i = 1#1)) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem tail3_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) (h1 : k0_cond8 i = 1#1) (h2 : k0_cond9 i = 1#1) (h3 : k0_cond10 i = 1#1) (h4 : ¬ (k0_cond11 i = 1#1)) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem tail4_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) (h1 : k0_cond8 i = 1#1) (h2 : k0_cond9 i = 1#1) (h3 : k0_cond10 i = 1#1) (h4 : k0_cond11 i = 1#1) (h5 : ¬ (k0_cond12 i = 1#1)) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem tail5_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) (h1 : k0_cond8 i = 1#1) (h2 : k0_cond9 i = 1#1) (h3 : k0_cond10 i = 1#1) (h4 : k0_cond11 i = 1#1) (h5 : k0_cond12 i = 1#1) (h6 : ¬ (k0_cond13 i = 1#1)) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem tail6_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) (h1 : k0_cond8 i = 1#1) (h2 : k0_cond9 i = 1#1) (h3 : k0_cond10 i = 1#1) (h4 : k0_cond11 i = 1#1) (h5 : k0_cond12 i = 1#1) (h6 : k0_cond13 i = 1#1) (h7 : ¬ (k0_cond14 i = 1#1)) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

theorem tail7_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) (h1 : k0_cond8 i = 1#1) (h2 : k0_cond9 i = 1#1) (h3 : k0_cond10 i = 1#1) (h4 : k0_cond11 i = 1#1) (h5 : k0_cond12 i = 1#1) (h6 : k0_cond13 i = 1#1) (h7 : k0_cond14 i = 1#1) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  rw [k0_part351_eq_skeleton]; unfold k0_part351_skel some_ owns
  iintro ⟨⟨%f4, %hf4, H4⟩, ⟨%f7, %hf7, H7⟩, ⟨%f8, %hf8, H8⟩, ⟨%x14, %f14, -, H14⟩, ⟨%x15, %f15, -, H15⟩, ⟨%x16, %f16, -, H16⟩, ⟨%x17, %f17, -, H17⟩, ⟨%x18, %f18, -, H18⟩⟩
  subst hf4 hf7 hf8
  sl_exec_parts
  sl_step
  isplitl [H4]
  · iexists f4; isplitr; · ipureintro; rfl
    iexact H4
  isplitl [H7]
  · iexists f7; isplitr; · ipureintro; rfl
    iexact H7
  isplitl [H8]
  · iexists f8; isplitr; · ipureintro; rfl
    iexact H8
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

set_option maxHeartbeats 1600000 in
theorem part351_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x4 : Vec F S1x16x256 .f32) (x7 : Vec F S1x4096x128 .bf16) (x8 : Vec F S1x80x4096 .bf16) :
    iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => iprop(owns (c : Thread nD τ) arg4 fullShare x4 ∗ owns (c : Thread nD τ) arg7 fullShare x7 ∗ owns (c : Thread nD τ) arg8 fullShare x8 ∗ some_ (F := F) c arg14 ∗ some_ (F := F) c arg15 ∗ some_ (F := F) c arg16 ∗ some_ (F := F) c arg17 ∗ some_ (F := F) c arg18)) := by
  by_cases h1 : k0_cond8 i = 1#1; swap
  · exact tail0_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1
  by_cases h2 : k0_cond9 i = 1#1; swap
  · exact tail1_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1 h2
  by_cases h3 : k0_cond10 i = 1#1; swap
  · exact tail2_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1 h2 h3
  by_cases h4 : k0_cond11 i = 1#1; swap
  · exact tail3_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1 h2 h3 h4
  by_cases h5 : k0_cond12 i = 1#1; swap
  · exact tail4_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1 h2 h3 h4 h5
  by_cases h6 : k0_cond13 i = 1#1; swap
  · exact tail5_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1 h2 h3 h4 h5 h6
  by_cases h7 : k0_cond14 i = 1#1; swap
  · exact tail6_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1 h2 h3 h4 h5 h6 h7
  exact tail7_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8 h1 h2 h3 h4 h5 h6 h7

end Cert.KernelIdeal.Hand

end
-- ==== Proof.Body.lean ====
/-
  The attention kernel's launch at any value instance: the parts chained into the body, the body's obligation at a grid
  point, and the run, whose final state has every argument array as it was and every counter at zero. The result's
  staging buffer is forgotten between points, so nothing is said here of the result's values.
-/
module

public import proofs.«01_k».proof.Proof.Parts
public import proofs.«01_k».proof.Proof.Switch

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A program bound to its continuation, through an assertion that holds of every value between the two. -/
theorem wp_bind_of {α β : Type} {defs : Defs nD τ sig (Elt F) Λ₀} {c : Dev nD} {E : Set ℕ} {P R : sProp 𝕄}
    {p : Prog (TpuEff nD τ sig (Elt F) Λ₀ .tc) α} {k : α → Prog (TpuEff nD τ sig (Elt F) Λ₀ .tc) β} {Q : β → sProp 𝕄}
    (hp : P ⊢ wp frame (wpE defs Variants.none (c : Thread nD τ) none) E p (fun _ => R))
    (hk : ∀ a, R ⊢ wp frame (wpE defs Variants.none (c : Thread nD τ) none) E (k a) Q) :
    P ⊢ wp frame (wpE defs Variants.none (c : Thread nD τ) none) E (p >>= k) Q := by
  rw [wp_bind]; exact hp.trans (wp_mono _ _ _ hk)

/-- A program that needs only `S` runs beside any frame `R`. -/
theorem wp_beside {α : Type} {defs : Defs nD τ sig (Elt F) Λ₀} {c : Dev nD} {E : Set ℕ} {S R P : sProp 𝕄}
    {p : Prog (TpuEff nD τ sig (Elt F) Λ₀ .tc) α}
    (hs : S ⊢ wp frame (wpE defs Variants.none (c : Thread nD τ) none) E p (fun _ => S))
    (hP : P ⊢ iprop(S ∗ R)) (hP' : iprop(S ∗ R) ⊢ P) :
    P ⊢ wp frame (wpE defs Variants.none (c : Thread nD τ) none) E p (fun _ => P) :=
  hP.trans ((sep_mono_l hs).trans ((wp_frame_r _ _ _).trans (wp_mono _ _ _ fun _ => hP')))

/-- Part 349 in the company of the resources it does not touch. -/
theorem part349_held (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg2 : BitVec 32) (v220 : FVec F S64x256 .f32) (v312 : BitVec 32) (v323 : BitVec 1) (v325 : BitVec 1) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part349 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) (fun _ => Held (F := F) c arg3 arg4 arg5 arg6 arg7 arg8 arg9 arg10 arg11 arg12 arg13 arg14 arg15 arg16 arg17 arg18 x3 x4 x5 x6 x7 x8 x9 x10 x11 x12) := by
  refine wp_beside (R := iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ some_ (F := F) c arg13 ∗ some_ (F := F) c arg15 ∗ some_ (F := F) c arg16 ∗ some_ (F := F) c arg17 ∗ some_ (F := F) c arg18)) (part349_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325) ?_ ?_
  · unfold Held
    iintro ⟨H3, H4, H5, H6, H7, H8, H9, H10, H11, H12, H13, H14, H15, H16, H17, H18⟩
    isplitl [H14]
    · iexact H14
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [H16]; · iexact H16
    isplitl [H17]; · iexact H17
    iexact H18
  · unfold Held
    iintro ⟨H14, H3, H4, H5, H6, H7, H8, H9, H10, H11, H12, H13, H15, H16, H17, H18⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- Part 351 in the company of the resources it does not touch. -/
theorem part351_held (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (v17 : FVec F S512x128 .bf16) (v28 : FVec F S512x128 .bf16) (v47 : IVec S1x512 32) (v48 : IVec S512x1 32) (v110 : FVec F S64x512 .f32) (v371 : BitVec 32) (v388 : BitVec 32) (v395_0 : FVec F S1x512 .f32) (v395_1 : FVec F S80x512 .f32) (v395_2 : FVec F S1x512 .f32) (v395_3 : FVec F S80x512 .f32) (v396 : BitVec 32) (v397 : BitVec 32) (v398 : BitVec 32) (v399 : BitVec 32) (v400 : BitVec 32) (v401 : BitVec 32) (v402 : BitVec 32) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (k0_part351 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402) (fun _ => Held (F := F) c arg3 arg4 arg5 arg6 arg7 arg8 arg9 arg10 arg11 arg12 arg13 arg14 arg15 arg16 arg17 arg18 x3 x4 x5 x6 x7 x8 x9 x10 x11 x12) := by
  refine wp_beside (R := iprop(owns (c : Thread nD τ) arg3 fullShare x3 ∗ owns (c : Thread nD τ) arg5 fullShare x5 ∗ owns (c : Thread nD τ) arg6 fullShare x6 ∗ owns (c : Thread nD τ) arg9 fullShare x9 ∗ owns (c : Thread nD τ) arg10 fullShare x10 ∗ owns (c : Thread nD τ) arg11 fullShare x11 ∗ owns (c : Thread nD τ) arg12 fullShare x12 ∗ some_ (F := F) c arg13)) (part351_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x4 x7 x8) ?_ ?_
  · unfold Held
    iintro ⟨H3, H4, H5, H6, H7, H8, H9, H10, H11, H12, H13, H14, H15, H16, H17, H18⟩
    isplitl [H4 H7 H8 H14 H15 H16 H17 H18]
    · isplitl [H4]; · iexact H4
      isplitl [H7]; · iexact H7
      isplitl [H8]; · iexact H8
      isplitl [H14]; · iexact H14
      isplitl [H15]; · iexact H15
      isplitl [H16]; · iexact H16
      isplitl [H17]; · iexact H17
      iexact H18
    isplitl [H3]; · iexact H3
    isplitl [H5]; · iexact H5
    isplitl [H6]; · iexact H6
    isplitl [H9]; · iexact H9
    isplitl [H10]; · iexact H10
    isplitl [H11]; · iexact H11
    isplitl [H12]; · iexact H12
    iexact H13
  · unfold Held
    iintro ⟨⟨H4, H7, H8, H14, H15, H16, H17, H18⟩, H3, H5, H6, H9, H10, H11, H12, H13⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

set_option maxHeartbeats 4000000 in
/-- The whole body at one grid point: the twelve parts in order, then the result's store. -/
theorem kernel_run (c : Dev nD) (E : Set ℕ) (i : grid0.Coords) (arg3 : Memref sig .tc .vmem S1x256x256 .bf16) (harg3 : arg3.IsWhole) (arg4 : Memref sig .tc .vmem S1x16x256 .f32) (harg4 : arg4.IsWhole) (arg5 : Memref sig .tc .vmem S1x1x256x128 .bf16) (harg5 : arg5.IsWhole) (arg6 : Memref sig .tc .vmem S1x1x80x256 .bf16) (harg6 : arg6.IsWhole) (arg7 : Memref sig .tc .vmem S1x4096x128 .bf16) (harg7 : arg7.IsWhole) (arg8 : Memref sig .tc .vmem S1x80x4096 .bf16) (harg8 : arg8.IsWhole) (arg9 : Memref sig .tc .vmem S1x4096x128 .bf16) (harg9 : arg9.IsWhole) (arg10 : Memref sig .tc .vmem S1x80x4096 .bf16) (harg10 : arg10.IsWhole) (arg11 : Memref sig .tc .vmem S64x256 .bf16) (harg11 : arg11.IsWhole) (arg12 : Memref sig .tc .vmem S1x1024x128 .bf16) (harg12 : arg12.IsWhole) (arg13 : Memref sig .tc .vmem S1x256x256 .bf16) (harg13 : arg13.IsWhole) (arg14 : Memref sig .tc .vmem S64x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (x3 : Vec F S1x256x256 .bf16) (x4 : Vec F S1x16x256 .f32) (x5 : Vec F S1x1x256x128 .bf16) (x6 : Vec F S1x1x80x256 .bf16) (x7 : Vec F S1x4096x128 .bf16) (x8 : Vec F S1x80x4096 .bf16) (x9 : Vec F S1x4096x128 .bf16) (x10 : Vec F S1x80x4096 .bf16) (x11 : Vec F S64x256 .bf16) (x12 : Vec F S1x1024x128 .bf16) :
    Held (F := F) c arg3 arg4 arg5 arg6 arg7 arg8 arg9 arg10 arg11 arg12 arg13 arg14 arg15 arg16 arg17 arg18 x3 x4 x5 x6 x7 x8 x9 x10 x11 x12
      ⊢ wp frame (wpE (defs₀ (F := F)) Variants.none c none) E (cc0_nsa i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => Held (F := F) c arg3 arg4 arg5 arg6 arg7 arg8 arg9 arg10 arg11 arg12 arg13 arg14 arg15 arg16 arg17 arg18 x3 x4 x5 x6 x7 x8 x9 x10 x11 x12) := by
  rw [cc0_nsa_eq_skeleton]; unfold cc0_nsa_skel
  have h := part341_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  x3 x4 x5 x6 x7 x8 x9 x10 x11 x12
  apply wp_bind_of h
  clear h
  rintro ⟨arg2, v0, v17, v28, v31, v33, v35⟩
  dsimp only
  have h := part342_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v0 v31 v33 v35 x3 x4 x5 x6 x7 x8 x9 x10 x11 x12
  apply wp_bind_of h
  clear h
  rintro ⟨v47, v48, v50, v52, v57, v60, v63, v73⟩
  dsimp only
  have h := part343_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v73 x3 x4 x5 x6 x7 x8 x9 x10 x11 x12
  apply wp_bind_of h
  clear h
  rintro ⟨v79, v80, v81, v89, v97, v107, v110⟩
  dsimp only
  have h := part344_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v79 v89 v97 v107 x3 x4 x5 x6 x7 x8 x9 x10 x11 x12
  apply wp_bind_of h
  clear h
  rintro ⟨v131, v141, v144, v151⟩
  dsimp only
  have h := part345_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v17 v28 v131 v141 v151 x3 x4 x5 x6 x7 x8 x9 x10 x11 x12
  apply wp_bind_of h
  clear h
  rintro ⟨v158, v171, v174, v176, v190, v192, c0_i32_91⟩
  dsimp only
  have h := part346_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v57 v60 v63 v158 v171 v174 v176 v190 v192 c0_i32_91 x3 x4 x5 x6 x7 x8 x9 x10 x11 x12
  apply wp_bind_of h
  clear h
  rintro ⟨v220, v230, v231, v234, v236, c0_i32_107⟩
  dsimp only
  have h := part347_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v50 v52 v80 v81 v230 v231 v234 v236 c0_i32_107 x3 x4 x5 x6 x7 x8 x9 x10 x11 x12
  apply wp_bind_of h
  clear h
  rintro ⟨v248, v279, v280, v281, v282⟩
  dsimp only
  have h := part348_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v50 v52 v81 v230 v231 v248 v280 v281 v282 x3 x4 x5 x6 x7 x8 x9 x10 x11 x12
  apply wp_bind_of h
  clear h
  rintro ⟨v310, v312, v323, v325⟩
  dsimp only
  have h := part349_held c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v220 v312 v323 v325 x3 x4 x5 x6 x7 x8 x9 x10 x11 x12
  apply wp_bind_of h
  clear h
  rintro ⟨v351, v352, v353, v354, c2_i32_154, v355, v360, v362, c0_i32_158⟩
  dsimp only
  have h := part350_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v17 v28 v351 v352 v353 v354 c2_i32_154 v355 v360 v362 c0_i32_158 x3 x4 x5 x6 x7 x8 x9 x10 x11 x12
  apply wp_bind_of h
  clear h
  rintro ⟨v371, v388, v395_0, v395_1, v395_2, v395_3, v396, v397, v398, v399, v400, v401, v402⟩
  dsimp only
  have h := part351_held c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v17 v28 v47 v48 v110 v371 v388 v395_0 v395_1 v395_2 v395_3 v396 v397 v398 v399 v400 v401 v402 x3 x4 x5 x6 x7 x8 x9 x10 x11 x12
  apply wp_bind_of h
  clear h
  rintro ⟨v423, v429, v438, v442, v443, v444⟩
  dsimp only
  have h := part352_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v110 v144 v279 v310 v423 v429 v438 v442 v443 v444 x3 x4 x5 x6 x7 x8 x9 x10 x11 x12
  apply wp_bind_of h
  clear h
  rintro ⟨v500, v501⟩
  dsimp only
  unfold Held some_ owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%x13, %f13, -, H13⟩, ⟨%x14, %f14, -, H14⟩, ⟨%x15, %f15, -, H15⟩, ⟨%x16, %f16, -, H16⟩, ⟨%x17, %f17, -, H17⟩, ⟨%x18, %f18, -, H18⟩⟩
  subst hf3 hf4 hf5 hf6 hf7 hf8 hf9 hf10 hf11 hf12
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

/-! ## The proof data and the body obligation -/

variable (m : (ℓ : Loc nD τ sig) → Buf (Elt F) ℓ) (ρ : Dev nD → PrngReg)

/-- The output window alone is forgotten. -/
def forgets0 : Fin 11 → Bool := fun w => w == 10

/-- The proof data on core `c`: the arrays as the region finds them; each input's buffer at its block after every
    point; the output's left unnamed; an array staged twice held by shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The invariant, conjunct by conjunct: the five scratch buffers at some contents, the generator register at some state. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA; rw [scopedRest0_eq]; simp only [owns_whole]

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare d))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ d, owns (c : Thread nD τ) (st0_10 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply (wp_wand_r Idealize.ShloMosaic.frame (wpE (defs₀ (F := F)) Variants.none (c : Thread nD τ) none) Set.univ)
  isplitl [H0 H1 H2 H3 H4 H5 H6 H7 H8 H9 H10 S0 S1 S2 S3 S4]
  · iapply (kernel_run c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t))
    unfold Held some_
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    iexact S4
  unfold Held some_
  iintro %_ ⟨H0, H1, H2, H3, H4, H5, H6, H7, H8, H9, H10, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the launch theorem's implicit arguments are found by unifying its conclusion with this statement, which takes
-- unfolding plain definitions in a metavariable's type
set_option backward.isDefEq.respectTransparency.types false in
set_option maxHeartbeats 800000 in
/-- Every weakly fair execution terminates, with every input array as the region found it and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m ρ} in
/-- An input window's array ends as it began. -/
theorem input_kept {r : PUnit × MemSt nD τ sig (Elt F)}
    (h : Pipeline.RDat.FramePost (cfgs 0) (fun c => (dats (F := F) m 0 c).toRForget forgets0) (V m) r) (c : Dev nD)
    (w : Fin 11) (hw : forgets0 w = false) (hin : (cfg0.win w).isOut = false) :
    r.2.mem ((cfg0.spec w).arr.view.loc (c : Thread nD τ)) = V m c (Pipeline.arrRef spec0 w) :=
  (((dats m 0 c).toRForget_arrAt_iff hw _ _).mp ((h c).1 w)).trans (((dats m 0 c).arrAt_in w hin _).trans (A_eq m c w))

/-- The frame, at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(input_kept h.1 c 0 rfl rfl).trans (V_main_arg0 m c),
    (input_kept h.1 c 1 rfl rfl).trans (V_main_arg1 m c),
    (input_kept h.1 c 2 rfl rfl).trans (V_main_arg2 m c),
    (input_kept h.1 c 3 rfl rfl).trans (V_main_arg3 m c),
    (input_kept h.1 c 4 rfl rfl).trans (V_main_arg4 m c),
    (input_kept h.1 c 6 rfl rfl).trans (V_main_arg5 m c),
    (input_kept h.1 c 5 rfl rfl).trans (V_main_arg6 m c),
    (input_kept h.1 c 8 rfl rfl).trans (V_main_arg7 m c),
    (input_kept h.1 c 9 rfl rfl).trans (V_main_arg8 m c)⟩, h.2⟩) (run_main m ρ)

end Cert.KernelIdeal.Hand

end
-- ==== Proof.PostParts.lean ====
module

public import proofs.«01_k».proof.Proof.Gen.Kernel2Ideal.Frame

@[expose] public section

/-! # The post call: one row part as one expression

The body stores four row parts of 256 rows.  The payload of each store is the same composition of
mixing product, layer norm, modulation, gated feed-forward and layer norm, at other rows of the blocks:
`postP`. -/

set_option maxRecDepth 16384

noncomputable section

open Idealize.ShloMosaic Idealize.ShloMosaic.TcCoe Idealize.SL.Sem

namespace Cert.Kernel2Ideal.Post

open Cert.Kernel2Ideal Cert.Kernel2Ideal.Gen

variable {F : FTy → Type} [FloatOps F]

/-- The sigmoid of a 768-column chunk as the body computes it. -/
def sig768 (u : FVec F S256x768 .f32) : FVec F S256x768 .f32 :=
  divf (broadcast S256x768 (Scalar.ofBits .f32 0x3F800000#32))
    (addf (broadcast S256x768 (Scalar.ofBits .f32 0x3F800000#32))
      (exp (subf (broadcast S256x768 (Scalar.ofBits .f32 0x00000000#32)) u)))

/-- The gated activation of a 768-column chunk. -/
def act768 (u w : FVec F S256x768 .f32) : FVec F S256x768 .bf16 :=
  truncf .bf16 (mulf (mulf u (sig768 u)) w) bitsLt_bf16_f32

/-- The gated activation of the last, 512-column chunk. -/
def act512 (u w : FVec F S256x512 .f32) : FVec F S256x512 .bf16 :=
  truncf .bf16 (mulf (mulf u (divf (broadcast S256x512 (Scalar.ofBits .f32 0x3F800000#32))
    (addf (broadcast S256x512 (Scalar.ofBits .f32 0x3F800000#32))
      (exp (subf (broadcast S256x512 (Scalar.ofBits .f32 0x00000000#32)) u))))) w) bitsLt_bf16_f32

/-- The four activation chunks side by side. -/
def actP (u0 w0 u1 w1 u2 w2 : FVec F S256x768 .f32) (u3 w3 : FVec F S256x512 .f32) : FVec F S256x2816 .bf16 :=
  concatenate S256x2816 1 [⟨S256x768, act768 u0 w0⟩, ⟨S256x768, act768 u1 w1⟩, ⟨S256x768, act768 u2 w2⟩,
    ⟨S256x512, act512 u3 w3⟩] concatenates_S256x768_S256x768_S256x768_S256x512_S256x2816_d1

/-- The down projection. -/
def downP (a : FVec F S256x2816 .bf16) (w : Vec F S2816x1024 .bf16) : FVec F S256x1024 .f32 :=
  matmul dot_S256x2816_S2816x1024_S256x1024_1_0_0_1_n_n none a
    (shapeCast S2816x1024 w shapeCasts_S2816x1024_S2816x1024) (constant S256x1024 .f32 0x00000000#32)

/-- The activations from the modulated rows and the two up projections' column chunks. -/
def ffP (h : FVec F S256x1024 .bf16) (a0 b0 a1 b1 a2 b2 : Vec F S1024x768 .bf16) (a3 b3 : Vec F S1024x512 .bf16) :
    FVec F S256x2816 .bf16 :=
  actP (k0_pay16 h a0) (k0_pay16 h b0) (k0_pay16 h a1) (k0_pay16 h b1) (k0_pay16 h a2) (k0_pay16 h b2)
    (k0_pay20 h a3) (k0_pay20 h b3)

/-- One row part, from the rows and the gate vectors, the weights and the norms' parameters. -/
def postP (x : Vec F S1x256x1024 .f32) (yh yn : Vec F S1x256x512 .bf16) (g1 sh2 sc2 g2 : FVec F S1x1024 .f32)
    (wh wn : Vec F S512x1024 .bf16) (a0 b0 a1 b1 a2 b2 : Vec F S1024x768 .bf16) (a3 b3 : Vec F S1024x512 .bf16)
    (w2 : Vec F S2816x1024 .bf16) (l1g l1b l2g l2b : Vec F S1x1024 .f32) : FVec F S1x256x1024 .f32 :=
  k0_pay78 (k0_pay77 g2 (k0_pay11 g1 (k0_pay6 yh wh yn wn) x l1g l1b)
    (downP (ffP (k0_pay12 g1 sh2 sc2 (k0_pay6 yh wh yn wn) x l1g l1b) a0 b0 a1 b1 a2 b2 a3 b3) w2) l2g l2b)

/-! ## The values of each part that the body names apart, in those terms -/

section Parts

variable (g1 sh2 sc2 g2 : FVec F S1x1024 .f32) (mix : FVec F S256x1024 .f32) (x : Vec F S1x256x1024 .f32)
  (g b : Vec F S1x1024 .f32) (h : FVec F S256x1024 .bf16) (w : Vec F S1024x768 .bf16) (w' : Vec F S1024x512 .bf16)
  (u0 w0 u1 w1 u2 w2 : FVec F S256x768 .f32) (u3 w3 : FVec F S256x512 .f32) (wd : Vec F S2816x1024 .bf16)
  (x1 dn : FVec F S256x1024 .f32)

theorem p1_u0 : k0_pay13 g1 sh2 sc2 mix x g b w = k0_pay16 (k0_pay12 g1 sh2 sc2 mix x g b) w := rfl

theorem p1_w0 : k0_pay15 h (k0_pay14 w) = k0_pay16 h w := rfl

theorem p1_17 : k0_pay17 h w = k0_pay16 h w := rfl

theorem p1_18 : k0_pay18 h w = k0_pay16 h w := rfl

theorem p1_19 : k0_pay19 h w = k0_pay16 h w := rfl

theorem p1_21 : k0_pay21 h w' = k0_pay20 h w' := rfl

theorem p1_act : k0_pay62 u1 w1 u2 w2 u3 w3 (k0_pay59 u0 w0) (k0_pay60 u1) k0_pay61 wd = downP (actP u0 w0 u1 w1 u2 w2 u3 w3) wd := rfl

theorem p1_out : k0_pay76 (k0_pay72 g) (k0_pay73 b) (k0_pay74 g2 x1 dn) (k0_pay75 g2 x1 dn) = k0_pay78 (k0_pay77 g2 x1 dn g b) := rfl

theorem p2_mix (yh : Vec F S1x256x512 .bf16) (wh : Vec F S512x1024 .bf16) (yn : Vec F S1x256x512 .bf16) (wn : Vec F S512x1024 .bf16) : k0_pay8 (k0_pay7 yh wh) yn wn = k0_pay6 yh wh yn wn := rfl

theorem p2_x1 : k0_pay26 (k0_pay22 g1 mix x) (k0_pay23 g) (k0_pay24 b) (k0_pay25 g1 mix x) = k0_pay11 g1 mix x g b := rfl

theorem p2_h : k0_pay27 sh2 sc2 (k0_pay22 g1 mix x) (k0_pay23 g) (k0_pay24 b) (k0_pay25 g1 mix x) = k0_pay12 g1 sh2 sc2 mix x g b := rfl

theorem p2_28 : k0_pay28 sh2 sc2 (k0_pay22 g1 mix x) (k0_pay23 g) (k0_pay24 b) (k0_pay25 g1 mix x) w = k0_pay16 (k0_pay12 g1 sh2 sc2 mix x g b) w := rfl

theorem p2_29 : k0_pay29 sh2 sc2 (k0_pay22 g1 mix x) (k0_pay23 g) (k0_pay24 b) (k0_pay25 g1 mix x) w = k0_pay16 (k0_pay12 g1 sh2 sc2 mix x g b) w := rfl

theorem p2_30 : k0_pay30 sh2 sc2 (k0_pay22 g1 mix x) (k0_pay23 g) (k0_pay24 b) (k0_pay25 g1 mix x) w = k0_pay16 (k0_pay12 g1 sh2 sc2 mix x g b) w := rfl

theorem p2_31 : k0_pay31 sh2 sc2 (k0_pay22 g1 mix x) (k0_pay23 g) (k0_pay24 b) (k0_pay25 g1 mix x) w = k0_pay16 (k0_pay12 g1 sh2 sc2 mix x g b) w := rfl

theorem p2_32 : k0_pay32 sh2 sc2 (k0_pay22 g1 mix x) (k0_pay23 g) (k0_pay24 b) (k0_pay25 g1 mix x) w = k0_pay16 (k0_pay12 g1 sh2 sc2 mix x g b) w := rfl

theorem p2_33 : k0_pay33 h w = k0_pay16 h w := rfl

theorem p2_34 : k0_pay34 h w' = k0_pay20 h w' := rfl

theorem p2_35 : k0_pay35 h w' = k0_pay20 h w' := rfl

theorem p2_act : k0_pay65 u1 w1 u2 w2 u3 w3 (k0_pay63 u0 w0) (k0_pay64 u1) wd = downP (actP u0 w0 u1 w1 u2 w2 u3 w3) wd := rfl

theorem p3_mix (yh : Vec F S1x256x512 .bf16) (wh : Vec F S512x1024 .bf16) (yn : Vec F S1x256x512 .bf16) (wn : Vec F S512x1024 .bf16) : k0_pay9 yh wh yn wn = k0_pay6 yh wh yn wn := rfl

theorem p3_x1 : k0_pay38 (k0_pay36 b) (k0_pay37 g1 mix x g) = k0_pay11 g1 mix x g b := rfl

theorem p3_40 : k0_pay40 sh2 sc2 (k0_pay36 b) (k0_pay37 g1 mix x g) w = k0_pay16 (k0_pay12 g1 sh2 sc2 mix x g b) w := rfl

theorem p3_41 : k0_pay41 sh2 sc2 (k0_pay36 b) (k0_pay37 g1 mix x g) w = k0_pay16 (k0_pay12 g1 sh2 sc2 mix x g b) w := rfl

theorem p3_42 : k0_pay42 sh2 sc2 (k0_pay36 b) (k0_pay37 g1 mix x g) w = k0_pay16 (k0_pay12 g1 sh2 sc2 mix x g b) w := rfl

theorem p3_43 : k0_pay43 sh2 sc2 (k0_pay36 b) (k0_pay37 g1 mix x g) w = k0_pay16 (k0_pay12 g1 sh2 sc2 mix x g b) w := rfl

theorem p3_44 : k0_pay44 sh2 sc2 (k0_pay36 b) (k0_pay37 g1 mix x g) w = k0_pay16 (k0_pay12 g1 sh2 sc2 mix x g b) w := rfl

theorem p3_45 : k0_pay45 sh2 sc2 (k0_pay36 b) (k0_pay37 g1 mix x g) w = k0_pay16 (k0_pay12 g1 sh2 sc2 mix x g b) w := rfl

theorem p3_46 : k0_pay46 sh2 sc2 (k0_pay36 b) (k0_pay37 g1 mix x g) w' = k0_pay20 (k0_pay12 g1 sh2 sc2 mix x g b) w' := rfl

theorem p3_47 : k0_pay47 sh2 sc2 (k0_pay36 b) (k0_pay37 g1 mix x g) w' = k0_pay20 (k0_pay12 g1 sh2 sc2 mix x g b) w' := rfl

theorem p3_act : k0_pay68 w1 u2 w2 u3 w3 (k0_pay66 u0 w0) (k0_pay67 u1) wd = downP (actP u0 w0 u1 w1 u2 w2 u3 w3) wd := rfl

theorem p3_out : k0_pay79 g2 x1 dn g b = k0_pay78 (k0_pay77 g2 x1 dn g b) := rfl

theorem p4_mix (yh : Vec F S1x256x512 .bf16) (wh : Vec F S512x1024 .bf16) (yn : Vec F S1x256x512 .bf16) (wn : Vec F S512x1024 .bf16) : k0_pay10 yh wh yn wn = k0_pay6 yh wh yn wn := rfl

theorem p4_x1 : k0_pay48 g1 mix x g b = k0_pay11 g1 mix x g b := rfl

theorem p4_h : k0_pay49 g1 sh2 sc2 mix x g b = k0_pay12 g1 sh2 sc2 mix x g b := rfl

theorem p4_u0 : k0_pay50 g1 sh2 sc2 mix x g b w = k0_pay16 (k0_pay12 g1 sh2 sc2 mix x g b) w := rfl

theorem p4_w0 : k0_pay52 h (k0_pay51 w) = k0_pay16 h w := rfl

theorem p4_53 : k0_pay53 h w = k0_pay16 h w := rfl

theorem p4_54 : k0_pay54 h w = k0_pay16 h w := rfl

theorem p4_55 : k0_pay55 h w = k0_pay16 h w := rfl

theorem p4_56 : k0_pay56 h w = k0_pay16 h w := rfl

theorem p4_57 : k0_pay57 h w' = k0_pay20 h w' := rfl

theorem p4_58 : k0_pay58 h w' = k0_pay20 h w' := rfl

theorem p4_act : k0_pay71 u2 w2 u3 w3 (k0_pay69 u0 w0) (k0_pay70 u1 w1) wd = downP (actP u0 w0 u1 w1 u2 w2 u3 w3) wd := rfl

theorem p4_out : k0_pay1 (k0_pay80 g2 x1 dn) g b = k0_pay78 (k0_pay77 g2 x1 dn g b) := rfl

end Parts

set_option maxHeartbeats 2000000 in
/-- Row part 4 is `postP` of its rows. -/
theorem piece4 (x0 : Vec F S1x1024x1024 .f32) (x1 : Vec F S1x1024x512 .bf16) (x2 : Vec F S1x1024x512 .bf16) (x3 : Vec F S1x6x1x1024 .f32) (x4 : Vec F S512x1024 .bf16) (x5 : Vec F S512x1024 .bf16) (x6 : Vec F S1024x2816 .bf16) (x7 : Vec F S1024x2816 .bf16) (x8 : Vec F S2816x1024 .bf16) (x9 : Vec F S1x1024 .f32) (x10 : Vec F S1x1024 .f32) (x11 : Vec F S1x1024 .f32) (x12 : Vec F S1x1024 .f32) :
    k0_pay1 (k0_pay80 (k0_pay84 x0 x1 x2 x3 x4 x5 x6 x7 x8 x9 x10 x11 x12) (k0_pay48 (k0_pay81 x0 x1 x2 x3 x4 x5 x6 x7 x8 x9 x10 x11 x12) (k0_pay87 x0 x1 x2 x3 x4 x5 x6 x7 x8 x9 x10 x11 x12) (View.ld x0 r0_17) (View.ld x9 r0_10) (View.ld x10 r0_10)) (k0_pay71 (k0_pay55 (k0_pay99 x0 x1 x2 x3 x4 x5 x6 x7 x8 x9 x10 x11 x12) (View.ld x6 r0_13)) (k0_pay56 (k0_pay99 x0 x1 x2 x3 x4 x5 x6 x7 x8 x9 x10 x11 x12) (View.ld x7 r0_13)) (k0_pay57 (k0_pay99 x0 x1 x2 x3 x4 x5 x6 x7 x8 x9 x10 x11 x12) (View.ld x6 r0_14)) (k0_pay58 (k0_pay99 x0 x1 x2 x3 x4 x5 x6 x7 x8 x9 x10 x11 x12) (View.ld x7 r0_14)) (k0_pay69 (k0_pay50 (k0_pay81 x0 x1 x2 x3 x4 x5 x6 x7 x8 x9 x10 x11 x12) (k0_pay82 x0 x1 x2 x3 x4 x5 x6 x7 x8 x9 x10 x11 x12) (k0_pay83 x0 x1 x2 x3 x4 x5 x6 x7 x8 x9 x10 x11 x12) (k0_pay87 x0 x1 x2 x3 x4 x5 x6 x7 x8 x9 x10 x11 x12) (View.ld x0 r0_17) (View.ld x9 r0_10) (View.ld x10 r0_10) (View.ld x6 r0_11)) (k0_pay52 (k0_pay99 x0 x1 x2 x3 x4 x5 x6 x7 x8 x9 x10 x11 x12) (k0_pay51 (View.ld x7 r0_11)))) (k0_pay70 (k0_pay53 (k0_pay99 x0 x1 x2 x3 x4 x5 x6 x7 x8 x9 x10 x11 x12) (View.ld x6 r0_12)) (k0_pay54 (k0_pay99 x0 x1 x2 x3 x4 x5 x6 x7 x8 x9 x10 x11 x12) (View.ld x7 r0_12))) (View.ld x8 r0_18))) (View.ld x11 r0_10) (View.ld x12 r0_10)
      = postP (View.ld x0 r0_17) (View.ld x1 r0_8) (View.ld x2 r0_8) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10) := by
  simp only [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
  simp only [p4_mix, p4_x1, p4_h, p4_u0, p4_w0, p4_53, p4_54, p4_55, p4_56, p4_57, p4_58, p4_act, p4_out, postP, ffP]

set_option maxHeartbeats 2000000 in
/-- Row part 3 is `postP` of its rows. -/
theorem piece3 (x0 : Vec F S1x1024x1024 .f32) (x1 : Vec F S1x1024x512 .bf16) (x2 : Vec F S1x1024x512 .bf16) (x3 : Vec F S1x6x1x1024 .f32) (x4 : Vec F S512x1024 .bf16) (x5 : Vec F S512x1024 .bf16) (x6 : Vec F S1024x2816 .bf16) (x7 : Vec F S1024x2816 .bf16) (x8 : Vec F S2816x1024 .bf16) (x9 : Vec F S1x1024 .f32) (x10 : Vec F S1x1024 .f32) (x11 : Vec F S1x1024 .f32) (x12 : Vec F S1x1024 .f32) :
    k0_pay79 (k0_pay84 x0 x1 x2 x3 x4 x5 x6 x7 x8 x9 x10 x11 x12) (k0_pay38 (k0_pay97 x0 x1 x2 x3 x4 x5 x6 x7 x8 x9 x10 x11 x12) (k0_pay98 x0 x1 x2 x3 x4 x5 x6 x7 x8 x9 x10 x11 x12)) (k0_pay68 (k0_pay43 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x7 r0_12)) (k0_pay44 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x6 r0_13)) (k0_pay45 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x7 r0_13)) (k0_pay46 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x6 r0_14)) (k0_pay47 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x7 r0_14)) (k0_pay66 (k0_pay40 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x6 r0_11)) (k0_pay41 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x7 r0_11))) (k0_pay67 (k0_pay42 (k0_pay82 x0 x1 x2 x3 x4 x5 x6 x7 x8 x9 x10 x11 x12) (k0_pay83 x0 x1 x2 x3 x4 x5 x6 x7 x8 x9 x10 x11 x12) (k0_pay97 x0 x1 x2 x3 x4 x5 x6 x7 x8 x9 x10 x11 x12) (k0_pay98 x0 x1 x2 x3 x4 x5 x6 x7 x8 x9 x10 x11 x12) (View.ld x6 r0_12))) (View.ld x8 r0_18)) (View.ld x11 r0_10) (View.ld x12 r0_10)
      = postP (View.ld x0 r0_16) (View.ld x1 r0_7) (View.ld x2 r0_7) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10) := by
  simp only [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
  simp only [p3_mix, p3_x1, p3_40, p3_41, p3_42, p3_43, p3_44, p3_45, p3_46, p3_47, p3_act, p3_out, postP, ffP]

set_option maxHeartbeats 2000000 in
/-- Row part 2 is `postP` of its rows. -/
theorem piece2 (x0 : Vec F S1x1024x1024 .f32) (x1 : Vec F S1x1024x512 .bf16) (x2 : Vec F S1x1024x512 .bf16) (x3 : Vec F S1x6x1x1024 .f32) (x4 : Vec F S512x1024 .bf16) (x5 : Vec F S512x1024 .bf16) (x6 : Vec F S1024x2816 .bf16) (x7 : Vec F S1024x2816 .bf16) (x8 : Vec F S2816x1024 .bf16) (x9 : Vec F S1x1024 .f32) (x10 : Vec F S1x1024 .f32) (x11 : Vec F S1x1024 .f32) (x12 : Vec F S1x1024 .f32) :
    k0_pay78 (k0_pay77 (k0_pay84 x0 x1 x2 x3 x4 x5 x6 x7 x8 x9 x10 x11 x12) (k0_pay26 (k0_pay91 x0 x1 x2 x3 x4 x5 x6 x7 x8 x9 x10 x11 x12) (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)) (k0_pay65 (k0_pay96 x0 x1 x2 x3 x4 x5 x6 x7 x8 x9 x10 x11 x12) (k0_pay31 (k0_pay82 x0 x1 x2 x3 x4 x5 x6 x7 x8 x9 x10 x11 x12) (k0_pay83 x0 x1 x2 x3 x4 x5 x6 x7 x8 x9 x10 x11 x12) (k0_pay91 x0 x1 x2 x3 x4 x5 x6 x7 x8 x9 x10 x11 x12) (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12) (View.ld x7 r0_12)) (k0_pay32 (k0_pay82 x0 x1 x2 x3 x4 x5 x6 x7 x8 x9 x10 x11 x12) (k0_pay83 x0 x1 x2 x3 x4 x5 x6 x7 x8 x9 x10 x11 x12) (k0_pay91 x0 x1 x2 x3 x4 x5 x6 x7 x8 x9 x10 x11 x12) (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12) (View.ld x6 r0_13)) (k0_pay33 (k0_pay95 x0 x1 x2 x3 x4 x5 x6 x7 x8 x9 x10 x11 x12) (View.ld x7 r0_13)) (k0_pay34 (k0_pay95 x0 x1 x2 x3 x4 x5 x6 x7 x8 x9 x10 x11 x12) (View.ld x6 r0_14)) (k0_pay35 (k0_pay95 x0 x1 x2 x3 x4 x5 x6 x7 x8 x9 x10 x11 x12) (View.ld x7 r0_14)) (k0_pay63 (k0_pay28 (k0_pay82 x0 x1 x2 x3 x4 x5 x6 x7 x8 x9 x10 x11 x12) (k0_pay83 x0 x1 x2 x3 x4 x5 x6 x7 x8 x9 x10 x11 x12) (k0_pay91 x0 x1 x2 x3 x4 x5 x6 x7 x8 x9 x10 x11 x12) (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12) (View.ld x6 r0_11)) (k0_pay29 (k0_pay82 x0 x1 x2 x3 x4 x5 x6 x7 x8 x9 x10 x11 x12) (k0_pay83 x0 x1 x2 x3 x4 x5 x6 x7 x8 x9 x10 x11 x12) (k0_pay91 x0 x1 x2 x3 x4 x5 x6 x7 x8 x9 x10 x11 x12) (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12) (View.ld x7 r0_11))) (k0_pay64 (k0_pay96 x0 x1 x2 x3 x4 x5 x6 x7 x8 x9 x10 x11 x12)) (View.ld x8 r0_18)) (View.ld x11 r0_10) (View.ld x12 r0_10))
      = postP (View.ld x0 r0_15) (View.ld x1 r0_6) (View.ld x2 r0_6) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10) := by
  simp only [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
  simp only [p2_mix, p2_x1, p2_h, p2_28, p2_29, p2_30, p2_31, p2_32, p2_33, p2_34, p2_35, p2_act, postP, ffP]

set_option maxHeartbeats 2000000 in
/-- Row part 1 is `postP` of its rows. -/
theorem piece1 (x0 : Vec F S1x1024x1024 .f32) (x1 : Vec F S1x1024x512 .bf16) (x2 : Vec F S1x1024x512 .bf16) (x3 : Vec F S1x6x1x1024 .f32) (x4 : Vec F S512x1024 .bf16) (x5 : Vec F S512x1024 .bf16) (x6 : Vec F S1024x2816 .bf16) (x7 : Vec F S1024x2816 .bf16) (x8 : Vec F S2816x1024 .bf16) (x9 : Vec F S1x1024 .f32) (x10 : Vec F S1x1024 .f32) (x11 : Vec F S1x1024 .f32) (x12 : Vec F S1x1024 .f32) :
    k0_pay76 (k0_pay72 (View.ld x11 r0_10)) (k0_pay73 (View.ld x12 r0_10)) (k0_pay74 (k0_pay84 x0 x1 x2 x3 x4 x5 x6 x7 x8 x9 x10 x11 x12) (k0_pay88 x0 x1 x2 x3 x4 x5 x6 x7 x8 x9 x10 x11 x12) (k0_pay100 x0 x1 x2 x3 x4 x5 x6 x7 x8 x9 x10 x11 x12)) (k0_pay75 (k0_pay84 x0 x1 x2 x3 x4 x5 x6 x7 x8 x9 x10 x11 x12) (k0_pay88 x0 x1 x2 x3 x4 x5 x6 x7 x8 x9 x10 x11 x12) (k0_pay100 x0 x1 x2 x3 x4 x5 x6 x7 x8 x9 x10 x11 x12))
      = postP (View.ld x0 r0_9) (View.ld x1 r0_4) (View.ld x2 r0_4) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10) := by
  simp only [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
  simp only [p1_u0, p1_w0, p1_17, p1_18, p1_19, p1_21, p1_act, p1_out, postP, ffP]

/-- What the body leaves in the result's staging buffer: the four row parts. -/
theorem out0_13_eq (x0 : Vec F S1x1024x1024 .f32) (x1 : Vec F S1x1024x512 .bf16) (x2 : Vec F S1x1024x512 .bf16) (x3 : Vec F S1x6x1x1024 .f32) (x4 : Vec F S512x1024 .bf16) (x5 : Vec F S512x1024 .bf16) (x6 : Vec F S1024x2816 .bf16) (x7 : Vec F S1024x2816 .bf16) (x8 : Vec F S2816x1024 .bf16) (x9 : Vec F S1x1024 .f32) (x10 : Vec F S1x1024 .f32) (x11 : Vec F S1x1024 .f32) (x12 : Vec F S1x1024 .f32) :
    out0_13 x0 x1 x2 x3 x4 x5 x6 x7 x8 x9 x10 x11 x12 = View.canon [
      ⟨r0_17, postP (View.ld x0 r0_17) (View.ld x1 r0_8) (View.ld x2 r0_8) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10)⟩,
      ⟨r0_16, postP (View.ld x0 r0_16) (View.ld x1 r0_7) (View.ld x2 r0_7) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10)⟩,
      ⟨r0_15, postP (View.ld x0 r0_15) (View.ld x1 r0_6) (View.ld x2 r0_6) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10)⟩,
      ⟨r0_9, postP (View.ld x0 r0_9) (View.ld x1 r0_4) (View.ld x2 r0_4) (k0_pay2 (View.ld x3 r0_0)) (k0_pay3 (View.ld x3 r0_1)) (k0_pay4 (View.ld x3 r0_2)) (k0_pay5 (View.ld x3 r0_3)) (View.ld x4 r0_5) (View.ld x5 r0_5) (View.ld x6 r0_11) (View.ld x7 r0_11) (View.ld x6 r0_12) (View.ld x7 r0_12) (View.ld x6 r0_13) (View.ld x7 r0_13) (View.ld x6 r0_14) (View.ld x7 r0_14) (View.ld x8 r0_18) (View.ld x9 r0_10) (View.ld x10 r0_10) (View.ld x11 r0_10) (View.ld x12 r0_10)⟩] := by
  unfold out0_13
  rw [piece1, piece2, piece3, piece4]

end Cert.Kernel2Ideal.Post
-- ==== Proof.PostRow.lean ====
module

public import Idealize.ShloMosaic.Lib.Pointwise

@[expose] public section

/-! # The post call's mathematics at one row

A row of the result is a function of a row of the residual stream, of the two mixer outputs' rows, of the
gate vectors of the row's batch, of the weights and of the norms' parameters. -/

noncomputable section

open Idealize.ShloMosaic

namespace Cert.PostRow

/-- The layer norm of a row of 1024: the number of columns and the norm's epsilon are the words of both programs. -/
def lnRow (z g b : Fin 1024 → EReal) (c : Fin 1024) : EReal :=
  (z c - Ideal.div (∑ x, z x) (Ideal.ofBits .f32 1149239296#32)) *
      Ideal.rsqrt (Ideal.div (∑ x, (z x - Ideal.div (∑ y, z y) (Ideal.ofBits .f32 1149239296#32)) *
          (z x - Ideal.div (∑ y, z y) (Ideal.ofBits .f32 1149239296#32))) (Ideal.ofBits .f32 1149239296#32)
        + Ideal.ofBits .f32 925353388#32) * g c + b c

/-- The mixing product: the two mixers' rows against the two halves of the output weights. -/
def mixRow (yh yn : Fin 512 → EReal) (wh wn : Fin 512 → Fin 1024 → EReal) (c : Fin 1024) : EReal :=
  ∑ k, yh k * wh k c + ∑ k, yn k * wn k c

/-- A scaled residual and a gated branch. -/
def resRow (x g y : Fin 1024 → EReal) (c : Fin 1024) : EReal :=
  Ideal.ofBits .f32 1066940400#32 * x c + g c * y c

/-- The modulated row. -/
def modRow (x sc sh : Fin 1024 → EReal) (c : Fin 1024) : EReal := x c * (1 + sc c) + sh c

/-- An up projection. -/
def upRow (h : Fin 1024 → EReal) (w : Fin 1024 → Fin 2816 → EReal) (j : Fin 2816) : EReal := ∑ k, h k * w k j

/-- The gated activation of two numbers. -/
def act (u w : EReal) : EReal := u * Ideal.div 1 (1 + Ideal.exp (-u)) * w

/-- The down projection. -/
def downRow (a : Fin 2816 → EReal) (w : Fin 2816 → Fin 1024 → EReal) (c : Fin 1024) : EReal := ∑ j, a j * w j c

/-- The first norm's row. -/
def x1Row (x : Fin 1024 → EReal) (yh yn : Fin 512 → EReal) (wh wn : Fin 512 → Fin 1024 → EReal)
    (g1 l1g l1b : Fin 1024 → EReal) : Fin 1024 → EReal :=
  lnRow (resRow x g1 (mixRow yh yn wh wn)) l1g l1b

/-- The feed-forward branch of a row. -/
def ffRow (h : Fin 1024 → EReal) (w1 w3 : Fin 1024 → Fin 2816 → EReal) (w2 : Fin 2816 → Fin 1024 → EReal) :
    Fin 1024 → EReal :=
  downRow (fun j => act (upRow h w1 j) (upRow h w3 j)) w2

/-- A row of the post call's result. -/
def postRow (x : Fin 1024 → EReal) (yh yn : Fin 512 → EReal) (g1 sh2 sc2 g2 : Fin 1024 → EReal)
    (wh wn : Fin 512 → Fin 1024 → EReal) (w1 w3 : Fin 1024 → Fin 2816 → EReal) (w2 : Fin 2816 → Fin 1024 → EReal)
    (l1g l1b l2g l2b : Fin 1024 → EReal) : Fin 1024 → EReal :=
  lnRow (resRow (x1Row x yh yn wh wn g1 l1g l1b) g2
    (ffRow (modRow (x1Row x yh yn wh wn g1 l1g l1b) sc2 sh2) w1 w3 w2)) l2g l2b

end Cert.PostRow
-- ==== Proof.PostKernel.lean ====
module

public import proofs.«01_k».proof.Proof.PostParts
public import proofs.«01_k».proof.Proof.PostRow

@[expose] public section

/-! # The post call: a row part at an index is the row's mathematics -/

set_option maxRecDepth 16384

noncomputable section

open Idealize.ShloMosaic Idealize.ShloMosaic.TcCoe Idealize.SL.Sem

namespace Cert.Kernel2Ideal.Post

open Cert.Kernel2Ideal Cert.Kernel2Ideal.Gen Cert.PostRow

/-- The mixing product at an index. -/
theorem mix_apply (yh yn : Vec Ideal S1x256x512 .bf16) (wh wn : Vec Ideal S512x1024 .bf16) (r : Fin 256) (c : Fin 1024) :
    k0_pay6 yh wh yn wn (ix2 r c)
      = mixRow (fun k => yh (ix3 0 r k)) (fun k => yn (ix3 0 r k)) (fun k c => wh (ix2 k c)) (fun k c => wn (ix2 k c)) c := by
  pointwise [k0_pay6]
  rfl

/-- The first norm at an index, of any mixing product. -/
theorem x1_apply (g1 : FVec Ideal S1x1024 .f32) (mix : FVec Ideal S256x1024 .f32) (x : Vec Ideal S1x256x1024 .f32)
    (g b : Vec Ideal S1x1024 .f32) (r : Fin 256) (c : Fin 1024) :
    k0_pay11 g1 mix x g b (ix2 r c)
      = lnRow (resRow (fun k => x (ix3 0 r k)) (fun k => g1 (ix2 0 k)) (fun k => mix (ix2 r k)))
          (fun k => g (ix2 0 k)) (fun k => b (ix2 0 k)) c := by
  pointwise [k0_pay11]
  rfl

/-- The modulated rows at an index. -/
theorem h_apply (g1 sh sc : FVec Ideal S1x1024 .f32) (mix : FVec Ideal S256x1024 .f32) (x : Vec Ideal S1x256x1024 .f32)
    (g b : Vec Ideal S1x1024 .f32) (r : Fin 256) (c : Fin 1024) :
    k0_pay12 g1 sh sc mix x g b (ix2 r c)
      = modRow (fun k => k0_pay11 g1 mix x g b (ix2 r k)) (fun k => sc (ix2 0 k)) (fun k => sh (ix2 0 k)) c := by
  pointwise [k0_pay12]
  rfl

/-- An up projection of a 768-column chunk at an index. -/
theorem up768_apply (h : FVec Ideal S256x1024 .bf16) (w : Vec Ideal S1024x768 .bf16) (r : Fin 256) (j : Fin 768) :
    k0_pay16 h w (ix2 r j) = ∑ k : Fin 1024, h (ix2 r k) * w (ix2 k j) := by
  pointwise [k0_pay16]

/-- An up projection of the last chunk at an index. -/
theorem up512_apply (h : FVec Ideal S256x1024 .bf16) (w : Vec Ideal S1024x512 .bf16) (r : Fin 256) (j : Fin 512) :
    k0_pay20 h w (ix2 r j) = ∑ k : Fin 1024, h (ix2 r k) * w (ix2 k j) := by
  pointwise [k0_pay20]

/-- The activation of a 768-column chunk at an index. -/
theorem act768_apply (u w : FVec Ideal S256x768 .f32) (r : Fin 256) (j : Fin 768) :
    act768 u w (ix2 r j) = act (u (ix2 r j)) (w (ix2 r j)) := by
  pointwise [act768, sig768]
  unfold act
  rw [zero_sub]

/-- The activation of the last chunk at an index. -/
theorem act512_apply (u w : FVec Ideal S256x512 .f32) (r : Fin 256) (j : Fin 512) :
    act512 u w (ix2 r j) = act (u (ix2 r j)) (w (ix2 r j)) := by
  pointwise [act512]
  unfold act
  rw [zero_sub]

/-- The activations of a row part at an index, the weights' chunks being the columns of the whole weights. -/
theorem ff_apply (h : FVec Ideal S256x1024 .bf16) (a0 b0 a1 b1 a2 b2 : Vec Ideal S1024x768 .bf16)
    (a3 b3 : Vec Ideal S1024x512 .bf16) (W1 W3 : Fin 1024 → Fin 2816 → EReal)
    (ha0 : ∀ k (j : Fin 768), a0 (ix2 k j) = W1 k ⟨j.val, by omega⟩)
    (hb0 : ∀ k (j : Fin 768), b0 (ix2 k j) = W3 k ⟨j.val, by omega⟩)
    (ha1 : ∀ k (j : Fin 768), a1 (ix2 k j) = W1 k ⟨768 + j.val, by omega⟩)
    (hb1 : ∀ k (j : Fin 768), b1 (ix2 k j) = W3 k ⟨768 + j.val, by omega⟩)
    (ha2 : ∀ k (j : Fin 768), a2 (ix2 k j) = W1 k ⟨1536 + j.val, by omega⟩)
    (hb2 : ∀ k (j : Fin 768), b2 (ix2 k j) = W3 k ⟨1536 + j.val, by omega⟩)
    (ha3 : ∀ k (j : Fin 512), a3 (ix2 k j) = W1 k ⟨2304 + j.val, by omega⟩)
    (hb3 : ∀ k (j : Fin 512), b3 (ix2 k j) = W3 k ⟨2304 + j.val, by omega⟩)
    (r : Fin 256) (j : Fin 2816) :
    ffP h a0 b0 a1 b1 a2 b2 a3 b3 (ix2 r j)
      = act (upRow (fun k => h (ix2 r k)) W1 j) (upRow (fun k => h (ix2 r k)) W3 j) := by
  unfold ffP
  pointwise [actP]
  unfold upRow
  split_ifs with h0 h1 h2 <;>
  simp only [act768_apply, act512_apply, up768_apply, up512_apply, ha0, hb0, ha1, hb1, ha2, hb2, ha3, hb3]
  all_goals first
    | rfl
    | (have e : ∀ h, (⟨768 + (j.val - 768), h⟩ : Fin 2816) = j := fun _ => Fin.ext (by simp only; omega)
       simp only [e]; done)
    | (have e : ∀ h, (⟨1536 + (j.val - 768 - 768), h⟩ : Fin 2816) = j := fun _ => Fin.ext (by simp only; omega)
       simp only [e]; done)
    | (have e : ∀ h, (⟨2304 + (j.val - 768 - 768 - 768), h⟩ : Fin 2816) = j := fun _ => Fin.ext (by simp only; omega)
       simp only [e]; done)

/-- The down projection at an index. -/
theorem down_apply (a : FVec Ideal S256x2816 .bf16) (w : Vec Ideal S2816x1024 .bf16) (r : Fin 256) (c : Fin 1024) :
    downP a w (ix2 r c) = downRow (fun j => a (ix2 r j)) (fun j c => w (ix2 j c)) c := by
  pointwise [downP]
  rfl

/-- The second norm at an index. -/
theorem out_apply (g2 : FVec Ideal S1x1024 .f32) (x1 dn : FVec Ideal S256x1024 .f32) (g b : Vec Ideal S1x1024 .f32)
    (r : Fin 256) (c : Fin 1024) :
    k0_pay78 (k0_pay77 g2 x1 dn g b) (ix3 0 r c)
      = lnRow (resRow (fun k => x1 (ix2 r k)) (fun k => g2 (ix2 0 k)) (fun k => dn (ix2 r k)))
          (fun k => g (ix2 0 k)) (fun k => b (ix2 0 k)) c := by
  pointwise [k0_pay78, k0_pay77]
  rfl

/-- A row part at an index is the row's mathematics. -/
theorem post_apply (x : Vec Ideal S1x256x1024 .f32) (yh yn : Vec Ideal S1x256x512 .bf16)
    (g1 sh2 sc2 g2 : FVec Ideal S1x1024 .f32) (wh wn : Vec Ideal S512x1024 .bf16)
    (a0 b0 a1 b1 a2 b2 : Vec Ideal S1024x768 .bf16) (a3 b3 : Vec Ideal S1024x512 .bf16) (w2 : Vec Ideal S2816x1024 .bf16)
    (l1g l1b l2g l2b : Vec Ideal S1x1024 .f32) (W1 W3 : Fin 1024 → Fin 2816 → EReal)
    (ha0 : ∀ k (j : Fin 768), a0 (ix2 k j) = W1 k ⟨j.val, by omega⟩)
    (hb0 : ∀ k (j : Fin 768), b0 (ix2 k j) = W3 k ⟨j.val, by omega⟩)
    (ha1 : ∀ k (j : Fin 768), a1 (ix2 k j) = W1 k ⟨768 + j.val, by omega⟩)
    (hb1 : ∀ k (j : Fin 768), b1 (ix2 k j) = W3 k ⟨768 + j.val, by omega⟩)
    (ha2 : ∀ k (j : Fin 768), a2 (ix2 k j) = W1 k ⟨1536 + j.val, by omega⟩)
    (hb2 : ∀ k (j : Fin 768), b2 (ix2 k j) = W3 k ⟨1536 + j.val, by omega⟩)
    (ha3 : ∀ k (j : Fin 512), a3 (ix2 k j) = W1 k ⟨2304 + j.val, by omega⟩)
    (hb3 : ∀ k (j : Fin 512), b3 (ix2 k j) = W3 k ⟨2304 + j.val, by omega⟩)
    (r : Fin 256) (c : Fin 1024) :
    postP x yh yn g1 sh2 sc2 g2 wh wn a0 b0 a1 b1 a2 b2 a3 b3 w2 l1g l1b l2g l2b (ix3 0 r c)
      = postRow (fun k => x (ix3 0 r k)) (fun k => yh (ix3 0 r k)) (fun k => yn (ix3 0 r k))
          (fun k => g1 (ix2 0 k)) (fun k => sh2 (ix2 0 k)) (fun k => sc2 (ix2 0 k)) (fun k => g2 (ix2 0 k))
          (fun k c => wh (ix2 k c)) (fun k c => wn (ix2 k c)) W1 W3 (fun j c => w2 (ix2 j c))
          (fun k => l1g (ix2 0 k)) (fun k => l1b (ix2 0 k)) (fun k => l2g (ix2 0 k)) (fun k => l2b (ix2 0 k)) c := by
  unfold postP postRow ffRow x1Row
  rw [out_apply]
  simp only [x1_apply, down_apply, mix_apply, h_apply,
    ff_apply _ a0 b0 a1 b1 a2 b2 a3 b3 W1 W3 ha0 hb0 ha1 hb1 ha2 hb2 ha3 hb3]

end Cert.Kernel2Ideal.Post
-- ==== Proof.PostBlock.lean ====
module

public import proofs.«01_k».proof.Proof.PostKernel
public import Idealize.ShloMosaic.Lib.Pipeline.ValueKit

@[expose] public section

/-! # The post call: what the body leaves at an index of the result's block -/

set_option maxRecDepth 16384

noncomputable section

open Idealize.ShloMosaic Idealize.ShloMosaic.TcCoe Idealize.SL.Sem

namespace Cert.Kernel2Ideal.Post

open Cert.Kernel2Ideal Cert.Kernel2Ideal.Gen Cert.PostRow

/-- A row of the block after the body is the row's mathematics of the input blocks' rows. -/
theorem out0_13_apply (x0 : Vec Ideal S1x1024x1024 .f32) (x1 x2 : Vec Ideal S1x1024x512 .bf16) (x3 : Vec Ideal S1x6x1x1024 .f32)
    (x4 x5 : Vec Ideal S512x1024 .bf16) (x6 x7 : Vec Ideal S1024x2816 .bf16) (x8 : Vec Ideal S2816x1024 .bf16)
    (x9 x10 x11 x12 : Vec Ideal S1x1024 .f32) (y : S1x1024x1024.Idx) :
    out0_13 x0 x1 x2 x3 x4 x5 x6 x7 x8 x9 x10 x11 x12 y
      = postRow (fun k => x0 (ix3 0 (y 1) k)) (fun k => x1 (ix3 0 (y 1) k)) (fun k => x2 (ix3 0 (y 1) k))
          (fun k => x3 (ix4 0 2 0 k)) (fun k => x3 (ix4 0 3 0 k)) (fun k => x3 (ix4 0 4 0 k)) (fun k => x3 (ix4 0 5 0 k))
          (fun k c => x4 (ix2 k c)) (fun k c => x5 (ix2 k c)) (fun k c => x6 (ix2 k c)) (fun k c => x7 (ix2 k c))
          (fun j c => x8 (ix2 j c)) (fun k => x9 (ix2 0 k)) (fun k => x10 (ix2 0 k)) (fun k => x11 (ix2 0 k))
          (fun k => x12 (ix2 0 k)) (y 2) := by
  rw [out0_13_eq]
  idx_vars y
  canon_tiles x h
  · obtain ⟨a, b, d, rfl⟩ : ∃ (a : Fin 1) (b : Fin 256) (d : Fin 1024), x = ix3 a b d := ⟨x 0, x 1, x 2, eq_ix3 x⟩
    obtain rfl : a = 0 := Subsingleton.elim _ _
    obtain rfl : y1 = ⟨768 + b.val, by clear * -; omega⟩ := Fin.ext (by simpa using h1)
    obtain rfl : y2 = d := Fin.ext (by simpa using h2)
    refine (post_apply _ _ _ _ _ _ _ _ _ _ _ _ _ _ _ _ _ _ _ _ _ _ (fun k c => x6 (ix2 k c)) (fun k c => x7 (ix2 k c))
      ?_ ?_ ?_ ?_ ?_ ?_ ?_ ?_ b y2).trans ?_
    iterate 8 (focus (intro k j; pointwise))
    pointwise [k0_pay2, k0_pay3, k0_pay4, k0_pay5]
  · obtain ⟨a, b, d, rfl⟩ : ∃ (a : Fin 1) (b : Fin 256) (d : Fin 1024), x = ix3 a b d := ⟨x 0, x 1, x 2, eq_ix3 x⟩
    obtain rfl : a = 0 := Subsingleton.elim _ _
    obtain rfl : y1 = ⟨512 + b.val, by clear * -; omega⟩ := Fin.ext (by simpa using h1)
    obtain rfl : y2 = d := Fin.ext (by simpa using h2)
    refine (post_apply _ _ _ _ _ _ _ _ _ _ _ _ _ _ _ _ _ _ _ _ _ _ (fun k c => x6 (ix2 k c)) (fun k c => x7 (ix2 k c))
      ?_ ?_ ?_ ?_ ?_ ?_ ?_ ?_ b y2).trans ?_
    iterate 8 (focus (intro k j; pointwise))
    pointwise [k0_pay2, k0_pay3, k0_pay4, k0_pay5]
  · obtain ⟨a, b, d, rfl⟩ : ∃ (a : Fin 1) (b : Fin 256) (d : Fin 1024), x = ix3 a b d := ⟨x 0, x 1, x 2, eq_ix3 x⟩
    obtain rfl : a = 0 := Subsingleton.elim _ _
    obtain rfl : y1 = ⟨256 + b.val, by clear * -; omega⟩ := Fin.ext (by simpa using h1)
    obtain rfl : y2 = d := Fin.ext (by simpa using h2)
    refine (post_apply _ _ _ _ _ _ _ _ _ _ _ _ _ _ _ _ _ _ _ _ _ _ (fun k c => x6 (ix2 k c)) (fun k c => x7 (ix2 k c))
      ?_ ?_ ?_ ?_ ?_ ?_ ?_ ?_ b y2).trans ?_
    iterate 8 (focus (intro k j; pointwise))
    pointwise [k0_pay2, k0_pay3, k0_pay4, k0_pay5]
  · obtain ⟨a, b, d, rfl⟩ : ∃ (a : Fin 1) (b : Fin 256) (d : Fin 1024), x = ix3 a b d := ⟨x 0, x 1, x 2, eq_ix3 x⟩
    obtain rfl : a = 0 := Subsingleton.elim _ _
    obtain rfl : y1 = ⟨b.val, by clear * -; omega⟩ := Fin.ext (by simpa using h1)
    obtain rfl : y2 = d := Fin.ext (by simpa using h2)
    refine (post_apply _ _ _ _ _ _ _ _ _ _ _ _ _ _ _ _ _ _ _ _ _ _ (fun k c => x6 (ix2 k c)) (fun k c => x7 (ix2 k c))
      ?_ ?_ ?_ ?_ ?_ ?_ ?_ ?_ b y2).trans ?_
    iterate 8 (focus (intro k j; pointwise))
    pointwise [k0_pay2, k0_pay3, k0_pay4, k0_pay5]

end Cert.Kernel2Ideal.Post
-- ==== Proof.PostValue.lean ====
module

public import proofs.«01_k».proof.Proof.PostBlock
public import proofs.«01_k».proof.Proof.Gen.Kernel2Ideal.Value
public import Idealize.ShloMosaic.Lib.Claim

@[expose] public section

/-! # The post call: the result array after the run -/

set_option maxRecDepth 16384

noncomputable section

open Idealize.ShloMosaic Idealize.ShloMosaic.TcCoe Idealize.SL.Sem
open Idealize.ShloMosaic.Pipeline (Dat)

namespace Cert.Kernel2Ideal.Post

open Cert.Kernel2Ideal Cert.Kernel2Ideal.Gen Cert.PostRow

variable (m : (ℓ : Loc nD τ sig) → Buf (Elt Ideal) ℓ)

/-- The result as an array, from the arguments. -/
def POST (X : FVec Ideal S4x4096x1024 .f32) (Yh Yn : FVec Ideal S4x4096x512 .bf16) (A : FVec Ideal S8x6144 .f32)
    (Wo : FVec Ideal S1x1024x1024 .f32) (G1 B1 : FVec Ideal S1x1024 .f32) (W1 W3 : FVec Ideal S1x1024x2816 .f32)
    (W2 : FVec Ideal S1x2816x1024 .f32) (G2 B2 : FVec Ideal S1x1024 .f32) : FVec Ideal S4x4096x1024 .f32 := fun i =>
  postRow (fun k => X (ix3 (i 0) (i 1) k)) (fun k => Yh (ix3 (i 0) (i 1) k)) (fun k => Yn (ix3 (i 0) (i 1) k))
    (fun k => A (ix2 ⟨(i 0).val, (i 0).isLt.trans (by decide)⟩ ⟨2048 + k.val, by omega⟩)) (fun k => A (ix2 ⟨(i 0).val, (i 0).isLt.trans (by decide)⟩ ⟨3072 + k.val, by omega⟩))
    (fun k => A (ix2 ⟨(i 0).val, (i 0).isLt.trans (by decide)⟩ ⟨4096 + k.val, by omega⟩)) (fun k => A (ix2 ⟨(i 0).val, (i 0).isLt.trans (by decide)⟩ ⟨5120 + k.val, by omega⟩))
    (fun k c => Wo (ix3 0 ⟨k.val, by omega⟩ c)) (fun k c => Wo (ix3 0 ⟨512 + k.val, by omega⟩ c))
    (fun k j => W1 (ix3 0 k j)) (fun k j => W3 (ix3 0 k j)) (fun j c => W2 (ix3 0 j c))
    (fun k => G1 (ix2 0 k)) (fun k => B1 (ix2 0 k)) (fun k => G2 (ix2 0 k)) (fun k => B2 (ix2 0 k)) (i 2)

/-- The windows' block indices. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![t.val / 4, t.val % 4, 0] :=
  (by decide +kernel : ∀ t : Fin grid0.N, _)

set_option maxHeartbeats 1600000 in
/-- The result array after the run. -/
theorem final (c : Dev nD) : (dats m 0 c).arrAt 13 (cfgs 0).N
    = POST (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  refine (out0_13_apply _ _ _ _ _ _ _ _ _ _ _ _ _ y).trans ?_
  unfold POST
  congr 1
  iterate 7 (focus (funext k; blk_ext! [iblk, V, idx t]))
  iterate 5 (focus (funext k j; blk_ext! [iblk, V, idx t]))
  iterate 4 (focus (funext k; blk_ext! [iblk, V, idx t]))
  apply Fin.ext
  blk_simp [idx t]

end Cert.Kernel2Ideal.Post
-- ==== Proof.PostRef.lean ====
module

public import proofs.«01_k».proof.Proof.Gen.Reference2Ideal.Run
public import proofs.«01_k».proof.Proof.PostRow
public import Idealize.ShloMosaic.Lib.Tactic.CleanTypes

@[expose] public section

/-! # The post call: the reference at an index is the row's mathematics -/

set_option maxRecDepth 16384

noncomputable section

open Idealize.ShloMosaic Idealize.ShloMosaic.TcCoe Idealize.SL.Sem

namespace Cert.Reference2Ideal.Post

open Cert.Reference2Ideal Cert.Reference2Ideal.Gen Cert.Reference2Ideal.Value Cert.PostRow

variable (V0 : Valuation τ sig (Elt Ideal))

/-- The argument arrays at their plain types. -/
abbrev aX : FVec Ideal S4x4096x1024 .f32 := V0 (Proc.devRef .tc main_arg0)
abbrev aYh : FVec Ideal S4x4096x512 .bf16 := V0 (Proc.devRef .tc main_arg1)
abbrev aYn : FVec Ideal S4x4096x512 .bf16 := V0 (Proc.devRef .tc main_arg2)
abbrev aAda : FVec Ideal S8x6144 .f32 := V0 (Proc.devRef .tc main_arg3)
abbrev aWo : FVec Ideal S1x1024x1024 .f32 := V0 (Proc.devRef .tc main_arg4)
abbrev aG1 : FVec Ideal S1x1024 .f32 := V0 (Proc.devRef .tc main_arg5)
abbrev aB1 : FVec Ideal S1x1024 .f32 := V0 (Proc.devRef .tc main_arg6)
abbrev aW1 : FVec Ideal S1x1024x2816 .f32 := V0 (Proc.devRef .tc main_arg7)
abbrev aW3 : FVec Ideal S1x1024x2816 .f32 := V0 (Proc.devRef .tc main_arg8)
abbrev aW2 : FVec Ideal S1x2816x1024 .f32 := V0 (Proc.devRef .tc main_arg9)
abbrev aG2 : FVec Ideal S1x1024 .f32 := V0 (Proc.devRef .tc main_arg10)
abbrev aB2 : FVec Ideal S1x1024 .f32 := V0 (Proc.devRef .tc main_arg11)
abbrev r1 : FVec Ideal S4x1x6144 .f32 := res_main_v1 V0
abbrev r16 : FVec Ideal S4x4096x1024 .f32 := res_main_v16 V0
abbrev r22 : FVec Ideal S4x4096x1 .f32 := res_main_v22 V0
abbrev r24 : FVec Ideal S4x4096x1024 .f32 := res_main_v24 V0
abbrev r42 : FVec Ideal S4x4096x1024 .f32 := res_main_v42 V0
abbrev r48 : FVec Ideal S4x4096x1024 .f32 := res_main_v48 V0
abbrev r50 : FVec Ideal S4x4096x2816 .f32 := res_main_v50 V0
abbrev r61 : FVec Ideal S4x4096x1024 .f32 := res_main_v61 V0
abbrev r67 : FVec Ideal S4x4096x1 .f32 := res_main_v67 V0
abbrev r69 : FVec Ideal S4x4096x1024 .f32 := res_main_v69 V0

theorem r1_apply (b : Fin 4) (c : Fin 6144) : r1 V0 (ix3 b 0 c) = aAda V0 (ix2 ⟨b.val, by omega⟩ c) := by
  unfold r1 res_main_v1
  clean_types
  pointwise

/-- The gate vectors of the row's batch. -/
def gRow (o : ℕ) (h : o + 1024 ≤ 6144) (b : Fin 4) (k : Fin 1024) : EReal :=
  r1 V0 (ix3 b 0 ⟨o + k.val, by omega⟩)

theorem gRow_eq (o : ℕ) (h : o + 1024 ≤ 6144) (b : Fin 4) :
    gRow V0 o h b = fun k => aAda V0 (ix2 ⟨b.val, by omega⟩ ⟨o + k.val, by omega⟩) :=
  funext fun k => r1_apply V0 b _

theorem r16_apply (b : Fin 4) (t : Fin 4096) (c : Fin 1024) : r16 V0 (ix3 b t c)
    = resRow (fun k => aX V0 (ix3 b t k)) (gRow V0 2048 (by norm_num) b)
      (mixRow (fun k => aYh V0 (ix3 b t k)) (fun k => aYn V0 (ix3 b t k))
        (fun k c => aWo V0 (ix3 0 ⟨k.val, by omega⟩ c)) (fun k c => aWo V0 (ix3 0 ⟨512 + k.val, by omega⟩ c))) c := by
  unfold r16 res_main_v16
  clean_types
  pointwise
  rfl

/-- The layer norm as the reference computes it, of any array. -/
theorem ln_apply (z : FVec Ideal S4x4096x1024 .f32) (g b : FVec Ideal S1x1024 .f32) (mu : FVec Ideal S4x4096x1 .f32)
    (zc : FVec Ideal S4x4096x1024 .f32)
    (hmu : ∀ i t, mu (ix3 i t 0) = Ideal.div (∑ k : Fin 1024, z (ix3 i t k)) (Ideal.ofBits .f32 1149239296#32))
    (hzc : ∀ i t k, zc (ix3 i t k) = z (ix3 i t k) - mu (ix3 i t 0))
    (i : Fin 4) (t : Fin 4096) (c : Fin 1024) :
    addf (mulf (mulf (subf z (broadcastInDim S4x4096x1024 ![0, 1, 2] bcast_S4x4096x1_S4x4096x1024_0_1_2 mu)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf zc zc) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))) (broadcastInDim S4x4096x1024 ![0, 1, 2] bcast_S1x1x1024_S4x4096x1024_0_1_2 (broadcastInDim S1x1x1024 ![2] bcast_S1024_S1x1x1024_2 (shapeCast _ b shapeCasts_S1x1024_S1024))) (ix3 i t c)
      = lnRow (fun k => z (ix3 i t k)) (fun k => g (ix2 0 k)) (fun k => b (ix2 0 k)) c := by
  pointwise
  simp only [hmu, hzc]
  rfl

theorem r22_apply (i : Fin 4) (t : Fin 4096) :
    r22 V0 (ix3 i t 0) = Ideal.div (∑ k : Fin 1024, r16 V0 (ix3 i t k)) (Ideal.ofBits .f32 1149239296#32) := by
  unfold r22 res_main_v22
  clean_types
  pointwise

theorem r24_apply (i : Fin 4) (t : Fin 4096) (k : Fin 1024) :
    r24 V0 (ix3 i t k) = r16 V0 (ix3 i t k) - r22 V0 (ix3 i t 0) := by
  unfold r24 res_main_v24
  clean_types
  pointwise

theorem r42_apply (i : Fin 4) (t : Fin 4096) (c : Fin 1024) :
    r42 V0 (ix3 i t c) = lnRow (fun k => r16 V0 (ix3 i t k)) (fun k => aG1 V0 (ix2 0 k)) (fun k => aB1 V0 (ix2 0 k)) c :=
  ln_apply (r16 V0) (aG1 V0) (aB1 V0) (r22 V0) (r24 V0) (r22_apply V0) (r24_apply V0) i t c

theorem r48_apply (i : Fin 4) (t : Fin 4096) (c : Fin 1024) :
    r48 V0 (ix3 i t c) = modRow (fun k => r42 V0 (ix3 i t k)) (gRow V0 4096 (by norm_num) i) (gRow V0 3072 (by norm_num) i) c := by
  unfold r48 res_main_v48
  clean_types
  pointwise
  rfl

theorem r50_apply (i : Fin 4) (t : Fin 4096) (j : Fin 2816) :
    r50 V0 (ix3 i t j) = upRow (fun k => r48 V0 (ix3 i t k)) (fun k j => aW1 V0 (ix3 0 k j)) j := by
  unfold r50 res_main_v50
  clean_types
  pointwise
  rfl

theorem r61_apply (i : Fin 4) (t : Fin 4096) (c : Fin 1024) :
    r61 V0 (ix3 i t c) = resRow (fun k => r42 V0 (ix3 i t k)) (gRow V0 5120 (by norm_num) i)
      (downRow (fun j => act (r50 V0 (ix3 i t j)) (upRow (fun k => r48 V0 (ix3 i t k)) (fun k j => aW3 V0 (ix3 0 k j)) j))
        (fun j c => aW2 V0 (ix3 0 j c))) c := by
  unfold r61 res_main_v61
  clean_types
  pointwise
  rfl

theorem r67_apply (i : Fin 4) (t : Fin 4096) :
    r67 V0 (ix3 i t 0) = Ideal.div (∑ k : Fin 1024, r61 V0 (ix3 i t k)) (Ideal.ofBits .f32 1149239296#32) := by
  unfold r67 res_main_v67
  clean_types
  pointwise

theorem r69_apply (i : Fin 4) (t : Fin 4096) (k : Fin 1024) :
    r69 V0 (ix3 i t k) = r61 V0 (ix3 i t k) - r67 V0 (ix3 i t 0) := by
  unfold r69 res_main_v69
  clean_types
  pointwise

/-- The reference's result. -/
abbrev RES : FVec Ideal S4x4096x1024 .f32 :=
  addf (mulf (mulf (subf (r61 V0) (broadcastInDim S4x4096x1024 ![0, 1, 2] bcast_S4x4096x1_S4x4096x1024_0_1_2 (r67 V0))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (r69 V0) (r69 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ (aG2 V0) shapeCasts_S1x1024_S1024)))) (broadcastInDim S4x4096x1024 ![0, 1, 2] bcast_S1x1x1024_S4x4096x1024_0_1_2 (broadcastInDim S1x1x1024 ![2] bcast_S1024_S1x1x1024_2 (shapeCast _ (aB2 V0) shapeCasts_S1x1024_S1024)))

/-- The reference's result at an index is the row's mathematics of the argument arrays. -/
theorem res_apply (i : Fin 4) (t : Fin 4096) (c : Fin 1024) :
    RES V0 (ix3 i t c) = postRow (fun k => aX V0 (ix3 i t k)) (fun k => aYh V0 (ix3 i t k)) (fun k => aYn V0 (ix3 i t k))
      (fun k => aAda V0 (ix2 ⟨i.val, by omega⟩ ⟨2048 + k.val, by omega⟩)) (fun k => aAda V0 (ix2 ⟨i.val, by omega⟩ ⟨3072 + k.val, by omega⟩))
      (fun k => aAda V0 (ix2 ⟨i.val, by omega⟩ ⟨4096 + k.val, by omega⟩)) (fun k => aAda V0 (ix2 ⟨i.val, by omega⟩ ⟨5120 + k.val, by omega⟩))
      (fun k c => aWo V0 (ix3 0 ⟨k.val, by omega⟩ c)) (fun k c => aWo V0 (ix3 0 ⟨512 + k.val, by omega⟩ c))
      (fun k j => aW1 V0 (ix3 0 k j)) (fun k j => aW3 V0 (ix3 0 k j)) (fun j c => aW2 V0 (ix3 0 j c))
      (fun k => aG1 V0 (ix2 0 k)) (fun k => aB1 V0 (ix2 0 k)) (fun k => aG2 V0 (ix2 0 k)) (fun k => aB2 V0 (ix2 0 k)) c := by
  refine (ln_apply (r61 V0) (aG2 V0) (aB2 V0) (r67 V0) (r69 V0) (r67_apply V0) (r69_apply V0) i t c).trans ?_
  unfold postRow ffRow x1Row
  simp only [r61_apply, r50_apply, r48_apply, r42_apply, r16_apply, gRow_eq]

end Cert.Reference2Ideal.Post
-- ==== Proof.PostClaim.lean ====
module

public import proofs.«01_k».proof.Defs
public import proofs.«01_k».proof.Proof.Gen.Kernel2
public import proofs.«01_k».proof.Proof.Gen.Kernel2.Frame
public import proofs.«01_k».proof.Proof.PostValue
public import proofs.«01_k».proof.Proof.PostRef
public import Idealize.ShloMosaic.Lib.Claim

@[expose] public section

/-! # The post call: its claims -/

namespace Cert.Proof

open Idealize.ShloMosaic Idealize.ShloMosaic.TcCoe Idealize.ShloMosaic.StableHlo Idealize.SL.Sem

set_option maxRecDepth 65536

theorem frame_post : Cert.quiescent_Kernel2 := fun m ρ _ => Cert.Kernel2.Gen.frame m ρ

theorem frame_postIdeal : Cert.quiescent_Kernel2Ideal := fun m ρ _ => Cert.Kernel2Ideal.Gen.frame m ρ

theorem frame_postRef : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

open Cert.Reference2Ideal.Post in
/-- The reference's result is the same function of its arguments. -/
theorem res_eq (V0 : Valuation Cert.Reference2Ideal.τ Cert.Reference2Ideal.sig (Elt Ideal)) :
    RES V0 = Cert.Kernel2Ideal.Post.POST (aX V0) (aYh V0) (aYn V0) (aAda V0) (aWo V0) (aG1 V0) (aB1 V0) (aW1 V0) (aW3 V0)
      (aW2 V0) (aG2 V0) (aB2 V0) := by
  funext i
  rw [eq_ix3 i]
  exact res_apply V0 _ _ _

theorem algebraic_post : Cert.algebraic_Kernel2Ideal_Reference2Ideal := by
  intro m g m' g' _ hagree
  refine ⟨_, (θ_run _ _ _).mono (fun r h c => ⟨(h c).1.trans (Cert.Kernel2Ideal.Post.final m c), (h c).2⟩)
    (Cert.Kernel2Ideal.Value.run_blocks m g), ?_⟩
  refine (θ_run _ _ _).mono (fun r h c => ⟨(h c).1.trans ?_, (h c).2⟩) (Cert.Reference2Ideal.Value.run m' g')
  obtain ⟨h0, h1, h2, h3, h4, h5, h6, h7, h8, h9, h10, h11⟩ := hagree c
  refine (res_eq (launchContents m' c)).trans ?_
  rw [← h0, ← h1, ← h2, ← h3, ← h4, ← h5, ← h6, ← h7, ← h8, ← h9, ← h10, ← h11]

end Cert.Proof
-- ==== Proof.ProjKernel.lean ====
module

public import proofs.«01_k».proof.Proof.Gen.Kernel3Ideal.Frame
public import Idealize.ShloMosaic.Lib.Pointwise
public import Idealize.ShloMosaic.Lib.Pipeline.ValueKit

@[expose] public section

/-! # The input projection: what the body leaves at an index of each result's block -/

set_option maxRecDepth 16384

noncomputable section

open Idealize.ShloMosaic Idealize.ShloMosaic.TcCoe Idealize.SL.Sem

namespace Cert.Proj

/-- A row of the modulated input. -/
def hRow (x sc sh : Fin 1024 → EReal) (k : Fin 1024) : EReal := x k * (1 + sc k) + sh k

/-- The remainder that takes the divisor's sign, as the programs compute it. -/
def md (x m : BitVec 32) : BitVec 32 :=
  Scalar.select
    (IntOp.andi
      (IntOp.xori (IntOp.cmpi CmpIPredicate.slt (IntOp.remsi ArithUnit.vector x (Scalar.select (Scalar.cmpi CmpIPredicate.eq m 0#32) 1#32 m)) 0#32)
        (Scalar.cmpi CmpIPredicate.slt (Scalar.select (Scalar.cmpi CmpIPredicate.eq m 0#32) 1#32 m) 0#32))
      (IntOp.cmpi CmpIPredicate.ne (IntOp.remsi ArithUnit.vector x (Scalar.select (Scalar.cmpi CmpIPredicate.eq m 0#32) 1#32 m)) 0#32))
    (IntOp.addi (IntOp.remsi ArithUnit.vector x (Scalar.select (Scalar.cmpi CmpIPredicate.eq m 0#32) 1#32 m)) (Scalar.select (Scalar.cmpi CmpIPredicate.eq m 0#32) 1#32 m))
    (IntOp.remsi ArithUnit.vector x (Scalar.select (Scalar.cmpi CmpIPredicate.eq m 0#32) 1#32 m))

/-- The position's column `j` of a slot, as the kernel computes it. -/
def kcol (p c : BitVec 32) : BitVec 32 :=
  Scalar.select
    (IntOp.andi (IntOp.cmpi CmpIPredicate.sge (IntOp.subi (md c 128#32) 64#32) 0#32) (IntOp.cmpi CmpIPredicate.slt (IntOp.subi (md c 128#32) 64#32) 6#32))
    (Scalar.select (IntOp.cmpi CmpIPredicate.eq (md (IntOp.subi (md c 128#32) 64#32) 2#32) 0#32) (md p 256#32) (IntOp.subi p (md p 256#32)))
    0#32

/-- The position's column `j` of a slot of 128. -/
def pcol (t j : ℕ) : BitVec 32 :=
  if 64 ≤ j ∧ j < 70 then (if j % 2 = 0 then BitVec.ofNat 32 (t % 256) else BitVec.ofNat 32 (t - t % 256)) else 0#32

theorem md_pos : ∀ t : Fin 4096, md (BitVec.ofNat 32 t.val) 256#32 = BitVec.ofNat 32 (t.val % 256) := by decide +kernel

theorem sub_pos : ∀ t : Fin 4096, IntOp.subi (BitVec.ofNat 32 t.val) (BitVec.ofNat 32 (t.val % 256)) = BitVec.ofNat 32 (t.val - t.val % 256) := by
  decide +kernel

theorem in_cols : ∀ c : Fin 256,
    IntOp.andi (IntOp.cmpi CmpIPredicate.sge (IntOp.subi (md (BitVec.ofNat 32 c.val) 128#32) 64#32) 0#32) (IntOp.cmpi CmpIPredicate.slt (IntOp.subi (md (BitVec.ofNat 32 c.val) 128#32) 64#32) 6#32)
      = if 64 ≤ c.val % 128 ∧ c.val % 128 < 70 then 1#1 else 0#1 := by decide +kernel

theorem even_col : ∀ c : Fin 256, 64 ≤ c.val % 128 →
    IntOp.cmpi CmpIPredicate.eq (md (IntOp.subi (md (BitVec.ofNat 32 c.val) 128#32) 64#32) 2#32) 0#32 = if c.val % 128 % 2 = 0 then 1#1 else 0#1 := by
  decide +kernel

theorem row_pos : ∀ (j : Fin 8) (r : Fin 512), IntOp.addi (Scalar.muli (BitVec.ofNat 32 j.val) 512#32) (BitVec.ofNat 32 r.val) = BitVec.ofNat 32 (512 * j.val + r.val) := by
  decide +kernel

theorem kcol_eq (t : Fin 4096) (c : Fin 256) : kcol (BitVec.ofNat 32 t.val) (BitVec.ofNat 32 c.val) = pcol t.val (c.val % 128) := by
  unfold kcol pcol
  rw [in_cols, md_pos, sub_pos]
  by_cases h : 64 ≤ c.val % 128 ∧ c.val % 128 < 70
  · rw [even_col c h.1, if_pos h, if_pos h]
    by_cases h' : c.val % 128 % 2 = 0
    · rw [if_pos h', if_pos h']; rfl
    · rw [if_neg h', if_neg h']; rfl
  · rw [if_neg h, if_neg h]; rfl

/-- The row of the transposed values that holds ones. -/
theorem one_row : ∀ r : Fin 320, IntOp.cmpi CmpIPredicate.eq (md (BitVec.ofNat 32 r.val) 80#32) 64#32 = if r.val % 80 = 64 then 1#1 else 0#1 := by
  decide +kernel

end Cert.Proj

namespace Cert.Kernel3Ideal.Proj

open Cert.Kernel3Ideal Cert.Kernel3Ideal.Gen Cert.Proj

variable (i : grid0.Coords) (x0 : Vec Ideal S1x512x1024 .f32) (x1 : Vec Ideal S1x1x1024 .f32) (x2 : Vec Ideal S1x1x1024 .f32) (x3 : Vec Ideal S1024x3328 .bf16) (x4 : Vec Ideal S352x1024 .bf16)

abbrev hR (r : Fin 512) : Fin 1024 → EReal := hRow (fun k => x0 (ix3 0 r k)) (fun k => x1 (ix3 0 0 k)) (fun k => x2 (ix3 0 0 k))

theorem pay4_apply (r : Fin 512) (k : Fin 1024) : k0_pay4 x0 x1 x2 (ix2 r k) = hR x0 x1 x2 r k := by
  pointwise [k0_pay4]
  rfl

theorem pay5_apply (r : Fin 512) (n : Fin 3328) : k0_pay5 x0 x1 x2 x3 (ix2 r n) = ∑ k : Fin 1024, hR x0 x1 x2 r k * x3 (ix2 k n) := by
  pointwise [k0_pay5, pay4_apply]

theorem out5 (r : Fin 512) (n : Fin 2048) : out0_5 i x0 x1 x2 x3 x4 (ix3 0 r n) = ∑ k : Fin 1024, hR x0 x1 x2 r k * x3 (ix2 k ⟨n.val, by omega⟩) := by
  unfold_out out0_5
  canon_tiles x h
  obtain ⟨a, b, d, rfl⟩ : ∃ (a : Fin 1) (b : Fin 512) (d : Fin 2048), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay6, pay5_apply, hRow]

theorem out6 (r : Fin 512) (n : Fin 512) : out0_6 i x0 x1 x2 x3 x4 (ix3 0 r n) = ∑ k : Fin 1024, hR x0 x1 x2 r k * x3 (ix2 k ⟨2048 + n.val, by omega⟩) := by
  unfold_out out0_6
  canon_tiles x h
  obtain ⟨a, b, d, rfl⟩ : ∃ (a : Fin 1) (b : Fin 512) (d : Fin 512), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay7, pay5_apply, hRow]

theorem out7 (r : Fin 512) (n : Fin 256) : out0_7 i x0 x1 x2 x3 x4 (ix3 0 r n) = ∑ k : Fin 1024, hR x0 x1 x2 r k * x3 (ix2 k ⟨2560 + n.val, by omega⟩)
      + FloatOps.sitofp (F := Ideal) .f32 (kcol (IntOp.addi (Scalar.muli (BitVec.ofNat 32 (i 1).val) 512#32) (BitVec.ofNat 32 r.val)) (BitVec.ofNat 32 n.val)) := by
  unfold_out out0_7
  canon_tiles x h
  obtain ⟨a, b, d, rfl⟩ : ∃ (a : Fin 1) (b : Fin 512) (d : Fin 256), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay15, pay5_apply, hRow, k0_pay8, k0_pay9, k0_pay10, k0_pay11, k0_pay12, k0_pay13, k0_pay14]
  rfl

theorem out8 (r : Fin 512) (n : Fin 256) : out0_8 i x0 x1 x2 x3 x4 (ix3 0 r n) = ∑ k : Fin 1024, hR x0 x1 x2 r k * x3 (ix2 k ⟨2816 + n.val, by omega⟩)
      + FloatOps.sitofp (F := Ideal) .f32 (kcol (IntOp.addi (Scalar.muli (BitVec.ofNat 32 (i 1).val) 512#32) (BitVec.ofNat 32 r.val)) (BitVec.ofNat 32 n.val)) := by
  unfold_out out0_8
  canon_tiles x h
  obtain ⟨a, b, d, rfl⟩ : ∃ (a : Fin 1) (b : Fin 512) (d : Fin 256), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay16, pay5_apply, hRow, k0_pay8, k0_pay9, k0_pay10, k0_pay11, k0_pay12, k0_pay13, k0_pay14]
  rfl

theorem out9 (r : Fin 512) (n : Fin 128) : out0_9 i x0 x1 x2 x3 x4 (ix3 0 r n) = ∑ k : Fin 1024, hR x0 x1 x2 r k * x3 (ix2 k ⟨3072 + n.val, by omega⟩) := by
  unfold_out out0_9
  canon_tiles x h
  obtain ⟨a, b, d, rfl⟩ : ∃ (a : Fin 1) (b : Fin 512) (d : Fin 128), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay17, pay5_apply, hRow]

theorem out10 (r : Fin 512) (n : Fin 128) : out0_10 i x0 x1 x2 x3 x4 (ix3 0 r n) = ∑ k : Fin 1024, hR x0 x1 x2 r k * x3 (ix2 k ⟨3200 + n.val, by omega⟩) := by
  unfold_out out0_10
  canon_tiles x h
  obtain ⟨a, b, d, rfl⟩ : ∃ (a : Fin 1) (b : Fin 512) (d : Fin 128), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay18, pay5_apply, hRow]

theorem out11 (r : Fin 320) (n : Fin 512) : out0_11 i x0 x1 x2 x3 x4 (ix3 0 r n) = ∑ k : Fin 1024, x4 (ix2 ⟨r.val, by omega⟩ k) * hR x0 x1 x2 n k
      + Scalar.select (IntOp.cmpi CmpIPredicate.eq (md (BitVec.ofNat 32 r.val) 80#32) 64#32) (1 : EReal) 0 := by
  unfold_out out0_11
  canon_tiles x h
  obtain ⟨a, b, d, rfl⟩ : ∃ (a : Fin 1) (b : Fin 320) (d : Fin 512), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay2, k0_pay1, k0_pay19, pay4_apply, hRow]
  rfl

theorem out12 (r : Fin 32) (n : Fin 512) : out0_12 i x0 x1 x2 x3 x4 (ix3 0 r n) = ∑ k : Fin 1024, x4 (ix2 ⟨320 + r.val, by omega⟩ k) * hR x0 x1 x2 n k := by
  unfold_out out0_12
  canon_tiles x h
  obtain ⟨a, b, d, rfl⟩ : ∃ (a : Fin 1) (b : Fin 32) (d : Fin 512), x = ix3 a b d := ⟨x 0, x 1, x 2, eq_ix3 x⟩
  obtain rfl : a = 0 := Subsingleton.elim _ _
  obtain rfl : r = b := Fin.ext (by simpa using h1)
  obtain rfl : n = d := Fin.ext (by simpa using h2)
  clear h0 h1 h2
  pointwise [k0_pay3, k0_pay1, k0_pay19, pay4_apply, hRow]

end Cert.Kernel3Ideal.Proj
-- ==== Proof.ProjArr.lean ====
module

public import proofs.«01_k».proof.Proof.ProjKernel
public import proofs.«01_k».proof.Proof.Gen.Kernel3Ideal.Value
public import Idealize.ShloMosaic.Lib.Claim
public import Idealize.ShloMosaic.Lib.KernelVsHost

@[expose] public section

/-! # The input projection: the prepared weights at an index -/

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Proj

variable (m : (ℓ : Loc nD τ sig) → Buf (Elt Ideal) ℓ)

/-- The windows' block indices. -/
theorem idx : ∀ t : Fin cfg0.N, win0_0.index t = ![t.val / 8, t.val % 8, 0] ∧ win0_1.index t = ![6 * (t.val / 8) + 1, 0, 0]
    ∧ win0_2.index t = ![6 * (t.val / 8), 0, 0] ∧ win0_3.index t = ![0, 0] ∧ win0_4.index t = ![0, 0]
    ∧ win0_5.index t = ![t.val / 8, t.val % 8, 0] ∧ win0_6.index t = ![t.val / 8, t.val % 8, 0] ∧ win0_7.index t = ![t.val / 8, t.val % 8, 0]
    ∧ win0_8.index t = ![t.val / 8, t.val % 8, 0] ∧ win0_9.index t = ![t.val / 8, t.val % 8, 0] ∧ win0_10.index t = ![t.val / 8, t.val % 8, 0]
    ∧ win0_11.index t = ![t.val / 8, 0, t.val % 8] ∧ win0_12.index t = ![t.val / 8, 0, t.val % 8] :=
  (by decide +kernel : ∀ t : Fin grid0.N, _)

/-- The modulation's rows, one after another. -/
def modRows (A : FVec Ideal S8x6144 .f32) : FVec Ideal S24x1x1024 .f32 :=
  shapeCast S24x1x1024 (extractStridedSlice S4x6144 ![0, 0] A slices_S8x6144_S4x6144_0_0) shapeCasts_S4x6144_S24x1x1024

/-- The weights as a matrix. -/
def wMat (W : FVec Ideal S1x1024x3352 .f32) : FVec Ideal S1024x3352 .f32 := shapeCast S1024x3352 W shapeCasts_S1x1024x3352_S1024x3352

/-- Zero. -/
def zero32 : FVec Ideal S_ .f32 := sitofp .f32 (constantI S_ 32 0#32)

/-- A matrix of 128 columns in two slots of 128. -/
def slots (w : FVec Ideal S1024x128 .f32) : FVec Ideal S1024x256 .f32 :=
  shapeCast S1024x256 (pad S1024x2x128 ![0, 0, 0] ![0, 0, 64] ![0, 0, 0] (shapeCast S1024x2x64 w shapeCasts_S1024x128_S1024x2x64) zero32
    pads_S1024x2x64_S1024x2x128_000_000_0640 h_S_) shapeCasts_S1024x2x128_S1024x256

/-- A matrix of 128 columns in two slots of 80. -/
def slots80 (w : FVec Ideal S1024x128 .f32) : FVec Ideal S1024x160 .f32 :=
  shapeCast S1024x160 (pad S1024x2x80 ![0, 0, 0] ![0, 0, 16] ![0, 0, 0] (shapeCast S1024x2x64 w shapeCasts_S1024x128_S1024x2x64) zero32
    pads_S1024x2x64_S1024x2x80_000_000_0160 h_S_) shapeCasts_S1024x2x80_S1024x160

/-- The gates' columns in two slots of 16. -/
def slots16 (w : FVec Ideal S1024x24 .f32) : FVec Ideal S1024x32 .f32 :=
  shapeCast S1024x32 (pad S1024x2x16 ![0, 0, 0] ![0, 0, 4] ![0, 0, 0] (shapeCast S1024x2x12 w shapeCasts_S1024x24_S1024x2x12) zero32
    pads_S1024x2x12_S1024x2x16_000_000_040 h_S_) shapeCasts_S1024x2x16_S1024x32

/-- The queries' columns, scaled. -/
def wQ (w : FVec Ideal S1024x3352 .f32) : FVec Ideal S1024x512 .f32 :=
  mulf (extractStridedSlice S1024x512 ![0, 2048] w slices_S1024x3352_S1024x512_0_2048)
    (broadcastInDim S1024x512 ![] bcast_S_S1024x512 (constant S_ .f32 0x3E38AA3B#32))

/-- The weights of the results stored by rows. -/
def wMain (w : FVec Ideal S1024x3352 .f32) : FVec Ideal S1024x3328 .f32 :=
  concatenate S1024x3328 1 [⟨S1024x2048, extractStridedSlice S1024x2048 ![0, 0] w slices_S1024x3352_S1024x2048_0_0⟩, ⟨S1024x512, wQ w⟩,
    ⟨S1024x256, slots (extractStridedSlice S1024x128 ![0, 2816] w slices_S1024x3352_S1024x128_0_2816)⟩,
    ⟨S1024x256, slots (extractStridedSlice S1024x128 ![0, 3072] w slices_S1024x3352_S1024x128_0_3072)⟩,
    ⟨S1024x128, extractStridedSlice S1024x128 ![0, 2560] w slices_S1024x3352_S1024x128_0_2560⟩,
    ⟨S1024x128, extractStridedSlice S1024x128 ![0, 2688] w slices_S1024x3352_S1024x128_0_2688⟩]
    concatenates_S1024x2048_S1024x512_S1024x256_S1024x256_S1024x128_S1024x128_S1024x3328_d1

/-- The weights of the results stored by columns. -/
def wT (w : FVec Ideal S1024x3352 .f32) : FVec Ideal S1024x352 .f32 :=
  concatenate S1024x352 1 [⟨S1024x160, slots80 (extractStridedSlice S1024x128 ![0, 2944] w slices_S1024x3352_S1024x128_0_2944)⟩,
    ⟨S1024x160, slots80 (extractStridedSlice S1024x128 ![0, 3200] w slices_S1024x3352_S1024x128_0_3200)⟩,
    ⟨S1024x32, slots16 (extractStridedSlice S1024x24 ![0, 3328] w slices_S1024x3352_S1024x24_0_3328)⟩]
    concatenates_S1024x160_S1024x160_S1024x32_S1024x352_d1

theorem V_v1 (c : Dev nD) : V m c main_v1 = modRows (m ((c : Thread nD τ).loc main_arg1)) := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_results
  rfl

theorem V_v21 (c : Dev nD) : V m c main_v21 = truncf .bf16 (wMain (wMat (m ((c : Thread nD τ).loc main_arg2)))) bitsLt_bf16_f32 := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_results
  rfl

theorem V_v33 (c : Dev nD) : V m c main_v33 = truncf .bf16 (transpose S352x1024 [1, 0] (wT (wMat (m ((c : Thread nD τ).loc main_arg2)))) transposes_S1024x352_S352x1024_1_0) bitsLt_bf16_f32 := by
  unfold V
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_results
  rfl

theorem modRows_apply (A : FVec Ideal S8x6144 .f32) (b : Fin 4) (j : Fin 6) (k : Fin 1024) :
    modRows A (ix3 ⟨6 * b.val + j.val, by omega⟩ 0 k) = A (ix2 ⟨b.val, by omega⟩ ⟨1024 * j.val + k.val, by omega⟩) := by
  pointwise [modRows]
  blk_ext

theorem wMat_apply (W : FVec Ideal S1x1024x3352 .f32) (k : Fin 1024) (n : Fin 3352) : wMat W (ix2 k n) = W (ix3 0 k n) := by
  pointwise [wMat]

theorem conv_zero : FloatOps.sitofp (F := Ideal) .f32 0#32 = (0 : EReal) := Idealize.ShloMosaic.sitofp_zero

theorem zero32_apply (j : S_.Idx) : zero32 j = (0 : EReal) := by
  pointwise [zero32]
  exact conv_zero

theorem slots_apply (w : FVec Ideal S1024x128 .f32) (k : Fin 1024) (n : Fin 256) :
    slots w (ix2 k n) = if h : n.val % 128 < 64 then w (ix2 k ⟨n.val / 128 * 64 + n.val % 128, by omega⟩) else (0 : EReal) := by
  pointwise [slots, zero32_apply]
  by_cases h : n.val % 128 < 64
  · rw [dif_pos ⟨by omega, h⟩, dif_pos h]
  · rw [dif_neg (fun a => h a.2), dif_neg h]

theorem slots80_apply (w : FVec Ideal S1024x128 .f32) (k : Fin 1024) (n : Fin 160) :
    slots80 w (ix2 k n) = if h : n.val % 80 < 64 then w (ix2 k ⟨n.val / 80 * 64 + n.val % 80, by omega⟩) else (0 : EReal) := by
  pointwise [slots80, zero32_apply]
  by_cases h : n.val % 80 < 64
  · rw [dif_pos ⟨by omega, h⟩, dif_pos h]
  · rw [dif_neg (fun a => h a.2), dif_neg h]

theorem slots16_apply (w : FVec Ideal S1024x24 .f32) (k : Fin 1024) (n : Fin 32) :
    slots16 w (ix2 k n) = if h : n.val % 16 < 12 then w (ix2 k ⟨n.val / 16 * 12 + n.val % 16, by omega⟩) else (0 : EReal) := by
  pointwise [slots16, zero32_apply]
  by_cases h : n.val % 16 < 12
  · rw [dif_pos ⟨by omega, h⟩, dif_pos h]
  · rw [dif_neg (fun a => h a.2), dif_neg h]

theorem wMain_hg (w : FVec Ideal S1024x3352 .f32) (k : Fin 1024) (n : Fin 2048) :
    wMain w (ix2 k ⟨n.val, by omega⟩) = w (ix2 k ⟨n.val, by omega⟩) := by
  pointwise [wMain]

theorem wMain_q (w : FVec Ideal S1024x3352 .f32) (k : Fin 1024) (n : Fin 512) :
    wMain w (ix2 k ⟨2048 + n.val, by omega⟩) = w (ix2 k ⟨2048 + n.val, by omega⟩) * Ideal.ofBits .f32 0x3E38AA3B#32 := by
  pointwise [wMain, wQ]
  all_goals blk_ext

theorem wMain_ks (w : FVec Ideal S1024x3352 .f32) (k : Fin 1024) (n : Fin 256) :
    wMain w (ix2 k ⟨2560 + n.val, by omega⟩) = if h : n.val % 128 < 64 then w (ix2 k ⟨2816 + (n.val / 128 * 64 + n.val % 128), by omega⟩) else (0 : EReal) := by
  pointwise [wMain, slots_apply]
  by_cases h : n.val % 128 < 64
  · rw [dif_pos h]; split_ifs <;> first | (exfalso; omega) | rfl | blk_ext
  · rw [dif_neg h]; split_ifs <;> first | (exfalso; omega) | rfl | blk_ext

theorem wMain_kw (w : FVec Ideal S1024x3352 .f32) (k : Fin 1024) (n : Fin 256) :
    wMain w (ix2 k ⟨2816 + n.val, by omega⟩) = if h : n.val % 128 < 64 then w (ix2 k ⟨3072 + (n.val / 128 * 64 + n.val % 128), by omega⟩) else (0 : EReal) := by
  pointwise [wMain, slots_apply]
  by_cases h : n.val % 128 < 64
  · rw [dif_pos h]; split_ifs <;> first | (exfalso; omega) | rfl | blk_ext
  · rw [dif_neg h]; split_ifs <;> first | (exfalso; omega) | rfl | blk_ext

theorem wMain_kc (w : FVec Ideal S1024x3352 .f32) (k : Fin 1024) (n : Fin 128) :
    wMain w (ix2 k ⟨3072 + n.val, by omega⟩) = w (ix2 k ⟨2560 + n.val, by omega⟩) := by
  pointwise [wMain]
  split_ifs <;> first | (exfalso; omega) | rfl | blk_ext

theorem wMain_vc (w : FVec Ideal S1024x3352 .f32) (k : Fin 1024) (n : Fin 128) :
    wMain w (ix2 k ⟨3200 + n.val, by omega⟩) = w (ix2 k ⟨2688 + n.val, by omega⟩) := by
  pointwise [wMain]
  split_ifs <;> first | (exfalso; omega) | rfl | blk_ext

theorem wT_vs (w : FVec Ideal S1024x3352 .f32) (k : Fin 1024) (n : Fin 160) :
    wT w (ix2 k ⟨0 + n.val, by omega⟩) = if h : n.val % 80 < 64 then w (ix2 k ⟨2944 + (n.val / 80 * 64 + n.val % 80), by omega⟩) else (0 : EReal) := by
  pointwise [wT, slots80_apply, slots16_apply]

theorem wT_vw (w : FVec Ideal S1024x3352 .f32) (k : Fin 1024) (n : Fin 160) :
    wT w (ix2 k ⟨160 + n.val, by omega⟩) = if h : n.val % 80 < 64 then w (ix2 k ⟨3200 + (n.val / 80 * 64 + n.val % 80), by omega⟩) else (0 : EReal) := by
  pointwise [wT, slots80_apply, slots16_apply]

theorem wT_g (w : FVec Ideal S1024x3352 .f32) (k : Fin 1024) (n : Fin 32) :
    wT w (ix2 k ⟨320 + n.val, by omega⟩) = if h : n.val % 16 < 12 then w (ix2 k ⟨3328 + (n.val / 16 * 12 + n.val % 16), by omega⟩) else (0 : EReal) := by
  pointwise [wT, slots80_apply, slots16_apply]
  by_cases h : n.val % 16 < 12
  · rw [dif_pos h]; split_ifs <;> first | (exfalso; omega) | rfl | blk_ext
  · rw [dif_neg h]; split_ifs <;> first | (exfalso; omega) | rfl | blk_ext

theorem x_apply (c : Dev nD) (t : Fin cfg0.N) (r : Fin 512) (k : Fin 1024) :
    iblk m c 0 t (ix3 0 r k) = m ((c : Thread nD τ).loc main_arg0) (ix3 ⟨t.val / 8, by have : cfg0.N = 32 := rfl; omega⟩ ⟨512 * (t.val % 8) + r.val, by omega⟩ k) := by
  blk_ext! [iblk, V, idx t]

theorem sc_apply (c : Dev nD) (t : Fin cfg0.N) (k : Fin 1024) :
    iblk m c 1 t (ix3 0 0 k) = m ((c : Thread nD τ).loc main_arg1) (ix2 ⟨t.val / 8, by have : cfg0.N = 32 := rfl; omega⟩ ⟨1024 + k.val, by omega⟩) := by
  have e : ((cfg0.win 1).blk t).view.emb (ix3 0 0 k) = ix3 ⟨6 * (t.val / 8) + 1, by have : cfg0.N = 32 := rfl; omega⟩ 0 k := by blk_ext [idx t]
  show V m c main_v1 (((cfg0.win 1).blk t).view.emb (ix3 0 0 k)) = _
  rw [V_v1, e]
  exact modRows_apply _ ⟨t.val / 8, by have : cfg0.N = 32 := rfl; omega⟩ 1 k

theorem sh_apply (c : Dev nD) (t : Fin cfg0.N) (k : Fin 1024) :
    iblk m c 2 t (ix3 0 0 k) = m ((c : Thread nD τ).loc main_arg1) (ix2 ⟨t.val / 8, by have : cfg0.N = 32 := rfl; omega⟩ ⟨k.val, by omega⟩) := by
  have e : ((cfg0.win 2).blk t).view.emb (ix3 0 0 k) = ix3 ⟨6 * (t.val / 8), by have : cfg0.N = 32 := rfl; omega⟩ 0 k := by blk_ext [idx t]
  show V m c main_v1 (((cfg0.win 2).blk t).view.emb (ix3 0 0 k)) = _
  rw [V_v1, e]
  refine (modRows_apply _ ⟨t.val / 8, by have : cfg0.N = 32 := rfl; omega⟩ 0 k).trans ?_
  blk_ext

theorem main_apply (c : Dev nD) (t : Fin cfg0.N) (k : Fin 1024) (n : Fin 3328) :
    iblk m c 3 t (ix2 k n) = wMain (wMat (m ((c : Thread nD τ).loc main_arg2))) (ix2 k n) := by
  have e : ((cfg0.win 3).blk t).view.emb (ix2 k n) = ix2 k n := by blk_ext [idx t]
  show V m c main_v21 (((cfg0.win 3).blk t).view.emb (ix2 k n)) = _
  rw [V_v21, e]
  rfl

theorem t_apply (c : Dev nD) (t : Fin cfg0.N) (n : Fin 352) (k : Fin 1024) :
    iblk m c 4 t (ix2 n k) = wT (wMat (m ((c : Thread nD τ).loc main_arg2))) (ix2 k n) := by
  have e : ((cfg0.win 4).blk t).view.emb (ix2 n k) = ix2 n k := by blk_ext [idx t]
  show V m c main_v33 (((cfg0.win 4).blk t).view.emb (ix2 n k)) = _
  rw [V_v33, e]
  pointwise

end Cert.Kernel3Ideal.Proj
-- ==== Proof.ProjValue.lean ====
module

public import proofs.«01_k».proof.Proof.ProjArr

@[expose] public section

/-! # The input projection: the result arrays after the run -/

set_option maxRecDepth 16384

noncomputable section

open Idealize.ShloMosaic Idealize.ShloMosaic.TcCoe Idealize.SL.Sem
open Idealize.ShloMosaic.Pipeline (Dat)

namespace Cert.Proj

/-- The modulated input at batch `b`, position `t`. -/
def hAt (X : FVec Ideal ⟨3, ![4, 4096, 1024]⟩ .f32) (A : FVec Ideal ⟨2, ![8, 6144]⟩ .f32) (b : Fin 4) (t : Fin 4096) : Fin 1024 → EReal :=
  hRow (fun k => X (ix3 b t k)) (fun k => A (ix2 ⟨b.val, by omega⟩ ⟨1024 + k.val, by omega⟩)) (fun k => A (ix2 ⟨b.val, by omega⟩ ⟨k.val, by omega⟩))

/-- The projection's column `n` at batch `b`, position `t`. -/
def pAt (X : FVec Ideal ⟨3, ![4, 4096, 1024]⟩ .f32) (A : FVec Ideal ⟨2, ![8, 6144]⟩ .f32) (W : FVec Ideal ⟨3, ![1, 1024, 3352]⟩ .f32)
    (b : Fin 4) (t : Fin 4096) (n : Fin 3352) : EReal := ∑ k : Fin 1024, hAt X A b t k * W (ix3 0 k n)

/-- A slot of 128 of a key: the key's coordinates, the position's columns, zeros. -/
def keyAt (X : FVec Ideal ⟨3, ![4, 4096, 1024]⟩ .f32) (A : FVec Ideal ⟨2, ![8, 6144]⟩ .f32) (W : FVec Ideal ⟨3, ![1, 1024, 3352]⟩ .f32) (o : ℕ) (ho : o ≤ 3200)
    (b : Fin 4) (t : Fin 4096) (n : Fin 256) : EReal :=
  if h : n.val % 128 < 64 then pAt X A W b t ⟨o + (n.val / 128 * 64 + n.val % 128), by omega⟩
  else FloatOps.sitofp (F := Ideal) .f32 (pcol t.val (n.val % 128))

/-- A slot of 80 of a value: the value's coordinates, a one, zeros. -/
def valAt (X : FVec Ideal ⟨3, ![4, 4096, 1024]⟩ .f32) (A : FVec Ideal ⟨2, ![8, 6144]⟩ .f32) (W : FVec Ideal ⟨3, ![1, 1024, 3352]⟩ .f32)
    (b : Fin 4) (t : Fin 4096) (n : Fin 320) : EReal :=
  if h : n.val % 80 < 64 then pAt X A W b t ⟨2944 + 256 * (n.val / 160) + (n.val % 160 / 80 * 64 + n.val % 80), by omega⟩
  else if n.val % 80 = 64 then 1 else 0

/-- A slot of 16 of the gates. -/
def gateAt (X : FVec Ideal ⟨3, ![4, 4096, 1024]⟩ .f32) (A : FVec Ideal ⟨2, ![8, 6144]⟩ .f32) (W : FVec Ideal ⟨3, ![1, 1024, 3352]⟩ .f32)
    (b : Fin 4) (t : Fin 4096) (n : Fin 32) : EReal :=
  if h : n.val % 16 < 12 then pAt X A W b t ⟨3328 + (n.val / 16 * 12 + n.val % 16), by omega⟩ else 0

/-- The queries' factor is a nonnegative real. -/
theorem scale_real : Ideal.ofBits .f32 0x3E38AA3B#32 = (((12102203 : ℝ) / 67108864 : ℝ) : EReal) := by
  simp [Ideal.ofBits, Ideal.ieee, -EReal.coe_mul]; norm_num

/-- A nonnegative real factor leaves a sum. -/
theorem sum_scale (s : ℝ) (hs : 0 ≤ s) {n : ℕ} (f g : Fin n → EReal) : ∑ k, f k * (g k * (s : EReal)) = (∑ k, f k * g k) * (s : EReal) := by
  have H : ∀ S : Finset (Fin n), ∑ k ∈ S, f k * (g k * (s : EReal)) = (∑ k ∈ S, f k * g k) * (s : EReal) := by
    intro S
    induction S using Finset.induction_on with
    | empty => simp
    | insert a S ha ih =>
      rw [Finset.sum_insert ha, Finset.sum_insert ha, ih, EReal.right_distrib_of_nonneg_of_ne_top (EReal.coe_nonneg.mpr hs) (EReal.coe_ne_top s), mul_assoc]
  exact H Finset.univ

end Cert.Proj

namespace Cert.Kernel3Ideal.Proj

open Cert.Kernel3Ideal Cert.Kernel3Ideal.Gen Cert.Proj

variable (m : (ℓ : Loc nD τ sig) → Buf (Elt Ideal) ℓ)

/-- The batch of a grid point. -/
abbrev tb (t : Fin cfg0.N) : Fin 4 := ⟨t.val / 8, by have : cfg0.N = 32 := rfl; omega⟩

/-- The position of a block's row. -/
abbrev tp (t : Fin cfg0.N) (r : Fin 512) : Fin 4096 := ⟨512 * (t.val % 8) + r.val, by omega⟩

theorem coord1 : ∀ t : Fin cfg0.N, ((grid0.coords t) 1).val = t.val % 8 := (by decide +kernel : ∀ t : Fin grid0.N, _)

theorem hR_eq (c : Dev nD) (t : Fin cfg0.N) (r : Fin 512) : hR (iblk m c 0 t) (iblk m c 1 t) (iblk m c 2 t) r
    = hAt (m ((c : Thread nD τ).loc main_arg0)) (m ((c : Thread nD τ).loc main_arg1)) (tb t) (tp t r) := by
  unfold hR hAt
  congr 1
  · funext k; exact x_apply m c t r k
  · funext k; exact sc_apply m c t k
  · funext k; exact sh_apply m c t k

theorem pos_eq (t : Fin cfg0.N) (r : Fin 512) (n : Fin 256) :
    kcol (IntOp.addi (Scalar.muli (BitVec.ofNat 32 ((grid0.coords t) 1).val) 512#32) (BitVec.ofNat 32 r.val)) (BitVec.ofNat 32 n.val)
      = pcol (tp t r).val (n.val % 128) := by
  rw [coord1]
  have := row_pos ⟨t.val % 8, by omega⟩ r
  rw [show IntOp.addi (Scalar.muli (BitVec.ofNat 32 (t.val % 8)) 512#32) (BitVec.ofNat 32 r.val) = BitVec.ofNat 32 (tp t r).val from this]
  exact kcol_eq (tp t r) n

theorem pcol_low (t j : ℕ) (h : j < 64) : pcol t j = 0#32 := if_neg (by omega)

/-- A zero-padded column. -/
theorem sum_dite (p : Prop) [Decidable p] (f : Fin 1024 → EReal) (g : p → Fin 1024 → EReal) :
    ∑ k, f k * (if h : p then g h k else 0) = if h : p then ∑ k, f k * g h k else 0 := by
  by_cases h : p
  · simp only [dif_pos h]
  · simp only [dif_neg h, mul_zero, Finset.sum_const_zero]

/-- Result 0 as an array, from the arguments. -/
def HG (X : FVec Ideal ⟨3, ![4, 4096, 1024]⟩ .f32) (A : FVec Ideal ⟨2, ![8, 6144]⟩ .f32) (W : FVec Ideal ⟨3, ![1, 1024, 3352]⟩ .f32) : FVec Ideal S4x4096x2048 .f32 := fun i => pAt X A W (i 0) (i 1) ⟨(i 2).val, (i 2).isLt.trans (by decide)⟩

/-- Result 1 as an array, from the arguments. -/
def Q (X : FVec Ideal ⟨3, ![4, 4096, 1024]⟩ .f32) (A : FVec Ideal ⟨2, ![8, 6144]⟩ .f32) (W : FVec Ideal ⟨3, ![1, 1024, 3352]⟩ .f32) : FVec Ideal S4x4096x512 .bf16 := fun i => pAt X A W (i 0) (i 1) ⟨2048 + (i 2).val, by have := (i 2).isLt; change _ < 512 at this; omega⟩ * Ideal.ofBits .f32 0x3E38AA3B#32

/-- Result 2 as an array, from the arguments. -/
def KS (X : FVec Ideal ⟨3, ![4, 4096, 1024]⟩ .f32) (A : FVec Ideal ⟨2, ![8, 6144]⟩ .f32) (W : FVec Ideal ⟨3, ![1, 1024, 3352]⟩ .f32) : FVec Ideal S4x4096x256 .bf16 := fun i => keyAt X A W 2816 (by omega) (i 0) (i 1) (i 2)

/-- Result 3 as an array, from the arguments. -/
def KW (X : FVec Ideal ⟨3, ![4, 4096, 1024]⟩ .f32) (A : FVec Ideal ⟨2, ![8, 6144]⟩ .f32) (W : FVec Ideal ⟨3, ![1, 1024, 3352]⟩ .f32) : FVec Ideal S4x4096x256 .bf16 := fun i => keyAt X A W 3072 (by omega) (i 0) (i 1) (i 2)

/-- Result 4 as an array, from the arguments. -/
def KC (X : FVec Ideal ⟨3, ![4, 4096, 1024]⟩ .f32) (A : FVec Ideal ⟨2, ![8, 6144]⟩ .f32) (W : FVec Ideal ⟨3, ![1, 1024, 3352]⟩ .f32) : FVec Ideal S4x4096x128 .f32 := fun i => pAt X A W (i 0) (i 1) ⟨2560 + (i 2).val, by have := (i 2).isLt; change _ < 128 at this; omega⟩

/-- Result 5 as an array, from the arguments. -/
def VC (X : FVec Ideal ⟨3, ![4, 4096, 1024]⟩ .f32) (A : FVec Ideal ⟨2, ![8, 6144]⟩ .f32) (W : FVec Ideal ⟨3, ![1, 1024, 3352]⟩ .f32) : FVec Ideal S4x4096x128 .f32 := fun i => pAt X A W (i 0) (i 1) ⟨2688 + (i 2).val, by have := (i 2).isLt; change _ < 128 at this; omega⟩

/-- Result 6 as an array, from the arguments. -/
def VT (X : FVec Ideal ⟨3, ![4, 4096, 1024]⟩ .f32) (A : FVec Ideal ⟨2, ![8, 6144]⟩ .f32) (W : FVec Ideal ⟨3, ![1, 1024, 3352]⟩ .f32) : FVec Ideal S4x320x4096 .bf16 := fun i => valAt X A W (i 0) (i 2) (i 1)

/-- Result 7 as an array, from the arguments. -/
def GT (X : FVec Ideal ⟨3, ![4, 4096, 1024]⟩ .f32) (A : FVec Ideal ⟨2, ![8, 6144]⟩ .f32) (W : FVec Ideal ⟨3, ![1, 1024, 3352]⟩ .f32) : FVec Ideal S4x32x4096 .f32 := fun i => gateAt X A W (i 0) (i 2) (i 1)

theorem final5 (c : Dev nD) : (dats m 0 c).arrAt 5 (cfgs 0).N = HG (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨a, r, n, rfl⟩ : ∃ (a : Fin 1) (r : Fin 512) (n : Fin 2048), y = ix3 a r n := ⟨y 0, y 1, y 2, eq_ix3 y⟩
  obtain rfl : a = 0 := Subsingleton.elim _ _
  have e : ((cfg0.win 5).blk t).view.emb (ix3 0 r n) = ix3 (tb t) (tp t r) n := by blk_ext [idx t]
  refine (out5 _ _ _ _ _ _ r n).trans (Eq.trans ?_ (congrArg (HG (m ((c : Thread nD τ).loc main_arg0)) (m ((c : Thread nD τ).loc main_arg1)) (m ((c : Thread nD τ).loc main_arg2))) e).symm)
  exact Finset.sum_congr rfl fun k _ => congrArg₂ (· * ·) (congrFun (hR_eq m c t r) k) ((main_apply m c t k _).trans ((wMain_hg _ k n).trans (wMat_apply _ k _)))

theorem final6 (c : Dev nD) : (dats m 0 c).arrAt 6 (cfgs 0).N = Q (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  obtain ⟨a, r, n, rfl⟩ : ∃ (a : Fin 1) (r : Fin 512) (n : Fin 512), y = ix3 a r n := ⟨y 0, y 1, y 2, eq_ix3 y⟩
  obtain rfl : a = 0 := Subsingleton.elim _ _
  have e : ((cfg0.win 6).blk t).view.emb (ix3 0 r n) = ix3 (tb t) (tp t r) n := by blk_ext [idx t]
  refine (out6 _ _ _ _ _ _ r n).trans (Eq.trans ?_ (congrArg (Q (m ((c : Thread nD τ).loc main_arg0)) (m ((c : Thread nD τ).loc main_arg1)) (m ((c : Thread nD τ).loc main_arg2))) e).symm)
  refine (Finset.sum_congr rfl fun k _ => congrArg₂ (· * ·) (congrFun (hR_eq m c t r) k) ((main_apply m c t k _).trans ((wMain_q _ k n).trans (congrArg (· * _) (wMat_apply _ k _))))).trans ?_
  rw [scale_real]
  refine (sum_scale _ (by norm_num) _ _).trans ?_
  rw [← scale_real]
  rfl

theorem final7 (c : Dev nD) : (dats m 0 c).arrAt 7 (cfgs 0).N = KS (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  obtain ⟨a, r, n, rfl⟩ : ∃ (a : Fin 1) (r : Fin 512) (n : Fin 256), y = ix3 a r n := ⟨y 0, y 1, y 2, eq_ix3 y⟩
  obtain rfl : a = 0 := Subsingleton.elim _ _
  have e : ((cfg0.win 7).blk t).view.emb (ix3 0 r n) = ix3 (tb t) (tp t r) n := by blk_ext [idx t]
  refine (out7 _ _ _ _ _ _ r n).trans (Eq.trans ?_ (congrArg (KS (m ((c : Thread nD τ).loc main_arg0)) (m ((c : Thread nD τ).loc main_arg1)) (m ((c : Thread nD τ).loc main_arg2))) e).symm)
  refine (congrArg₂ (· + ·) (Finset.sum_congr rfl fun k _ => congrArg₂ (· * ·) (congrFun (hR_eq m c t r) k) ((main_apply m c t k _).trans (wMain_ks _ k n))) (congrArg (FloatOps.sitofp (F := Ideal) .f32) (pos_eq t r n))).trans ?_
  show _ = keyAt _ _ _ _ _ (tb t) (tp t r) n
  unfold keyAt
  rw [sum_dite]
  by_cases h : n.val % 128 < 64
  · rw [dif_pos h, dif_pos h, pcol_low _ _ h, conv_zero]
    refine (add_zero _).trans ?_
    exact Finset.sum_congr rfl fun k _ => congrArg _ (wMat_apply _ k _)
  · rw [dif_neg h, dif_neg h]
    exact zero_add _

theorem final8 (c : Dev nD) : (dats m 0 c).arrAt 8 (cfgs 0).N = KW (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  obtain ⟨a, r, n, rfl⟩ : ∃ (a : Fin 1) (r : Fin 512) (n : Fin 256), y = ix3 a r n := ⟨y 0, y 1, y 2, eq_ix3 y⟩
  obtain rfl : a = 0 := Subsingleton.elim _ _
  have e : ((cfg0.win 8).blk t).view.emb (ix3 0 r n) = ix3 (tb t) (tp t r) n := by blk_ext [idx t]
  refine (out8 _ _ _ _ _ _ r n).trans (Eq.trans ?_ (congrArg (KW (m ((c : Thread nD τ).loc main_arg0)) (m ((c : Thread nD τ).loc main_arg1)) (m ((c : Thread nD τ).loc main_arg2))) e).symm)
  refine (congrArg₂ (· + ·) (Finset.sum_congr rfl fun k _ => congrArg₂ (· * ·) (congrFun (hR_eq m c t r) k) ((main_apply m c t k _).trans (wMain_kw _ k n))) (congrArg (FloatOps.sitofp (F := Ideal) .f32) (pos_eq t r n))).trans ?_
  show _ = keyAt _ _ _ _ _ (tb t) (tp t r) n
  unfold keyAt
  rw [sum_dite]
  by_cases h : n.val % 128 < 64
  · rw [dif_pos h, dif_pos h, pcol_low _ _ h, conv_zero]
    refine (add_zero _).trans ?_
    exact Finset.sum_congr rfl fun k _ => congrArg _ (wMat_apply _ k _)
  · rw [dif_neg h, dif_neg h]
    exact zero_add _

theorem final9 (c : Dev nD) : (dats m 0 c).arrAt 9 (cfgs 0).N = KC (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  obtain ⟨a, r, n, rfl⟩ : ∃ (a : Fin 1) (r : Fin 512) (n : Fin 128), y = ix3 a r n := ⟨y 0, y 1, y 2, eq_ix3 y⟩
  obtain rfl : a = 0 := Subsingleton.elim _ _
  have e : ((cfg0.win 9).blk t).view.emb (ix3 0 r n) = ix3 (tb t) (tp t r) n := by blk_ext [idx t]
  refine (out9 _ _ _ _ _ _ r n).trans (Eq.trans ?_ (congrArg (KC (m ((c : Thread nD τ).loc main_arg0)) (m ((c : Thread nD τ).loc main_arg1)) (m ((c : Thread nD τ).loc main_arg2))) e).symm)
  exact Finset.sum_congr rfl fun k _ => congrArg₂ (· * ·) (congrFun (hR_eq m c t r) k) ((main_apply m c t k _).trans ((wMain_kc _ k n).trans (wMat_apply _ k _)))

theorem final10 (c : Dev nD) : (dats m 0 c).arrAt 10 (cfgs 0).N = VC (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  obtain ⟨a, r, n, rfl⟩ : ∃ (a : Fin 1) (r : Fin 512) (n : Fin 128), y = ix3 a r n := ⟨y 0, y 1, y 2, eq_ix3 y⟩
  obtain rfl : a = 0 := Subsingleton.elim _ _
  have e : ((cfg0.win 10).blk t).view.emb (ix3 0 r n) = ix3 (tb t) (tp t r) n := by blk_ext [idx t]
  refine (out10 _ _ _ _ _ _ r n).trans (Eq.trans ?_ (congrArg (VC (m ((c : Thread nD τ).loc main_arg0)) (m ((c : Thread nD τ).loc main_arg1)) (m ((c : Thread nD τ).loc main_arg2))) e).symm)
  exact Finset.sum_congr rfl fun k _ => congrArg₂ (· * ·) (congrFun (hR_eq m c t r) k) ((main_apply m c t k _).trans ((wMain_vc _ k n).trans (wMat_apply _ k _)))

theorem tv_apply (c : Dev nD) (t : Fin cfg0.N) (r : Fin 320) (k : Fin 1024) :
    iblk m c 4 t (ix2 ⟨r.val, by omega⟩ k) = if h : r.val % 80 < 64 then
      m ((c : Thread nD τ).loc main_arg2) (ix3 0 k ⟨2944 + 256 * (r.val / 160) + (r.val % 160 / 80 * 64 + r.val % 80), by omega⟩) else (0 : EReal) := by
  rw [t_apply]
  by_cases hr : r.val < 160
  · obtain ⟨q, hq⟩ : ∃ q : Fin 160, r.val = 0 + q.val := ⟨⟨r.val, hr⟩, (Nat.zero_add _).symm⟩
    have e' : (⟨r.val, by omega⟩ : Fin 352) = ⟨0 + q.val, by omega⟩ := Fin.ext hq
    rw [e', wT_vs]
    by_cases h : r.val % 80 < 64
    · rw [dif_pos h, dif_pos (by omega), wMat_apply]
      exact congrArg (fun n => m ((c : Thread nD τ).loc main_arg2) (ix3 0 k n)) (Fin.ext (by show 2944 + (q.val / 80 * 64 + q.val % 80) = 2944 + 256 * (r.val / 160) + (r.val % 160 / 80 * 64 + r.val % 80); omega))
    · rw [dif_neg h, dif_neg (by omega)]
  · obtain ⟨q, hq⟩ : ∃ q : Fin 160, r.val = 160 + q.val := ⟨⟨r.val - 160, by omega⟩, by show r.val = 160 + (r.val - 160); omega⟩
    have e' : (⟨r.val, by omega⟩ : Fin 352) = ⟨160 + q.val, by omega⟩ := Fin.ext hq
    rw [e', wT_vw]
    by_cases h : r.val % 80 < 64
    · rw [dif_pos h, dif_pos (by omega), wMat_apply]
      exact congrArg (fun n => m ((c : Thread nD τ).loc main_arg2) (ix3 0 k n)) (Fin.ext (by show 3200 + (q.val / 80 * 64 + q.val % 80) = 2944 + 256 * (r.val / 160) + (r.val % 160 / 80 * 64 + r.val % 80); omega))
    · rw [dif_neg h, dif_neg (by omega)]

theorem final11 (c : Dev nD) : (dats m 0 c).arrAt 11 (cfgs 0).N = VT (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  obtain ⟨a, r, n, rfl⟩ : ∃ (a : Fin 1) (r : Fin 320) (n : Fin 512), y = ix3 a r n := ⟨y 0, y 1, y 2, eq_ix3 y⟩
  obtain rfl : a = 0 := Subsingleton.elim _ _
  have e : ((cfg0.win 11).blk t).view.emb (ix3 0 r n) = ix3 (tb t) r (tp t n) := by blk_ext [idx t]
  refine (out11 _ _ _ _ _ _ r n).trans (Eq.trans ?_ (congrArg (VT (m ((c : Thread nD τ).loc main_arg0)) (m ((c : Thread nD τ).loc main_arg1)) (m ((c : Thread nD τ).loc main_arg2))) e).symm)
  show _ = valAt _ _ _ (tb t) (tp t n) r
  unfold valAt
  rw [one_row r]
  refine (congrArg (· + _) (Finset.sum_congr rfl fun k _ => (mul_comm _ _).trans (congrArg₂ (· * ·) (congrFun (hR_eq m c t n) k) (tv_apply m c t r k)))).trans ?_
  rw [sum_dite]
  by_cases h : r.val % 80 < 64
  · rw [dif_pos h, dif_pos h, if_neg (by omega)]
    exact add_zero _
  · rw [dif_neg h, dif_neg h]
    refine (zero_add _).trans ?_
    split_ifs <;> rfl

theorem final12 (c : Dev nD) : (dats m 0 c).arrAt 12 (cfgs 0).N = GT (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  obtain ⟨a, r, n, rfl⟩ : ∃ (a : Fin 1) (r : Fin 32) (n : Fin 512), y = ix3 a r n := ⟨y 0, y 1, y 2, eq_ix3 y⟩
  obtain rfl : a = 0 := Subsingleton.elim _ _
  have e : ((cfg0.win 12).blk t).view.emb (ix3 0 r n) = ix3 (tb t) r (tp t n) := by blk_ext [idx t]
  refine (out12 _ _ _ _ _ _ r n).trans (Eq.trans ?_ (congrArg (GT (m ((c : Thread nD τ).loc main_arg0)) (m ((c : Thread nD τ).loc main_arg1)) (m ((c : Thread nD τ).loc main_arg2))) e).symm)
  show _ = gateAt _ _ _ (tb t) (tp t n) r
  unfold gateAt
  refine (Finset.sum_congr rfl fun k _ => (mul_comm _ _).trans (congrArg₂ (· * ·) (congrFun (hR_eq m c t n) k) ((t_apply m c t _ k).trans (wT_g _ k r)))).trans ?_
  rw [sum_dite]
  by_cases h : r.val % 16 < 12
  · rw [dif_pos h, dif_pos h]
    exact Finset.sum_congr rfl fun k _ => congrArg _ (wMat_apply _ k _)
  · rw [dif_neg h, dif_neg h]

end Cert.Kernel3Ideal.Proj
-- ==== Proof.ProjRef.lean ====
module

public import proofs.«01_k».proof.Proof.ProjValue
public import proofs.«01_k».proof.Proof.Gen.Reference3Ideal.Run

@[expose] public section

/-! # The input projection's reference, read at an index -/

set_option maxRecDepth 16384

noncomputable section

open Idealize.ShloMosaic Idealize.ShloMosaic.TcCoe Idealize.SL.Sem

namespace Cert.Reference3Ideal.Proj

open Cert.Reference3Ideal Cert.Reference3Ideal.Gen Cert.Proj

/-- The whole projection. -/
def rP (X : FVec Ideal S4x4096x1024 .f32) (A : FVec Ideal S8x6144 .f32) (W : FVec Ideal S1x1024x3352 .f32) : FVec Ideal S4x4096x3352 .f32 :=
  Host.dotGeneral dot_S4x4096x1024_S1024x3352_S4x4096x3352_2_0_01_1_n_n none (addf (mulf X (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x6144 ![0, 2] bcast_S4x6144_S4x1x6144_0_2 (extractStridedSlice S4x6144 ![0, 0] A slices_S8x6144_S4x6144_0_0)) slices_S4x1x6144_S4x1x1024_0_0_1024)))) (broadcastInDim S4x4096x1024 ![0, 1, 2] bcast_S4x1x1024_S4x4096x1024_0_1_2 (extractStridedSlice S4x1x1024 ![0, 0, 0] (broadcastInDim S4x1x6144 ![0, 2] bcast_S4x6144_S4x1x6144_0_2 (extractStridedSlice S4x6144 ![0, 0] A slices_S8x6144_S4x6144_0_0)) slices_S4x1x6144_S4x1x1024_0_0_0))) (shapeCast S1024x3352 W shapeCasts_S1x1024x3352_S1024x3352)

/-- A position's low part. -/
def rLo : IVec S4096 32 :=
  select (andi (cmpi .ne (cmpi .slt (Host.remsi (iotaInDim S4096 32 0) (broadcastInDim S4096 ![] bcast_S_S4096 (select (cmpi .eq (id (constantI S_ 32 256#32)) (constantI S_ 32 0#32)) (constantI S_ 32 1#32) (id (constantI S_ 32 256#32))))) (broadcastInDim S4096 ![] bcast_S_S4096 (constantI S_ 32 0#32))) (broadcastInDim S4096 ![] bcast_S_S4096 (cmpi .slt (select (cmpi .eq (id (constantI S_ 32 256#32)) (constantI S_ 32 0#32)) (constantI S_ 32 1#32) (id (constantI S_ 32 256#32))) (constantI S_ 32 0#32)))) (cmpi .ne (Host.remsi (iotaInDim S4096 32 0) (broadcastInDim S4096 ![] bcast_S_S4096 (select (cmpi .eq (id (constantI S_ 32 256#32)) (constantI S_ 32 0#32)) (constantI S_ 32 1#32) (id (constantI S_ 32 256#32))))) (broadcastInDim S4096 ![] bcast_S_S4096 (constantI S_ 32 0#32))))
    (addi (Host.remsi (iotaInDim S4096 32 0) (broadcastInDim S4096 ![] bcast_S_S4096 (select (cmpi .eq (id (constantI S_ 32 256#32)) (constantI S_ 32 0#32)) (constantI S_ 32 1#32) (id (constantI S_ 32 256#32))))) (broadcastInDim S4096 ![] bcast_S_S4096 (select (cmpi .eq (id (constantI S_ 32 256#32)) (constantI S_ 32 0#32)) (constantI S_ 32 1#32) (id (constantI S_ 32 256#32))))) (Host.remsi (iotaInDim S4096 32 0) (broadcastInDim S4096 ![] bcast_S_S4096 (select (cmpi .eq (id (constantI S_ 32 256#32)) (constantI S_ 32 0#32)) (constantI S_ 32 1#32) (id (constantI S_ 32 256#32)))))

/-- A position's high part. -/
def rHi : IVec S4096 32 := subi (iotaInDim S4096 32 0) rLo

/-- The six columns of a position. -/
def rCols : IVec S4096x6 32 :=
  concatenate S4096x6 1 [⟨S4096x1, broadcastInDim S4096x1 ![0] bcast_S4096_S4096x1_0 rLo⟩, ⟨S4096x1, broadcastInDim S4096x1 ![0] bcast_S4096_S4096x1_0 rHi⟩, ⟨S4096x1, broadcastInDim S4096x1 ![0] bcast_S4096_S4096x1_0 rLo⟩, ⟨S4096x1, broadcastInDim S4096x1 ![0] bcast_S4096_S4096x1_0 rHi⟩, ⟨S4096x1, broadcastInDim S4096x1 ![0] bcast_S4096_S4096x1_0 rLo⟩, ⟨S4096x1, broadcastInDim S4096x1 ![0] bcast_S4096_S4096x1_0 rHi⟩]
    concatenates_S4096x1_S4096x1_S4096x1_S4096x1_S4096x1_S4096x1_S4096x6_d1

/-- The keys' slots. -/
def rKeys (a : FVec Ideal S4x4096x128 .f32) : FVec Ideal S4x4096x256 .f32 :=
  shapeCast S4x4096x256 (concatenate S4x4096x2x128 3 [⟨S4x4096x2x64, shapeCast S4x4096x2x64 a shapeCasts_S4x4096x128_S4x4096x2x64⟩,
    ⟨S4x4096x2x6, broadcastInDim S4x4096x2x6 ![0, 1, 2, 3] bcast_S1x4096x1x6_S4x4096x2x6_0_1_2_3 (broadcastInDim S1x4096x1x6 ![1, 3] bcast_S4096x6_S1x4096x1x6_1_3 (sitofp .f32 rCols))⟩,
    ⟨S4x4096x2x58, broadcastInDim S4x4096x2x58 ![] bcast_S_S4x4096x2x58 (constant S_ .f32 0x00000000#32)⟩] concatenates_S4x4096x2x64_S4x4096x2x6_S4x4096x2x58_S4x4096x2x128_d3)
    shapeCasts_S4x4096x2x128_S4x4096x256

/-- The values' slots. -/
def rVals (a : FVec Ideal S4x4096x128 .f32) : FVec Ideal S4x4096x160 .f32 :=
  shapeCast S4x4096x160 (concatenate S4x4096x2x80 3 [⟨S4x4096x2x64, shapeCast S4x4096x2x64 a shapeCasts_S4x4096x128_S4x4096x2x64⟩,
    ⟨S4x4096x2x1, broadcastInDim S4x4096x2x1 ![] bcast_S_S4x4096x2x1 (constant S_ .f32 0x3F800000#32)⟩,
    ⟨S4x4096x2x15, broadcastInDim S4x4096x2x15 ![] bcast_S_S4x4096x2x15 (constant S_ .f32 0x00000000#32)⟩] concatenates_S4x4096x2x64_S4x4096x2x1_S4x4096x2x15_S4x4096x2x80_d3)
    shapeCasts_S4x4096x2x80_S4x4096x160

/-- The first 2048 columns, put together from four parts. -/
def rHg (P : FVec Ideal S4x4096x3352 .f32) : FVec Ideal S4x4096x2048 .f32 :=
  concatenate S4x4096x2048 2 [⟨S4x4096x512, extractStridedSlice S4x4096x512 ![0, 0, 0] P slices_S4x4096x3352_S4x4096x512_0_0_0⟩,
    ⟨S4x4096x512, extractStridedSlice S4x4096x512 ![0, 0, 512] P slices_S4x4096x3352_S4x4096x512_0_0_512⟩,
    ⟨S4x4096x512, extractStridedSlice S4x4096x512 ![0, 0, 1024] P slices_S4x4096x3352_S4x4096x512_0_0_1024⟩,
    ⟨S4x4096x512, extractStridedSlice S4x4096x512 ![0, 0, 1536] P slices_S4x4096x3352_S4x4096x512_0_0_1536⟩]
    concatenates_S4x4096x512_S4x4096x512_S4x4096x512_S4x4096x512_S4x4096x2048_d2

def rQ (P : FVec Ideal S4x4096x3352 .f32) : FVec Ideal S4x4096x512 .bf16 :=
  truncf .bf16 (mulf (extractStridedSlice S4x4096x512 ![0, 0, 2048] P slices_S4x4096x3352_S4x4096x512_0_0_2048) (broadcastInDim S4x4096x512 ![] bcast_S_S4x4096x512 (constant S_ .f32 0x3E38AA3B#32))) bitsLt_bf16_f32

def rKs (P : FVec Ideal S4x4096x3352 .f32) : FVec Ideal S4x4096x256 .bf16 :=
  truncf .bf16 (rKeys (extractStridedSlice S4x4096x128 ![0, 0, 2816] P slices_S4x4096x3352_S4x4096x128_0_0_2816)) bitsLt_bf16_f32

def rKw (P : FVec Ideal S4x4096x3352 .f32) : FVec Ideal S4x4096x256 .bf16 :=
  truncf .bf16 (rKeys (extractStridedSlice S4x4096x128 ![0, 0, 3072] P slices_S4x4096x3352_S4x4096x128_0_0_3072)) bitsLt_bf16_f32

def rKc (P : FVec Ideal S4x4096x3352 .f32) : FVec Ideal S4x4096x128 .f32 := extractStridedSlice S4x4096x128 ![0, 0, 2560] P slices_S4x4096x3352_S4x4096x128_0_0_2560

def rVc (P : FVec Ideal S4x4096x3352 .f32) : FVec Ideal S4x4096x128 .f32 := extractStridedSlice S4x4096x128 ![0, 0, 2688] P slices_S4x4096x3352_S4x4096x128_0_0_2688

def rVt (P : FVec Ideal S4x4096x3352 .f32) : FVec Ideal S4x320x4096 .bf16 :=
  truncf .bf16 (transpose S4x320x4096 [0, 2, 1] (concatenate S4x4096x320 2 [⟨S4x4096x160, rVals (extractStridedSlice S4x4096x128 ![0, 0, 2944] P slices_S4x4096x3352_S4x4096x128_0_0_2944)⟩,
    ⟨S4x4096x160, rVals (extractStridedSlice S4x4096x128 ![0, 0, 3200] P slices_S4x4096x3352_S4x4096x128_0_0_3200)⟩] concatenates_S4x4096x160_S4x4096x160_S4x4096x320_d2)
    transposes_S4x4096x320_S4x320x4096_0_2_1) bitsLt_bf16_f32

def rGt (P : FVec Ideal S4x4096x3352 .f32) : FVec Ideal S4x32x4096 .f32 :=
  transpose S4x32x4096 [0, 2, 1] (shapeCast S4x4096x32 (pad S4x4096x2x16 ![0, 0, 0, 0] ![0, 0, 0, 4] ![0, 0, 0, 0]
    (shapeCast S4x4096x2x12 (extractStridedSlice S4x4096x24 ![0, 0, 3328] P slices_S4x4096x3352_S4x4096x24_0_0_3328) shapeCasts_S4x4096x24_S4x4096x2x12)
    (sitofp .f32 (constantI S_ 32 0#32)) pads_S4x4096x2x12_S4x4096x2x16_000_000_000_040 h_S_) shapeCasts_S4x4096x2x16_S4x4096x32) transposes_S4x4096x32_S4x32x4096_0_2_1

theorem rP_apply (X : FVec Ideal S4x4096x1024 .f32) (A : FVec Ideal S8x6144 .f32) (W : FVec Ideal S1x1024x3352 .f32) (b : Fin 4) (t : Fin 4096) (n : Fin 3352) :
    rP X A W (ix3 b t n) = pAt X A W b t n := by
  pointwise [rP]
  rfl

theorem lo_word : ∀ t : Fin 4096,
    Scalar.select
      (IntOp.andi
        (IntOp.cmpi CmpIPredicate.ne
          (IntOp.cmpi CmpIPredicate.slt (IntOp.remsi ArithUnit.host (BitVec.ofNat 32 t.val) (Scalar.select (IntOp.cmpi CmpIPredicate.eq 256#32 0#32) (1#32) 256#32)) 0#32)
          (IntOp.cmpi CmpIPredicate.slt (Scalar.select (IntOp.cmpi CmpIPredicate.eq 256#32 0#32) (1#32) 256#32) 0#32))
        (IntOp.cmpi CmpIPredicate.ne (IntOp.remsi ArithUnit.host (BitVec.ofNat 32 t.val) (Scalar.select (IntOp.cmpi CmpIPredicate.eq 256#32 0#32) (1#32) 256#32)) 0#32))
      (IntOp.addi (IntOp.remsi ArithUnit.host (BitVec.ofNat 32 t.val) (Scalar.select (IntOp.cmpi CmpIPredicate.eq 256#32 0#32) (1#32) 256#32))
        (Scalar.select (IntOp.cmpi CmpIPredicate.eq 256#32 0#32) (1#32) 256#32))
      (IntOp.remsi ArithUnit.host (BitVec.ofNat 32 t.val) (Scalar.select (IntOp.cmpi CmpIPredicate.eq 256#32 0#32) (1#32) 256#32))
      = BitVec.ofNat 32 (t.val % 256) := by decide +kernel

theorem rLo_apply (t : Fin 4096) : rLo (ix1 t) = BitVec.ofNat 32 (t.val % 256) := by
  pointwise [rLo]
  exact lo_word t

theorem rHi_apply (t : Fin 4096) : rHi (ix1 t) = BitVec.ofNat 32 (t.val - t.val % 256) := by
  pointwise [rHi, rLo_apply]
  exact sub_pos t

theorem rCols_apply (t : Fin 4096) (j : Fin 6) : rCols (ix2 t j) = pcol t.val (64 + j.val) := by
  pointwise [rCols, rLo_apply, rHi_apply]
  fin_cases j <;> rfl

theorem rKeys_apply (a : FVec Ideal S4x4096x128 .f32) (b : Fin 4) (t : Fin 4096) (n : Fin 256) : rKeys a (ix3 b t n)
    = if h : n.val % 128 < 64 then a (ix3 b t ⟨n.val / 128 * 64 + n.val % 128, by omega⟩) else FloatOps.sitofp (F := Ideal) .f32 (pcol t.val (n.val % 128)) := by
  pointwise [rKeys, rCols_apply]
  by_cases h : n.val % 128 < 64
  · rw [dif_pos h, dif_pos h]
  · rw [dif_neg h, dif_neg h]
    by_cases h' : n.val % 128 - 64 < 6
    · rw [dif_pos h', show 64 + (n.val % 128 - 64) = n.val % 128 by omega]
    · rw [dif_neg h', show pcol t.val (n.val % 128) = 0#32 from if_neg (by omega)]
      exact Cert.Kernel3Ideal.Proj.conv_zero.symm

theorem rVals_apply (a : FVec Ideal S4x4096x128 .f32) (b : Fin 4) (t : Fin 4096) (n : Fin 160) : rVals a (ix3 b t n)
    = if h : n.val % 80 < 64 then a (ix3 b t ⟨n.val / 80 * 64 + n.val % 80, by omega⟩) else if n.val % 80 = 64 then (1 : EReal) else 0 := by
  pointwise [rVals]
  by_cases h : n.val % 80 < 64
  · rw [dif_pos h, dif_pos h]
  · rw [dif_neg h, dif_neg h]
    by_cases h' : n.val % 80 = 64
    · rw [dif_pos (by omega), if_pos h']
    · rw [dif_neg (by omega), if_neg h']

variable (X : FVec Ideal S4x4096x1024 .f32) (A : FVec Ideal S8x6144 .f32) (W : FVec Ideal S1x1024x3352 .f32)

theorem hg_eq : rHg (rP X A W) = Cert.Kernel3Ideal.Proj.HG X A W := by
  funext i
  idx_vars i
  pointwise [rHg, rP_apply, Cert.Kernel3Ideal.Proj.HG]
  split_ifs <;> first | rfl | exact congrArg (pAt X A W i0 i1) (Fin.ext (by simp only []; omega))

theorem q_eq : rQ (rP X A W) = Cert.Kernel3Ideal.Proj.Q X A W := by
  funext i
  idx_vars i
  pointwise [rQ, rP_apply, Cert.Kernel3Ideal.Proj.Q]

theorem ks_eq : rKs (rP X A W) = Cert.Kernel3Ideal.Proj.KS X A W := by
  funext i
  idx_vars i
  pointwise [rKs, rKeys_apply, rP_apply, Cert.Kernel3Ideal.Proj.KS, keyAt]

theorem kw_eq : rKw (rP X A W) = Cert.Kernel3Ideal.Proj.KW X A W := by
  funext i
  idx_vars i
  pointwise [rKw, rKeys_apply, rP_apply, Cert.Kernel3Ideal.Proj.KW, keyAt]

theorem kc_eq : rKc (rP X A W) = Cert.Kernel3Ideal.Proj.KC X A W := by
  funext i
  idx_vars i
  pointwise [rKc, rP_apply, Cert.Kernel3Ideal.Proj.KC]

theorem vc_eq : rVc (rP X A W) = Cert.Kernel3Ideal.Proj.VC X A W := by
  funext i
  idx_vars i
  pointwise [rVc, rP_apply, Cert.Kernel3Ideal.Proj.VC]

theorem vt_eq : rVt (rP X A W) = Cert.Kernel3Ideal.Proj.VT X A W := by
  funext i
  idx_vars i
  pointwise [rVt, rVals_apply, rP_apply, Cert.Kernel3Ideal.Proj.VT, valAt]
  by_cases hr : i1.val < 160
  · rw [dif_pos hr]
    by_cases h : i1.val % 80 < 64
    · rw [dif_pos h, dif_pos h]
      exact congrArg (pAt X A W i0 i2) (Fin.ext (by simp only []; omega))
    · rw [dif_neg h, dif_neg h]
      by_cases e : i1.val % 80 = 64
      · exact (if_pos e).trans (if_pos e).symm
      · exact (if_neg e).trans (if_neg e).symm
  · rw [dif_neg hr]
    by_cases h : i1.val % 80 < 64
    · rw [dif_pos (show (i1.val - 160) % 80 < 64 by omega), dif_pos h]
      exact congrArg (pAt X A W i0 i2) (Fin.ext (by simp only []; omega))
    · rw [dif_neg (show ¬ (i1.val - 160) % 80 < 64 by omega), dif_neg h, show (i1.val - 160) % 80 = i1.val % 80 by omega]
      by_cases e : i1.val % 80 = 64
      · exact (if_pos e).trans (if_pos e).symm
      · exact (if_neg e).trans (if_neg e).symm

theorem gt_eq : rGt (rP X A W) = Cert.Kernel3Ideal.Proj.GT X A W := by
  funext i
  idx_vars i
  pointwise [rGt, rP_apply, Cert.Kernel3Ideal.Proj.GT, gateAt]
  by_cases h : i1.val % 16 < 12
  · rw [dif_pos ⟨by omega, h⟩, dif_pos h]
  · rw [dif_neg (fun a => h a.2), dif_neg h]
    exact Cert.Kernel3Ideal.Proj.conv_zero

end Cert.Reference3Ideal.Proj
-- ==== Proof.ProjClaim.lean ====
module

public import proofs.«01_k».proof.Defs
public import proofs.«01_k».proof.Proof.Gen.Kernel3
public import proofs.«01_k».proof.Proof.Gen.Kernel3.Frame
public import proofs.«01_k».proof.Proof.ProjValue
public import proofs.«01_k».proof.Proof.ProjRef
public import Idealize.ShloMosaic.Lib.Claim

@[expose] public section

/-! # The input projection: its claims -/

namespace Cert.Proof

open Idealize.ShloMosaic Idealize.ShloMosaic.TcCoe Idealize.ShloMosaic.StableHlo Idealize.SL.Sem

set_option maxRecDepth 65536

theorem frame_proj : Cert.quiescent_Kernel3 := fun m ρ _ => Cert.Kernel3.Gen.frame m ρ

theorem frame_projIdeal : Cert.quiescent_Kernel3Ideal := fun m ρ _ => Cert.Kernel3Ideal.Gen.frame m ρ

theorem frame_projRef : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run m ρ)

section Results

open Cert.Reference3Ideal Cert.Reference3Ideal.Proj

variable (m : (ℓ : Loc nD τ sig) → Buf (Elt Ideal) ℓ) (c : Dev nD)

theorem res58 : Value.res_main_v58 m c = rHg (rP (m ((c : Thread nD τ).loc main_arg0)) (m ((c : Thread nD τ).loc main_arg1)) (m ((c : Thread nD τ).loc main_arg2))) := rfl

theorem res63 : Value.res_main_v63 m c = rKs (rP (m ((c : Thread nD τ).loc main_arg0)) (m ((c : Thread nD τ).loc main_arg1)) (m ((c : Thread nD τ).loc main_arg2))) := rfl

theorem res67 : Value.res_main_v67 m c = rKw (rP (m ((c : Thread nD τ).loc main_arg0)) (m ((c : Thread nD τ).loc main_arg1)) (m ((c : Thread nD τ).loc main_arg2))) := rfl

end Results

theorem algebraic_proj : Cert.algebraic_Kernel3Ideal_Reference3Ideal := by
  intro m g m' g' _ hagree
  refine ⟨fun c => Cert.Kernel3Ideal.Proj.HG (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Cert.Kernel3Ideal.Proj.Q (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Cert.Kernel3Ideal.Proj.KS (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Cert.Kernel3Ideal.Proj.KW (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Cert.Kernel3Ideal.Proj.KC (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Cert.Kernel3Ideal.Proj.VC (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Cert.Kernel3Ideal.Proj.VT (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => Cert.Kernel3Ideal.Proj.GT (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    (θ_run _ _ _).mono (fun r h c => ?_) (Cert.Kernel3Ideal.Value.run_blocks m g), ?_⟩
  · obtain ⟨p0, p1, p2, p3, p4, p5, p6, p7, p8⟩ := h c
    exact ⟨p0.trans (Cert.Kernel3Ideal.Proj.final5 m c), p1.trans (Cert.Kernel3Ideal.Proj.final6 m c), p2.trans (Cert.Kernel3Ideal.Proj.final7 m c),
      p3.trans (Cert.Kernel3Ideal.Proj.final8 m c), p4.trans (Cert.Kernel3Ideal.Proj.final9 m c), p5.trans (Cert.Kernel3Ideal.Proj.final10 m c),
      p6.trans (Cert.Kernel3Ideal.Proj.final11 m c), p7.trans (Cert.Kernel3Ideal.Proj.final12 m c), p8⟩
  · refine (θ_run _ _ _).mono (fun r h c => ?_) (Cert.Reference3Ideal.Value.run m' g')
    obtain ⟨p0, p1, p2, p3, p4, p5, p6, p7, p8⟩ := h c
    obtain ⟨h0, h1, h2⟩ := hagree c
    have e0 := Eq.trans (p0.trans (res58 m' c)) (Cert.Reference3Ideal.Proj.hg_eq _ _ _)
    have e1 := Eq.trans p1 (Cert.Reference3Ideal.Proj.q_eq _ _ _)
    have e2 := Eq.trans (p2.trans (res63 m' c)) (Cert.Reference3Ideal.Proj.ks_eq _ _ _)
    have e3 := Eq.trans (p3.trans (res67 m' c)) (Cert.Reference3Ideal.Proj.kw_eq _ _ _)
    have e4 := Eq.trans p4 (Cert.Reference3Ideal.Proj.kc_eq _ _ _)
    have e5 := Eq.trans p5 (Cert.Reference3Ideal.Proj.vc_eq _ _ _)
    have e6 := Eq.trans p6 (Cert.Reference3Ideal.Proj.vt_eq _ _ _)
    have e7 := Eq.trans p7 (Cert.Reference3Ideal.Proj.gt_eq _ _ _)
    rw [h0, h1, h2] at e0 e1 e2 e3 e4 e5 e6 e7
    exact ⟨e0, e1, e2, e3, e4, e5, e6, e7, p8⟩

end Cert.Proof
-- ==== Proof.AdaValue.lean ====
module

public import proofs.«01_k».proof.Proof.Gen.Kernel4Ideal.Frame
public import proofs.«01_k».proof.Proof.Gen.Kernel4Ideal.Value
public import Idealize.ShloMosaic.Lib.Pointwise
public import Idealize.ShloMosaic.Lib.Pipeline.ValueKit
public import Idealize.ShloMosaic.Lib.Claim
public import Idealize.ShloMosaic.Lib.KernelVsHost

@[expose] public section

/-! # The modulation rows: the result array after the run -/

set_option maxRecDepth 16384

noncomputable section

open Idealize.ShloMosaic Idealize.ShloMosaic.TcCoe Idealize.SL.Sem
open Idealize.ShloMosaic.Pipeline (Dat)

namespace Cert.Ada

/-- A number times its logistic function. -/
def silu (x : EReal) : EReal := x * Ideal.div 1 (1 + Ideal.exp (-x))

theorem silu_zero : silu 0 = 0 := zero_mul _

end Cert.Ada

namespace Cert.Kernel4Ideal.Ada

open Cert.Kernel4Ideal Cert.Kernel4Ideal.Gen Cert.Ada

variable (m : (ℓ : Loc nD τ sig) → Buf (Elt Ideal) ℓ)

/-- The windows' block indices. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What the body leaves at an index of its block. -/
theorem out3 (x0 : Vec Ideal S8x1024 .f32) (x1 : Vec Ideal S1024x1024 .f32) (x2 : Vec Ideal S1x1024 .f32) (r : Fin 8) (n : Fin 1024) :
    out0_3 x0 x1 x2 (ix2 r n) = ∑ k : Fin 1024, silu (x0 (ix2 r k)) * x1 (ix2 k n) + x2 (ix2 0 n) := by
  unfold out0_3
  canon_tiles x h
  obtain ⟨a, b, rfl⟩ : ∃ (a : Fin 8) (b : Fin 1024), x = ix2 a b := ⟨x 0, x 1, eq_ix2 x⟩
  obtain rfl : r = a := Fin.ext (by simpa using h0)
  obtain rfl : n = b := Fin.ext (by simpa using h1)
  clear h0 h1
  pointwise [k0_pay1, silu]
  simp only [zero_sub]

/-- The conditioning rows, with rows of zeros behind the batch's four. -/
def cPad (C : FVec Ideal S4x1024 .f32) : FVec Ideal S8x1024 .f32 :=
  pad S8x1024 ![0, 0] ![4, 0] ![0, 0] C (sitofp .f32 (constantI S_ 32 0#32)) pads_S4x1024_S8x1024_040_000 h_S_

theorem cPad_apply (C : FVec Ideal S4x1024 .f32) (r : Fin 8) (k : Fin 1024) :
    cPad C (ix2 r k) = if h : r.val < 4 then C (ix2 ⟨r.val, h⟩ k) else (0 : EReal) := by
  pointwise [cPad]
  by_cases h : r.val < 4
  · rw [dif_pos h, dif_pos h]
  · rw [dif_neg h, dif_neg h]
    exact Idealize.ShloMosaic.sitofp_zero

theorem V_v0 (c : Dev nD) : V m c main_v0 = cPad (m ((c : Thread nD τ).loc main_arg0)) := by
  unfold V
  simp only [List.flatten_cons, List.flatten_nil, List.append_nil, hostOps0, hostOps0_1, hostOps0_2, List.cons_append, List.nil_append]
  after_results
  rfl

/-- The weights as a matrix. -/
def wMat (W : FVec Ideal S1x1024x6144 .f32) : FVec Ideal S1024x6144 .f32 := shapeCast S1024x6144 W shapeCasts_S1x1024x6144_S1024x6144

theorem V_v1 (c : Dev nD) : V m c main_v1 = wMat (m ((c : Thread nD τ).loc main_arg1)) := by
  unfold V
  simp only [List.flatten_cons, List.flatten_nil, List.append_nil, hostOps0, hostOps0_1, hostOps0_2, List.cons_append, List.nil_append]
  after_results
  rfl

/-- The bias as a row. -/
def bRow (B : FVec Ideal S1x6144 .f32) : FVec Ideal S1x6144 .f32 :=
  broadcastInDim S1x6144 ![1] bcast_S6144_S1x6144_1 (shapeCast S6144 B shapeCasts_S1x6144_S6144)

theorem V_v3 (c : Dev nD) : V m c main_v3 = bRow (m ((c : Thread nD τ).loc main_arg2)) := by
  unfold V
  simp only [List.flatten_cons, List.flatten_nil, List.append_nil, hostOps0, hostOps0_1, hostOps0_2, List.cons_append, List.nil_append]
  after_results
  rfl

theorem wMat_apply (W : FVec Ideal S1x1024x6144 .f32) (k : Fin 1024) (n : Fin 6144) : wMat W (ix2 k n) = W (ix3 0 k n) := by
  pointwise [wMat]

theorem bRow_apply (B : FVec Ideal S1x6144 .f32) (n : Fin 6144) : bRow B (ix2 0 n) = B (ix2 0 n) := by
  pointwise [bRow]

/-- The result as an array, from the arguments. -/
def ADA (C : FVec Ideal S4x1024 .f32) (W : FVec Ideal S1x1024x6144 .f32) (B : FVec Ideal S1x6144 .f32) : FVec Ideal S8x6144 .f32 := fun i =>
  (∑ k : Fin 1024, silu (if h : (i 0).val < 4 then C (ix2 ⟨(i 0).val, h⟩ k) else 0) * W (ix3 0 k (i 1))) + B (ix2 0 (i 1))

theorem final (c : Dev nD) : (dats m 0 c).arrAt 3 (cfgs 0).N
    = ADA (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, n, rfl⟩ : ∃ (r : Fin 8) (n : Fin 1024), y = ix2 r n := ⟨y 0, y 1, eq_ix2 y⟩
  have ht : t.val < 6 := t.isLt
  have e : ((cfg0.win 3).blk t).view.emb (ix2 r n) = ix2 r ⟨1024 * t.val + n.val, by omega⟩ := by blk_ext [idx t]
  refine (out3 _ _ _ r n).trans (Eq.trans ?_ (congrArg (ADA (m ((c : Thread nD τ).loc main_arg0)) (m ((c : Thread nD τ).loc main_arg1)) (m ((c : Thread nD τ).loc main_arg2))) e).symm)
  have hc (k : Fin 1024) : iblk m c 0 t (ix2 r k) = cPad (m ((c : Thread nD τ).loc main_arg0)) (ix2 r k) := by
    have e0 : ((cfg0.win 0).blk t).view.emb (ix2 r k) = ix2 r k := by blk_ext [idx t]
    show V m c main_v0 (((cfg0.win 0).blk t).view.emb (ix2 r k)) = _
    rw [V_v0, e0]
  have hw (k : Fin 1024) : iblk m c 1 t (ix2 k n) = wMat (m ((c : Thread nD τ).loc main_arg1)) (ix2 k ⟨1024 * t.val + n.val, by omega⟩) := by
    have e0 : ((cfg0.win 1).blk t).view.emb (ix2 k n) = ix2 k ⟨1024 * t.val + n.val, by omega⟩ := by blk_ext [idx t]
    show V m c main_v1 (((cfg0.win 1).blk t).view.emb (ix2 k n)) = _
    rw [V_v1, e0]
  have hb : iblk m c 2 t (ix2 0 n) = bRow (m ((c : Thread nD τ).loc main_arg2)) (ix2 0 ⟨1024 * t.val + n.val, by omega⟩) := by
    have e0 : ((cfg0.win 2).blk t).view.emb (ix2 0 n) = ix2 0 ⟨1024 * t.val + n.val, by omega⟩ := by blk_ext [idx t]
    show V m c main_v3 (((cfg0.win 2).blk t).view.emb (ix2 0 n)) = _
    rw [V_v3, e0]
  exact congrArg₂ (· + ·) (Finset.sum_congr rfl fun k _ => congrArg₂ (· * ·) (congrArg silu ((hc k).trans (cPad_apply _ r k)))
    ((hw k).trans (wMat_apply _ k _))) (hb.trans (bRow_apply _ _))

end Cert.Kernel4Ideal.Ada
-- ==== Proof.AdaClaim.lean ====
module

public import proofs.«01_k».proof.Defs
public import proofs.«01_k».proof.Proof.Gen.Kernel4
public import proofs.«01_k».proof.Proof.Gen.Kernel4.Frame
public import proofs.«01_k».proof.Proof.Gen.Reference4Ideal.Run
public import proofs.«01_k».proof.Proof.AdaValue
public import Idealize.ShloMosaic.Lib.Tactic.CleanTypes
public import Idealize.ShloMosaic.Lib.Claim

@[expose] public section

/-! # The modulation rows: the reference at an index, and the claims -/

namespace Cert.Reference4Ideal.Ada

open Idealize.ShloMosaic Idealize.ShloMosaic.TcCoe Idealize.SL.Sem Cert.Reference4Ideal Cert.Reference4Ideal.Gen Cert.Ada

set_option maxRecDepth 16384

/-- The reference's result. -/
noncomputable def rAda (C : FVec Ideal S4x1024 .f32) (W : FVec Ideal S1x1024x6144 .f32) (B : FVec Ideal S1x6144 .f32) : FVec Ideal S8x6144 .f32 :=
  addf (pad S8x6144 ![0, 0] ![4, 0] ![0, 0] (Host.dotGeneral dot_S4x1024_S1024x6144_S4x6144_1_0_0_1_n_n none (mulf C (Host.divf (broadcastInDim S4x1024 ![] bcast_S_S4x1024 (constant S_ .f32 0x3F800000#32)) (addf (broadcastInDim S4x1024 ![] bcast_S_S4x1024 (constant S_ .f32 0x3F800000#32)) (Host.exp (Host.negf C))))) (shapeCast S1024x6144 W shapeCasts_S1x1024x6144_S1024x6144)) (sitofp .f32 (constantI S_ 32 0#32)) pads_S4x6144_S8x6144_040_000 h_S_) (broadcastInDim S8x6144 ![0, 1] bcast_S1x6144_S8x6144_0_1 (broadcastInDim S1x6144 ![1] bcast_S6144_S1x6144_1 (shapeCast S6144 B shapeCasts_S1x6144_S6144)))

theorem rAda_eq (C : FVec Ideal S4x1024 .f32) (W : FVec Ideal S1x1024x6144 .f32) (B : FVec Ideal S1x6144 .f32) : rAda C W B = Cert.Kernel4Ideal.Ada.ADA C W B := by
  funext i
  idx_vars i
  pointwise [rAda, Cert.Kernel4Ideal.Ada.ADA, silu]
  refine congrArg (· + _) ?_
  by_cases h : i0.val < 4
  · simp only [dif_pos h]
  · simp only [dif_neg h, zero_mul, Finset.sum_const_zero]
    exact Idealize.ShloMosaic.sitofp_zero

end Cert.Reference4Ideal.Ada

namespace Cert.Proof

open Idealize.ShloMosaic Idealize.ShloMosaic.TcCoe Idealize.ShloMosaic.StableHlo Idealize.SL.Sem

set_option maxRecDepth 65536

theorem frame_ada : Cert.quiescent_Kernel4 := fun m ρ _ => Cert.Kernel4.Gen.frame m ρ

theorem frame_adaIdeal : Cert.quiescent_Kernel4Ideal := fun m ρ _ => Cert.Kernel4Ideal.Gen.frame m ρ

theorem frame_adaRef : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic_ada : Cert.algebraic_Kernel4Ideal_Reference4Ideal := by
  intro m g m' g' _ hagree
  refine ⟨_, (θ_run _ _ _).mono (fun r h c => ⟨(h c).1.trans (Cert.Kernel4Ideal.Ada.final m c), (h c).2⟩)
    (Cert.Kernel4Ideal.Value.run_blocks m g), ?_⟩
  refine (θ_run _ _ _).mono (fun r h c => ⟨(h c).1.trans ?_, (h c).2⟩) (Cert.Reference4Ideal.Value.run m' g')
  obtain ⟨h0, h1, h2⟩ := hagree c
  have e := Cert.Reference4Ideal.Ada.rAda_eq (m' ((c : Thread Cert.Reference4Ideal.nD Cert.Reference4Ideal.τ).loc Cert.Reference4Ideal.main_arg0))
    (m' ((c : Thread Cert.Reference4Ideal.nD Cert.Reference4Ideal.τ).loc Cert.Reference4Ideal.main_arg1))
    (m' ((c : Thread Cert.Reference4Ideal.nD Cert.Reference4Ideal.τ).loc Cert.Reference4Ideal.main_arg2))
  refine Eq.trans (Eq.trans rfl e) ?_
  rw [h0, h1, h2]

end Cert.Proof
-- ==== Proof.CmpCols.lean ====
module

public import Idealize.ShloMosaic.Lib.Pointwise

@[expose] public section

/-! # The compressed blocks: the position's columns -/

set_option maxRecDepth 16384

noncomputable section

open Idealize.ShloMosaic Idealize.ShloMosaic.TcCoe Idealize.SL.Sem

namespace Cert.Cmp

/-- The remainder that takes the divisor's sign, as the programs compute it. -/
def md (x m : BitVec 32) : BitVec 32 :=
  Scalar.select
    (IntOp.andi
      (IntOp.xori (IntOp.cmpi CmpIPredicate.slt (IntOp.remsi ArithUnit.vector x (Scalar.select (Scalar.cmpi CmpIPredicate.eq m 0#32) 1#32 m)) 0#32)
        (Scalar.cmpi CmpIPredicate.slt (Scalar.select (Scalar.cmpi CmpIPredicate.eq m 0#32) 1#32 m) 0#32))
      (IntOp.cmpi CmpIPredicate.ne (IntOp.remsi ArithUnit.vector x (Scalar.select (Scalar.cmpi CmpIPredicate.eq m 0#32) 1#32 m)) 0#32))
    (IntOp.addi (IntOp.remsi ArithUnit.vector x (Scalar.select (Scalar.cmpi CmpIPredicate.eq m 0#32) 1#32 m)) (Scalar.select (Scalar.cmpi CmpIPredicate.eq m 0#32) 1#32 m))
    (IntOp.remsi ArithUnit.vector x (Scalar.select (Scalar.cmpi CmpIPredicate.eq m 0#32) 1#32 m))

/-- The last position of block `n`, as the kernel computes it. -/
def kpos (n : BitVec 32) : BitVec 32 := IntOp.addi (IntOp.muli n 16#32) 31#32

/-- The position's column `c` of a slot, as the kernel computes it. -/
def kcol (p c : BitVec 32) : BitVec 32 :=
  Scalar.select
    (IntOp.andi (IntOp.cmpi CmpIPredicate.sge (IntOp.subi c 64#32) 0#32) (IntOp.cmpi CmpIPredicate.slt (IntOp.subi c 64#32) 6#32))
    (Scalar.select (IntOp.cmpi CmpIPredicate.eq (md (IntOp.subi c 64#32) 2#32) 0#32) (md p 256#32) (IntOp.subi p (md p 256#32)))
    0#32

/-- The low part of the last position of block `n`. -/
def lo (n : ℕ) : ℕ := (n * 16 + 31) % 256

/-- Its high part. -/
def hi (n : ℕ) : ℕ := n * 16 + 31 - (n * 16 + 31) % 256

/-- The position's column `c` of a slot of 128. -/
def pcol (n c : ℕ) : BitVec 32 :=
  if 64 ≤ c ∧ c < 70 then (if c % 2 = 0 then BitVec.ofNat 32 (lo n) else BitVec.ofNat 32 (hi n)) else 0#32

theorem kcol_in : ∀ c : Fin 128,
    IntOp.andi (IntOp.cmpi CmpIPredicate.sge (IntOp.subi (BitVec.ofNat 32 c.val) 64#32) 0#32) (IntOp.cmpi CmpIPredicate.slt (IntOp.subi (BitVec.ofNat 32 c.val) 64#32) 6#32)
      = if 64 ≤ c.val ∧ c.val < 70 then 1#1 else 0#1 := by decide +kernel

theorem kcol_even : ∀ c : Fin 128, 64 ≤ c.val →
    IntOp.cmpi CmpIPredicate.eq (md (IntOp.subi (BitVec.ofNat 32 c.val) 64#32) 2#32) 0#32 = if c.val % 2 = 0 then 1#1 else 0#1 := by
  decide +kernel

theorem kpos_lo : ∀ n : Fin 256, md (kpos (BitVec.ofNat 32 n.val)) 256#32 = BitVec.ofNat 32 (lo n.val) := by decide +kernel

theorem kpos_hi : ∀ n : Fin 256, IntOp.subi (kpos (BitVec.ofNat 32 n.val)) (BitVec.ofNat 32 (lo n.val)) = BitVec.ofNat 32 (hi n.val) := by
  decide +kernel

theorem kcol_eq (n : Fin 256) (c : Fin 128) : kcol (kpos (BitVec.ofNat 32 n.val)) (BitVec.ofNat 32 c.val) = pcol n.val c.val := by
  unfold kcol pcol
  rw [kcol_in c, kpos_lo n, kpos_hi n]
  by_cases h : 64 ≤ c.val ∧ c.val < 70
  · rw [if_pos h, if_pos h, kcol_even c h.1]
    by_cases h2 : c.val % 2 = 0
    · rw [if_pos h2, if_pos h2]; rfl
    · rw [if_neg h2, if_neg h2]; rfl
  · rw [if_neg h, if_neg h]; rfl

end Cert.Cmp
-- ==== Proof.CmpKernel.lean ====
module

public import proofs.«01_k».proof.Proof.Gen.Kernel5Ideal.Frame
public import proofs.«01_k».proof.Proof.CmpCols
public import Idealize.ShloMosaic.Lib.Pointwise
public import Idealize.ShloMosaic.Lib.Pipeline.ValueKit

@[expose] public section

/-! # The compressed keys: what the body leaves at an index of the result's block -/

set_option maxRecDepth 16384

noncomputable section

open Idealize.ShloMosaic Idealize.ShloMosaic.TcCoe Idealize.SL.Sem

namespace Cert.Cmp

/-- The tanh form of GELU, its constants as the words the programs carry. -/
def gelu (x : EReal) : EReal :=
  Ideal.ofBits FTy.f32 1056964608#32 * x * (1 + Ideal.tanh (Ideal.ofBits FTy.f32 1061962282#32 * (x + Ideal.ofBits FTy.f32 1027024659#32 * (x * x * x))))

/-- A block's row before GELU: the first half of its tokens, and the second half taken of the row after it. -/
def pre (x : Fin 256 → Fin 2048 → EReal) (p : Fin 4096 → EReal) (w : Fin 4096 → EReal) (n : Fin 256) : EReal :=
  ∑ k : Fin 2048, (x n k + p ⟨k.val, by omega⟩) * w ⟨k.val, by omega⟩
    + ∑ k : Fin 2048, (x ⟨(n.val + 256 - 255) % 256, Nat.mod_lt _ (by norm_num)⟩ k + p ⟨2048 + k.val, by omega⟩) * w ⟨2048 + k.val, by omega⟩

end Cert.Cmp

namespace Cert.Kernel5Ideal.Cmp

open Cert.Kernel5Ideal Cert.Kernel5Ideal.Gen Cert.Cmp

theorem hid_apply (x0 : Vec Ideal S1x256x2048 .f32) (x1 : Vec Ideal S1x4096 .f32) (x2 : Vec Ideal S1x4096x256 .bf16) (n : Fin 256) (h : Fin 256) :
    k0_pay2 (View.ld x0 r0_0) (View.ld x1 r0_1) (View.ld x2 r0_2) (View.ld x2 r0_3) (ix2 n h)
      = gelu (pre (fun n k => x0 (ix3 0 n k)) (fun k => x1 (ix2 0 k)) (fun k => x2 (ix3 0 k h)) n) := by
  pointwise [k0_pay2, gelu, pre]

/-- What the body leaves at an index of its block. -/
theorem out4 (x0 : Vec Ideal S1x256x2048 .f32) (x1 : Vec Ideal S1x4096 .f32) (x2 : Vec Ideal S1x4096x256 .bf16) (x3 : Vec Ideal S256x128 .bf16) (n : Fin 256) (e : Fin 128) :
    out0_4 x0 x1 x2 x3 (ix4 0 0 n e)
      = ∑ h : Fin 256, gelu (pre (fun n k => x0 (ix3 0 n k)) (fun k => x1 (ix2 0 k)) (fun k => x2 (ix3 0 k h)) n) * x3 (ix2 h e)
        + FloatOps.sitofp (F := Ideal) .f32 (pcol n.val e.val) := by
  unfold out0_4
  canon_tiles x h
  obtain ⟨a, b, c, d, rfl⟩ : ∃ (a : Fin 1) (b : Fin 1) (c : Fin 256) (d : Fin 128), x = ix4 a b c d := ⟨x 0, x 1, x 2, x 3, eq_ix4 x⟩
  obtain rfl : a = 0 := Subsingleton.elim _ _
  obtain rfl : b = 0 := Subsingleton.elim _ _
  obtain rfl : n = c := Fin.ext (by simpa using h2)
  obtain rfl : e = d := Fin.ext (by simpa using h3)
  clear h0 h1 h2 h3
  pointwise [k0_pay1, k0_pay5, k0_pay6, k0_pay3, k0_pay4, k0_pay7, k0_pay8]
  rw [← kcol_eq n e]
  simp only [hid_apply]
  rfl

end Cert.Kernel5Ideal.Cmp
-- ==== Proof.CmpSum.lean ====
module

public import proofs.«01_k».proof.Proof.CmpKernel

@[expose] public section

/-! # The compressed blocks: a row's sum over the tokens of its own group -/

set_option maxRecDepth 16384

noncomputable section

open Idealize.ShloMosaic Idealize.ShloMosaic.TcCoe Idealize.SL.Sem

namespace Cert.Cmp

/-- A block's row before GELU, as the reference sums it: its 32 tokens, the last of them counted on from the first again. -/
def hid (a : Fin 4096 → Fin 64 → EReal) (p : Fin 32 → Fin 64 → EReal) (w : Fin 2048 → EReal) (n : Fin 256) : EReal :=
  ∑ j : Fin 2048, (a ⟨(n.val * 16 + j.val / 64) % 4096, Nat.mod_lt _ (by norm_num)⟩ ⟨j.val % 64, Nat.mod_lt _ (by norm_num)⟩
    + p ⟨j.val / 64, by omega⟩ ⟨j.val % 64, Nat.mod_lt _ (by norm_num)⟩) * w j

/-- A sum whose terms of the other group are zero, over its own group's terms. -/
theorem sum_group (F : Fin 2048 → EReal) (G : Fin 1024 → EReal) (g : Fin 2)
    (hin : ∀ q : Fin 1024, F ⟨q.val / 64 * 128 + g.val * 64 + q.val % 64, by omega⟩ = G q)
    (hout : ∀ k : Fin 2048, k.val % 128 / 64 ≠ g.val → F k = 0) : ∑ k, F k = ∑ q, G q := by
  symm
  rw [← Finset.sum_subset (Finset.subset_univ (Finset.univ.filter fun k : Fin 2048 => k.val % 128 / 64 = g.val))
    (fun k _ hk => hout k (fun h => hk (Finset.mem_filter.mpr ⟨Finset.mem_univ _, h⟩)))]
  refine Finset.sum_nbij' (fun q : Fin 1024 => (⟨q.val / 64 * 128 + g.val * 64 + q.val % 64, by omega⟩ : Fin 2048))
    (fun k : Fin 2048 => (⟨k.val / 128 * 64 + k.val % 64, by omega⟩ : Fin 1024)) ?_ ?_ ?_ ?_ ?_
  · intro q _
    refine Finset.mem_filter.mpr ⟨Finset.mem_univ _, ?_⟩
    show (q.val / 64 * 128 + g.val * 64 + q.val % 64) % 128 / 64 = g.val
    omega
  · intro k _
    exact Finset.mem_univ _
  · intro q _
    refine Fin.ext ?_
    show (q.val / 64 * 128 + g.val * 64 + q.val % 64) / 128 * 64 + (q.val / 64 * 128 + g.val * 64 + q.val % 64) % 64 = q.val
    omega
  · intro k hk
    have h := (Finset.mem_filter.mp hk).2
    refine Fin.ext ?_
    show (k.val / 128 * 64 + k.val % 64) / 64 * 128 + g.val * 64 + (k.val / 128 * 64 + k.val % 64) % 64 = k.val
    omega
  · intro q _
    exact (hin q).symm

theorem sum_halves (H : Fin 2048 → EReal) : ∑ j, H j = ∑ q : Fin 1024, H ⟨q.val, by omega⟩ + ∑ q : Fin 1024, H ⟨1024 + q.val, by omega⟩ :=
  Fin.sum_univ_add (a := 1024) (b := 1024) H

/-- The kernel's row of zeros and own terms is the reference's. -/
theorem pre_eq (A : Fin 4096 → Fin 128 → EReal) (P : Fin 32 → Fin 64 → EReal) (W : Fin 2048 → EReal) (E : Fin 2 → EReal) (g : Fin 2)
    (hE : ∀ g', E g' = if g = g' then (1 : EReal) else 0) (n : Fin 256) :
    pre (fun n k => A ⟨n.val * 16 + k.val / 128, by omega⟩ ⟨k.val % 128, by omega⟩) (fun k => P ⟨k.val / 128, by omega⟩ ⟨k.val % 64, by omega⟩)
        (fun k => E ⟨k.val % 128 / 64, by omega⟩ * W ⟨k.val / 128 * 64 + k.val % 64, by omega⟩) n
      = hid (fun t d => A t ⟨g.val * 64 + d.val, by omega⟩) P W n := by
  have h1 : E g = 1 := (hE g).trans (if_pos rfl)
  have h0 (g' : Fin 2) (h : g'.val ≠ g.val) : E g' = 0 := (hE g').trans (if_neg fun e => h (congrArg Fin.val e).symm)
  unfold pre hid
  refine Eq.trans (congrArg₂ (· + ·) (sum_group _ _ g (fun q => ?_) (fun k hk => ?_)) (sum_group _ _ g (fun q => ?_) (fun k hk => ?_))) (sum_halves _).symm
  · have e1 : (⟨(q.val / 64 * 128 + g.val * 64 + q.val % 64) % 128 / 64, by omega⟩ : Fin 2) = g := Fin.ext (by simp only []; omega)
    refine congrArg₂ (· * ·) (congrArg₂ (· + ·) (congrArg₂ A (Fin.ext ?_) (Fin.ext ?_)) (congrArg₂ P (Fin.ext ?_) (Fin.ext ?_)))
      (((congrArg (fun e => E e * _) e1).trans (by rw [h1, one_mul])).trans (congrArg W (Fin.ext ?_))) <;> (simp only []; omega)
  · show _ * (E _ * _) = 0
    rw [h0 _ hk, zero_mul, mul_zero]
  · have e1 : (⟨(2048 + (q.val / 64 * 128 + g.val * 64 + q.val % 64)) % 128 / 64, by omega⟩ : Fin 2) = g := Fin.ext (by simp only []; omega)
    refine congrArg₂ (· * ·) (congrArg₂ (· + ·) (congrArg₂ A (Fin.ext ?_) (Fin.ext ?_)) (congrArg₂ P (Fin.ext ?_) (Fin.ext ?_)))
      (((congrArg (fun e => E e * _) e1).trans (by rw [h1, one_mul])).trans (congrArg W (Fin.ext ?_))) <;> (simp only []; omega)
  · show _ * (E _ * _) = 0
    rw [h0 _ (by show (2048 + k.val) % 128 / 64 ≠ g.val; omega), zero_mul, mul_zero]

end Cert.Cmp
-- ==== Proof.CmpArr.lean ====
module

public import proofs.«01_k».proof.Proof.Gen.Kernel5Ideal.Value
public import proofs.«01_k».proof.Proof.CmpSum
public import Idealize.ShloMosaic.Lib.Pointwise
public import Idealize.ShloMosaic.Lib.Pipeline.ValueKit
public import Idealize.ShloMosaic.Lib.KernelVsHost

@[expose] public section

/-! # The compressed keys: the arrays the region reads -/

set_option maxRecDepth 16384

noncomputable section

open Idealize.ShloMosaic Idealize.ShloMosaic.TcCoe Idealize.SL.Sem Idealize.ShloMosaic.StableHlo

namespace Cert.Kernel5Ideal.Cmp

open Cert.Kernel5Ideal Cert.Kernel5Ideal.Gen Cert.Cmp

variable (m : (ℓ : Loc nD τ sig) → Buf (Elt Ideal) ℓ)

/-- The tokens, sixteen to a row. -/
def aRows (A : FVec Ideal S4x4096x128 .f32) : FVec Ideal S4x256x2048 .f32 := shapeCast S4x256x2048 A shapeCasts_S4x4096x128_S4x256x2048

/-- The position's rows, once for each group. -/
def pRow (P : FVec Ideal S1x32x64 .f32) : FVec Ideal S1x4096 .f32 :=
  shapeCast S1x4096 (broadcastInDim S2x16x2x64 ![0, 1, 2, 3] bcast_S2x16x1x64_S2x16x2x64_0_1_2_3
    (shapeCast S2x16x1x64 (shapeCast S32x64 P shapeCasts_S1x32x64_S32x64) shapeCasts_S32x64_S2x16x1x64)) shapeCasts_S2x16x2x64_S1x4096

/-- One where the group is its own, zero elsewhere. -/
def eye : FVec Ideal S2x2 .f32 :=
  uitofp .f32 (cmpi .eq (addi (iotaInDim S2x2 32 0) (broadcastInDim S2x2 ![] bcast_S_S2x2 (constantI S_ 32 0#32))) (iotaInDim S2x2 32 1))

/-- The first layer's weights, with zeros at the rows of the other group. -/
def wRows (W : FVec Ideal S1x2048x256 .f32) : FVec Ideal S2x4096x256 .bf16 :=
  truncf .bf16 (shapeCast S2x4096x256 (mulf
    (broadcastInDim S2x2x16x2x64x256 ![0, 1, 2, 3, 4, 5] bcast_S2x1x1x2x1x1_S2x2x16x2x64x256_0_1_2_3_4_5 (shapeCast S2x1x1x2x1x1 eye shapeCasts_S2x2_S2x1x1x2x1x1))
    (broadcastInDim S2x2x16x2x64x256 ![0, 1, 2, 3, 4, 5] bcast_S1x2x16x1x64x256_S2x2x16x2x64x256_0_1_2_3_4_5
      (broadcastInDim S1x2x16x1x64x256 ![1, 2, 3, 4, 5] bcast_S2x16x1x64x256_S1x2x16x1x64x256_1_2_3_4_5
        (shapeCast S2x16x1x64x256 (shapeCast S2048x256 W shapeCasts_S1x2048x256_S2048x256) shapeCasts_S2048x256_S2x16x1x64x256))))
    shapeCasts_S2x2x16x2x64x256_S2x4096x256) bitsLt_bf16_f32

/-- The second layer's weights, with columns of zeros behind the 64. -/
def w2Pad (W : FVec Ideal S1x256x64 .f32) : FVec Ideal S256x128 .bf16 :=
  truncf .bf16 (pad S256x128 ![0, 0] ![0, 64] ![0, 0] (shapeCast S256x64 W shapeCasts_S1x256x64_S256x64) (sitofp .f32 (constantI S_ 32 0#32)) pads_S256x64_S256x128_000_0640 h_S_) bitsLt_bf16_f32

theorem V_v3 (c : Dev nD) : V m c main_v3 = aRows (m ((c : Thread nD τ).loc main_arg0)) := by
  unfold V
  simp only [List.flatten_cons, List.flatten_nil, List.append_nil, hostOps0, hostOps0_1, hostOps0_2, List.cons_append, List.nil_append]
  after_results
  rfl

theorem V_v7 (c : Dev nD) : V m c main_v7 = pRow (m ((c : Thread nD τ).loc main_arg1)) := by
  unfold V
  simp only [List.flatten_cons, List.flatten_nil, List.append_nil, hostOps0, hostOps0_1, hostOps0_2, List.cons_append, List.nil_append]
  after_results
  rfl

theorem V_v22 (c : Dev nD) : V m c main_v22 = wRows (m ((c : Thread nD τ).loc main_arg2)) := by
  unfold V
  simp only [List.flatten_cons, List.flatten_nil, List.append_nil, hostOps0, hostOps0_1, hostOps0_2, List.cons_append, List.nil_append]
  after_results
  rfl

theorem V_v2 (c : Dev nD) : V m c main_v2 = w2Pad (m ((c : Thread nD τ).loc main_arg3)) := by
  unfold V
  simp only [List.flatten_cons, List.flatten_nil, List.append_nil, hostOps0, hostOps0_1, hostOps0_2, List.cons_append, List.nil_append]
  after_results
  rfl

theorem aRows_apply (A : FVec Ideal S4x4096x128 .f32) (b : Fin 4) (n : Fin 256) (k : Fin 2048) :
    aRows A (ix3 b n k) = A (ix3 b ⟨n.val * 16 + k.val / 128, by omega⟩ ⟨k.val % 128, by omega⟩) := by
  pointwise [aRows]

theorem pRow_apply (P : FVec Ideal S1x32x64 .f32) (k : Fin 4096) : pRow P (ix2 0 k) = P (ix3 0 ⟨k.val / 128, by omega⟩ ⟨k.val % 64, by omega⟩) := by
  pointwise [pRow]
  exact congrArg P (congrArg₂ (ix3 0) (Fin.ext (by simp only []; omega)) rfl)

theorem eye_word : ∀ g g' : Fin 2, IntOp.cmpi CmpIPredicate.eq (IntOp.addi (BitVec.ofNat 32 g.val) 0#32) (BitVec.ofNat 32 g'.val) = if g = g' then 1#1 else 0#1 := by
  decide +kernel

theorem eye_apply (g g' : Fin 2) : eye (ix2 g g') = if g = g' then (1 : EReal) else 0 := by
  pointwise [eye]
  rw [eye_word g g']
  by_cases h : g = g'
  · rw [if_pos h, if_pos h]
    show (((1#1 : BitVec 1).toNat : ℝ) : EReal) = 1
    norm_num
  · rw [if_neg h, if_neg h]
    show (((0#1 : BitVec 1).toNat : ℝ) : EReal) = 0
    norm_num

theorem wRows_apply (W : FVec Ideal S1x2048x256 .f32) (g : Fin 2) (k : Fin 4096) (h : Fin 256) :
    wRows W (ix3 g k h) = eye (ix2 g ⟨k.val % 128 / 64, by omega⟩) * W (ix3 0 ⟨k.val / 128 * 64 + k.val % 64, by omega⟩ h) := by
  pointwise [wRows]
  exact congrArg₂ (· * ·) (congrArg (fun g' => eye (ix2 g g')) (Fin.ext (by simp only []; omega)))
    (congrArg (fun j => W (ix3 0 j h)) (Fin.ext (by simp only []; omega)))

theorem w2Pad_apply (W : FVec Ideal S1x256x64 .f32) (h : Fin 256) (e : Fin 128) :
    w2Pad W (ix2 h e) = if he : e.val < 64 then W (ix3 0 h ⟨e.val, he⟩) else (0 : EReal) := by
  pointwise [w2Pad]
  by_cases he : e.val < 64
  · rw [dif_pos he, dif_pos he]
  · rw [dif_neg he, dif_neg he]
    exact Idealize.ShloMosaic.sitofp_zero

end Cert.Kernel5Ideal.Cmp
-- ==== Proof.CmpValue.lean ====
module

public import proofs.«01_k».proof.Proof.CmpArr
public import proofs.«01_k».proof.Proof.CmpKernel

@[expose] public section

/-! 5 The compressed keys: the result array after the run -/

set_option maxRecDepth 16384

noncomputable section

open Idealize.ShloMosaic Idealize.ShloMosaic.TcCoe Idealize.SL.Sem
open Idealize.ShloMosaic.Pipeline (Dat)

namespace Cert.Kernel5Ideal.Cmp

open Cert.Kernel5Ideal Cert.Kernel5Ideal.Gen Cert.Cmp

variable (m : (ℓ : Loc nD τ sig) → Buf (Elt Ideal) ℓ)

/-- The windows' block indices. -/
theorem idx : ∀ t : Fin cfg0.N, win0_0.index t = ![t.val / 2, 0, 0] ∧ win0_1.index t = ![0, 0] ∧ win0_2.index t = ![t.val % 2, 0, 0]
    ∧ win0_3.index t = ![0, 0] ∧ win0_4.index t = ![t.val / 2, t.val % 2, 0, 0] :=
  (by decide +kernel : ∀ t : Fin grid0.N, _)

/-- The result as an array, from the arguments. -/
def OUT (A : FVec Ideal S4x4096x128 .f32) (P : FVec Ideal S1x32x64 .f32) (W : FVec Ideal S1x2048x256 .f32) (W' : FVec Ideal S1x256x64 .f32) :
    FVec Ideal S4x2x256x128 .bf16 := fun i =>
  ∑ h : Fin 256, gelu (hid (fun t d => A (ix3 (i 0) t ⟨(i 1).val * 64 + d.val, by have h : (i 1).val < 2 := (i 1).isLt; omega⟩)) (fun l d => P (ix3 0 l d)) (fun j => W (ix3 0 j h)) (i 2))
      * (if he : (i 3).val < 64 then W' (ix3 0 h ⟨(i 3).val, he⟩) else (0 : EReal))
    + FloatOps.sitofp (F := Ideal) .f32 (pcol (i 2).val (i 3).val)

theorem rows_apply (A : FVec Ideal S4x4096x128 .f32) (P : FVec Ideal S1x32x64 .f32) (W : FVec Ideal S1x2048x256 .f32)
    (b : Fin 4) (g : Fin 2) (n : Fin 256) (h : Fin 256) :
    pre (fun n k => aRows A (ix3 b n k)) (fun k => pRow P (ix2 0 k)) (fun k => wRows W (ix3 g k h)) n
      = hid (fun t d => A (ix3 b t ⟨g.val * 64 + d.val, by omega⟩)) (fun l d => P (ix3 0 l d)) (fun j => W (ix3 0 j h)) n := by
  refine Eq.trans ?_ (pre_eq (fun t d => A (ix3 b t d)) (fun l d => P (ix3 0 l d)) (fun j => W (ix3 0 j h)) (fun g' => eye (ix2 g g')) g (fun g' => eye_apply g g') n)
  exact congrFun (congr (congr (congrArg pre (funext fun n => funext fun k => aRows_apply A b n k)) (funext fun k => pRow_apply P k)) (funext fun k => wRows_apply W g k h)) n

theorem final (c : Dev nD) : (dats m 0 c).arrAt 4 (cfgs 0).N
    = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨a, b, n, e, rfl⟩ : ∃ (a : Fin 1) (b : Fin 1) (n : Fin 256) (e : Fin 128), y = ix4 a b n e := ⟨y 0, y 1, y 2, y 3, eq_ix4 y⟩
  obtain rfl : a = 0 := Subsingleton.elim _ _
  obtain rfl : b = 0 := Subsingleton.elim _ _
  have ht : t.val < 8 := t.isLt
  have e4 : ((cfg0.win 4).blk t).view.emb (ix4 0 0 n e) = ix4 ⟨t.val / 2, by omega⟩ ⟨t.val % 2, by omega⟩ n e := by blk_ext [idx t]
  refine (out4 _ _ _ _ n e).trans (Eq.trans ?_ (congrArg (OUT (m ((c : Thread nD τ).loc main_arg0)) (m ((c : Thread nD τ).loc main_arg1)) (m ((c : Thread nD τ).loc main_arg2)) (m ((c : Thread nD τ).loc main_arg3))) e4).symm)
  have hx : (fun (n : Fin 256) (k : Fin 2048) => iblk m c 0 t (ix3 0 n k)) = fun n k => aRows (m ((c : Thread nD τ).loc main_arg0)) (ix3 ⟨t.val / 2, by omega⟩ n k) := by
    funext n k
    have e0 : ((cfg0.win 0).blk t).view.emb (ix3 0 n k) = ix3 ⟨t.val / 2, by omega⟩ n k := by blk_ext [idx t]
    show V m c main_v3 (((cfg0.win 0).blk t).view.emb (ix3 0 n k)) = _
    rw [V_v3, e0]
  have hp : (fun (k : Fin 4096) => iblk m c 1 t (ix2 0 k)) = fun k => pRow (m ((c : Thread nD τ).loc main_arg1)) (ix2 0 k) := by
    funext k
    have e0 : ((cfg0.win 1).blk t).view.emb (ix2 0 k) = ix2 0 k := by blk_ext [idx t]
    show V m c main_v7 (((cfg0.win 1).blk t).view.emb (ix2 0 k)) = _
    rw [V_v7, e0]
  have hw (h : Fin 256) : (fun (k : Fin 4096) => iblk m c 2 t (ix3 0 k h)) = fun k => wRows (m ((c : Thread nD τ).loc main_arg2)) (ix3 ⟨t.val % 2, by omega⟩ k h) := by
    funext k
    have e0 : ((cfg0.win 2).blk t).view.emb (ix3 0 k h) = ix3 ⟨t.val % 2, by omega⟩ k h := by blk_ext [idx t]
    show V m c main_v22 (((cfg0.win 2).blk t).view.emb (ix3 0 k h)) = _
    rw [V_v22, e0]
  have hq (h : Fin 256) : iblk m c 3 t (ix2 h e) = w2Pad (m ((c : Thread nD τ).loc main_arg3)) (ix2 h e) := by
    have e0 : ((cfg0.win 3).blk t).view.emb (ix2 h e) = ix2 h e := by blk_ext [idx t]
    show V m c main_v2 (((cfg0.win 3).blk t).view.emb (ix2 h e)) = _
    rw [V_v2, e0]
  have hr (h : Fin 256) : pre (fun n k => iblk m c 0 t (ix3 0 n k)) (fun k => iblk m c 1 t (ix2 0 k)) (fun k => iblk m c 2 t (ix3 0 k h)) n
      = hid (fun t' d => (m ((c : Thread nD τ).loc main_arg0)) (ix3 ⟨t.val / 2, by omega⟩ t' ⟨t.val % 2 * 64 + d.val, by omega⟩))
          (fun l d => (m ((c : Thread nD τ).loc main_arg1)) (ix3 0 l d)) (fun j => (m ((c : Thread nD τ).loc main_arg2)) (ix3 0 j h)) n :=
    (congrFun (congr (congr (congrArg pre hx) hp) (hw h)) n).trans (rows_apply _ _ _ ⟨t.val / 2, by omega⟩ ⟨t.val % 2, by omega⟩ n h)
  exact congrArg (· + _) (Finset.sum_congr rfl fun h _ => congrArg₂ (· * ·) (congrArg gelu (hr h)) ((hq h).trans (w2Pad_apply _ h e)))

end Cert.Kernel5Ideal.Cmp
-- ==== Proof.CmpRef.lean ====
module

public import proofs.«01_k».proof.Proof.CmpSum
public import proofs.«01_k».proof.Proof.Gen.Reference5Ideal.Run

@[expose] public section

/-! # The compressed keys' reference: a block's row before and after GELU -/

set_option maxRecDepth 16384

noncomputable section

open Idealize.ShloMosaic Idealize.ShloMosaic.TcCoe Idealize.SL.Sem

namespace Cert.Reference5Ideal.Cmp

open Cert.Reference5Ideal Cert.Reference5Ideal.Gen Cert.Cmp

/-- Token `l` of block `n`, counted from the sequence's first. -/
def rIx : IVec S256x32 32 :=
  addi (broadcastInDim S256x32 ![0, 1] bcast_S256x1_S256x32_0_1 (muli (broadcastInDim S256x1 ![0] bcast_S256_S256x1_0 (iotaInDim S256 32 0)) (broadcastInDim S256x1 ![] bcast_S_S256x1 (constantI S_ 32 16#32))))
    (broadcastInDim S256x32 ![0, 1] bcast_S1x32_S256x32_0_1 (broadcastInDim S1x32 ![1] bcast_S32_S1x32_1 (iotaInDim S32 32 0)))

/-- The divisor, guarded against zero. -/
def rDiv : IVec S_ 32 := select (cmpi .eq (id (constantI S_ 32 4096#32)) (constantI S_ 32 0#32)) (constantI S_ 32 1#32) (id (constantI S_ 32 4096#32))

/-- The remainder that takes the divisor's sign. -/
def rMod (x : IVec S256x32 32) : IVec S256x32 32 :=
  select (andi (cmpi .ne (cmpi .slt (Host.remsi x (broadcastInDim S256x32 ![] bcast_S_S256x32 rDiv)) (broadcastInDim S256x32 ![] bcast_S_S256x32 (constantI S_ 32 0#32)))
      (broadcastInDim S256x32 ![] bcast_S_S256x32 (cmpi .slt rDiv (constantI S_ 32 0#32))))
      (cmpi .ne (Host.remsi x (broadcastInDim S256x32 ![] bcast_S_S256x32 rDiv)) (broadcastInDim S256x32 ![] bcast_S_S256x32 (constantI S_ 32 0#32))))
    (addi (Host.remsi x (broadcastInDim S256x32 ![] bcast_S_S256x32 rDiv)) (broadcastInDim S256x32 ![] bcast_S_S256x32 rDiv))
    (Host.remsi x (broadcastInDim S256x32 ![] bcast_S_S256x32 rDiv))

/-- The token's number as an index: counted round, and from the end where negative. -/
def rTok : IVec S256x32x1 32 :=
  broadcastInDim S256x32x1 ![0, 1] bcast_S256x32_S256x32x1_0_1
    (select (cmpi .slt (rMod rIx) (broadcastInDim S256x32 ![] bcast_S_S256x32 (constantI S_ 32 0#32)))
      (addi (rMod rIx) (broadcastInDim S256x32 ![] bcast_S_S256x32 (constantI S_ 32 4096#32))) (rMod rIx))

/-- The blocks' tokens. -/
def rG (A : FVec Ideal S4x4096x128 .f32) : FVec Ideal S4x256x32x2x64 .f32 :=
  Host.gather gather_S4x4096x2x64_S256x32x1_S4x256x32x2x64_034_1_n_n_1_2_41264 (shapeCast S4x4096x2x64 A shapeCasts_S4x4096x128_S4x4096x2x64) rTok

/-- The first layer. -/
def rPre (A : FVec Ideal S4x4096x128 .f32) (P : FVec Ideal S1x32x64 .f32) (W : FVec Ideal S1x2048x256 .f32) : FVec Ideal S4x256x2x256 .f32 :=
  Host.dotGeneral dot_S4x256x2x2048_S2048x256_S4x256x2x256_3_0_012_1_n_n none
    (shapeCast S4x256x2x2048 (transpose S4x256x2x32x64 [0, 1, 3, 2, 4] (addf (rG A)
      (broadcastInDim S4x256x32x2x64 ![0, 1, 2, 3, 4] bcast_S1x1x32x1x64_S4x256x32x2x64_0_1_2_3_4
        (broadcastInDim S1x1x32x1x64 ![2, 4] bcast_S32x64_S1x1x32x1x64_2_4 (shapeCast S32x64 P shapeCasts_S1x32x64_S32x64))))
      transposes_S4x256x32x2x64_S4x256x2x32x64_0_1_3_2_4) shapeCasts_S4x256x2x32x64_S4x256x2x2048)
    (shapeCast S2048x256 W shapeCasts_S1x2048x256_S2048x256)

/-- GELU in its tanh form. -/
def rGelu (X : FVec Ideal S4x256x2x256 .f32) : FVec Ideal S4x256x2x256 .f32 :=
  mulf X (mulf (broadcastInDim S4x256x2x256 ![] bcast_S_S4x256x2x256 (constant S_ .f32 0x3F000000#32))
    (addf (broadcastInDim S4x256x2x256 ![] bcast_S_S4x256x2x256 (constant S_ .f32 0x3F800000#32))
      (Host.tanh (mulf (broadcastInDim S4x256x2x256 ![] bcast_S_S4x256x2x256 (constant S_ .f32 0x3F4C422A#32))
        (addf X (mulf (broadcastInDim S4x256x2x256 ![] bcast_S_S4x256x2x256 (constant S_ .f32 0x3D372713#32)) (mulf (mulf X X) X)))))))

theorem rIx_word : ∀ (n : Fin 256) (l : Fin 32), IntOp.addi (IntOp.muli (BitVec.ofNat 32 n.val) 16#32) (BitVec.ofNat 32 l.val) = BitVec.ofNat 32 (n.val * 16 + l.val) := by
  decide +kernel

theorem rIx_apply (n : Fin 256) (l : Fin 32) : rIx (ix2 n l) = BitVec.ofNat 32 (n.val * 16 + l.val) := by
  pointwise [rIx]
  exact rIx_word n l

/-- The remainder by 4096, word by word. -/
def modW (x : BitVec 32) : BitVec 32 :=
  Scalar.select
    (IntOp.andi
      (IntOp.cmpi CmpIPredicate.ne
        (IntOp.cmpi CmpIPredicate.slt (IntOp.remsi ArithUnit.host x (Scalar.select (IntOp.cmpi CmpIPredicate.eq 4096#32 0#32) (1#32) 4096#32)) 0#32)
        (IntOp.cmpi CmpIPredicate.slt (Scalar.select (IntOp.cmpi CmpIPredicate.eq 4096#32 0#32) (1#32) 4096#32) 0#32))
      (IntOp.cmpi CmpIPredicate.ne (IntOp.remsi ArithUnit.host x (Scalar.select (IntOp.cmpi CmpIPredicate.eq 4096#32 0#32) (1#32) 4096#32)) 0#32))
    (IntOp.addi (IntOp.remsi ArithUnit.host x (Scalar.select (IntOp.cmpi CmpIPredicate.eq 4096#32 0#32) (1#32) 4096#32))
      (Scalar.select (IntOp.cmpi CmpIPredicate.eq 4096#32 0#32) (1#32) 4096#32))
    (IntOp.remsi ArithUnit.host x (Scalar.select (IntOp.cmpi CmpIPredicate.eq 4096#32 0#32) (1#32) 4096#32))

theorem mod_word : ∀ t : Fin 4112, modW (BitVec.ofNat 32 t.val) = BitVec.ofNat 32 (t.val % 4096) := by decide +kernel

theorem wrap_word : ∀ t : Fin 4096, Scalar.select (IntOp.cmpi CmpIPredicate.slt (BitVec.ofNat 32 t.val) 0#32) (IntOp.addi (BitVec.ofNat 32 t.val) 4096#32) (BitVec.ofNat 32 t.val)
    = BitVec.ofNat 32 t.val := by decide +kernel

theorem rMod_apply (x : IVec S256x32 32) (n : Fin 256) (l : Fin 32) : rMod x (ix2 n l) = modW (x (ix2 n l)) := by
  pointwise [rMod, rDiv]
  rfl

theorem rTok_apply (n : Fin 256) (l : Fin 32) : rTok (ix3 n l 0) = BitVec.ofNat 32 ((n.val * 16 + l.val) % 4096) := by
  pointwise [rTok, rMod_apply, rIx_apply]
  rw [mod_word ⟨n.val * 16 + l.val, by omega⟩]
  exact wrap_word ⟨(n.val * 16 + l.val) % 4096, Nat.mod_lt _ (by norm_num)⟩

theorem clamp_word : ∀ t : Fin 4096, min (BitVec.ofNat 32 t.val).toInt.toNat 4095 = t.val := by decide +kernel

/-- The gather read at an index: the operand at the start index, read signed and clamped into the sequence. -/
theorem gather_at (x : FVec Ideal S4x4096x2x64 .f32) (idx : IVec S256x32x1 32) (b : Fin 4) (n : Fin 256) (l : Fin 32) (g : Fin 2) (e : Fin 64) :
    Host.gather gather_S4x4096x2x64_S256x32x1_S4x256x32x2x64_034_1_n_n_1_2_41264 x idx (ix5 b n l g e)
      = x (ix4 b ⟨min (idx (ix3 n l 0)).toInt.toNat 4095, by omega⟩ g e) := by
  have hsi : (gather_S4x4096x2x64_S256x32x1_S4x256x32x2x64_034_1_n_n_1_2_41264).siIdx (ix5 b n l g e) ⟨0, by decide⟩ = ix3 n l 0 := by
    funext c; refine Fin.ext ?_
    match c with
    | ⟨0, _⟩ => rfl
    | ⟨1, _⟩ => rfl
    | ⟨2, _⟩ => rfl
  have hb (a : Fin S4x4096x2x64.rank) : (gather_S4x4096x2x64_S256x32x1_S4x256x32x2x64_034_1_n_n_1_2_41264).batchCoord (ix5 b n l g e) a = 0 :=
    GatherDims.batchCoord_eq_zero _ _ _ List.not_mem_nil
  have hs (a : Fin S4x4096x2x64.rank) (h : a ∉ [(1 : Fin S4x4096x2x64.rank)]) :
      (gather_S4x4096x2x64_S256x32x1_S4x256x32x2x64_034_1_n_n_1_2_41264).start (ix5 b n l g e) idx a = 0 := dif_neg h
  have hs1 : (gather_S4x4096x2x64_S256x32x1_S4x256x32x2x64_034_1_n_n_1_2_41264).start (ix5 b n l g e) idx 1 = min (idx (ix3 n l 0)).toInt.toNat 4095 :=
    (dif_pos (show (1 : Fin S4x4096x2x64.rank) ∈ [(1 : Fin S4x4096x2x64.rank)] from List.mem_singleton.mpr rfl)).trans
      (congrArg (fun j => min (idx j).toInt.toNat 4095) hsi)
  have ho0 : (gather_S4x4096x2x64_S256x32x1_S4x256x32x2x64_034_1_n_n_1_2_41264).offCoord (ix5 b n l g e) 0 = b.val := dif_pos (by decide)
  have ho1 : (gather_S4x4096x2x64_S256x32x1_S4x256x32x2x64_034_1_n_n_1_2_41264).offCoord (ix5 b n l g e) 1 = 0 := dif_neg (by decide)
  have ho2 : (gather_S4x4096x2x64_S256x32x1_S4x256x32x2x64_034_1_n_n_1_2_41264).offCoord (ix5 b n l g e) 2 = g.val := dif_pos (by decide)
  have ho3 : (gather_S4x4096x2x64_S256x32x1_S4x256x32x2x64_034_1_n_n_1_2_41264).offCoord (ix5 b n l g e) 3 = e.val := dif_pos (by decide)
  unfold Host.gather
  refine congrArg x ?_
  funext a
  refine Fin.ext ?_
  unfold GatherDims.operandIdx
  match a with
  | ⟨0, _⟩ => exact (congrArg₂ (· + ·) (congrArg₂ (· + ·) (hs 0 (by decide)) (hb 0)) ho0).trans (Nat.zero_add _)
  | ⟨1, _⟩ => exact congrArg₂ (· + ·) (congrArg₂ (· + ·) hs1 (hb 1)) ho1
  | ⟨2, _⟩ => exact (congrArg₂ (· + ·) (congrArg₂ (· + ·) (hs 2 (by decide)) (hb 2)) ho2).trans (Nat.zero_add _)
  | ⟨3, _⟩ => exact (congrArg₂ (· + ·) (congrArg₂ (· + ·) (hs 3 (by decide)) (hb 3)) ho3).trans (Nat.zero_add _)

theorem rG_apply (A : FVec Ideal S4x4096x128 .f32) (b : Fin 4) (n : Fin 256) (l : Fin 32) (g : Fin 2) (e : Fin 64) :
    rG A (ix5 b n l g e) = A (ix3 b ⟨(n.val * 16 + l.val) % 4096, Nat.mod_lt _ (by norm_num)⟩ ⟨g.val * 64 + e.val, by omega⟩) := by
  unfold rG
  rw [gather_at]
  pointwise
  refine congrArg (fun t => A (ix3 b t ⟨g.val * 64 + e.val, by omega⟩)) (Fin.ext ?_)
  show min (rTok (ix3 n l 0)).toInt.toNat 4095 = _
  rw [rTok_apply]
  exact clamp_word ⟨(n.val * 16 + l.val) % 4096, Nat.mod_lt _ (by norm_num)⟩

theorem rPre_apply (A : FVec Ideal S4x4096x128 .f32) (P : FVec Ideal S1x32x64 .f32) (W : FVec Ideal S1x2048x256 .f32) (b : Fin 4) (n : Fin 256) (g : Fin 2) (h : Fin 256) :
    rPre A P W (ix4 b n g h) = hid (fun t d => A (ix3 b t ⟨g.val * 64 + d.val, by omega⟩)) (fun l d => P (ix3 0 l d)) (fun j => W (ix3 0 j h)) n := by
  pointwise [rPre, rG_apply]
  rfl

theorem rGelu_apply (X : FVec Ideal S4x256x2x256 .f32) (b : Fin 4) (n : Fin 256) (g : Fin 2) (h : Fin 256) :
    rGelu X (ix4 b n g h) = gelu (X (ix4 b n g h)) := by
  pointwise [rGelu]
  exact (mul_left_comm _ _ _).trans (mul_assoc _ _ _).symm

end Cert.Reference5Ideal.Cmp
-- ==== Proof.CmpOut.lean ====
module

public import proofs.«01_k».proof.Proof.CmpValue
public import proofs.«01_k».proof.Proof.CmpRef

@[expose] public section

/-! keys The compressed keys: the reference's result is the kernel's -/

set_option maxRecDepth 16384

noncomputable section

open Idealize.ShloMosaic Idealize.ShloMosaic.TcCoe Idealize.SL.Sem

namespace Cert.Reference5Ideal.Cmp

open Cert.Reference5Ideal Cert.Reference5Ideal.Gen Cert.Cmp

/-- The last position of each block. -/
def rEnd : IVec S256 32 :=
  subi (addi (muli (iotaInDim S256 32 0) (broadcastInDim S256 ![] bcast_S_S256 (constantI S_ 32 16#32))) (broadcastInDim S256 ![] bcast_S_S256 (constantI S_ 32 32#32)))
    (broadcastInDim S256 ![] bcast_S_S256 (constantI S_ 32 1#32))

/-- The divisor of the low part, guarded against zero. -/
def rDiv' : IVec S_ 32 := select (cmpi .eq (id (constantI S_ 32 256#32)) (constantI S_ 32 0#32)) (constantI S_ 32 1#32) (id (constantI S_ 32 256#32))

/-- The position's low part. -/
def rLo : IVec S256 32 :=
  select (andi (cmpi .ne (cmpi .slt (Host.remsi rEnd (broadcastInDim S256 ![] bcast_S_S256 rDiv')) (broadcastInDim S256 ![] bcast_S_S256 (constantI S_ 32 0#32)))
      (broadcastInDim S256 ![] bcast_S_S256 (cmpi .slt rDiv' (constantI S_ 32 0#32))))
      (cmpi .ne (Host.remsi rEnd (broadcastInDim S256 ![] bcast_S_S256 rDiv')) (broadcastInDim S256 ![] bcast_S_S256 (constantI S_ 32 0#32))))
    (addi (Host.remsi rEnd (broadcastInDim S256 ![] bcast_S_S256 rDiv')) (broadcastInDim S256 ![] bcast_S_S256 rDiv'))
    (Host.remsi rEnd (broadcastInDim S256 ![] bcast_S_S256 rDiv'))

/-- Its high part. -/
def rHi : IVec S256 32 := subi rEnd rLo

/-- The six columns of a position. -/
def rCols : IVec S256x6 32 :=
  concatenate S256x6 1 [⟨S256x1, broadcastInDim S256x1 ![0] bcast_S256_S256x1_0 rLo⟩, ⟨S256x1, broadcastInDim S256x1 ![0] bcast_S256_S256x1_0 rHi⟩,
    ⟨S256x1, broadcastInDim S256x1 ![0] bcast_S256_S256x1_0 rLo⟩, ⟨S256x1, broadcastInDim S256x1 ![0] bcast_S256_S256x1_0 rHi⟩,
    ⟨S256x1, broadcastInDim S256x1 ![0] bcast_S256_S256x1_0 rLo⟩, ⟨S256x1, broadcastInDim S256x1 ![0] bcast_S256_S256x1_0 rHi⟩]
    concatenates_S256x1_S256x1_S256x1_S256x1_S256x1_S256x1_S256x6_d1

/-- The result. -/
def rOut (A : FVec Ideal S4x4096x128 .f32) (P : FVec Ideal S1x32x64 .f32) (W : FVec Ideal S1x2048x256 .f32) (W' : FVec Ideal S1x256x64 .f32) : FVec Ideal S4x2x256x128 .bf16 :=
  truncf .bf16 (concatenate S4x2x256x128 3
    [⟨S4x2x256x64, transpose S4x2x256x64 [0, 2, 1, 3] (Host.dotGeneral dot_S4x256x2x256_S256x64_S4x256x2x64_3_0_012_1_n_n none (rGelu (rPre A P W)) (shapeCast S256x64 W' shapeCasts_S1x256x64_S256x64))
        transposes_S4x256x2x64_S4x2x256x64_0_2_1_3⟩,
      ⟨S4x2x256x6, broadcastInDim S4x2x256x6 ![0, 1, 2, 3] bcast_S1x1x256x6_S4x2x256x6_0_1_2_3 (broadcastInDim S1x1x256x6 ![2, 3] bcast_S256x6_S1x1x256x6_2_3 (sitofp .f32 rCols))⟩,
      ⟨S4x2x256x58, broadcastInDim S4x2x256x58 ![] bcast_S_S4x2x256x58 (constant S_ .f32 0x00000000#32)⟩]
    concatenates_S4x2x256x64_S4x2x256x6_S4x2x256x58_S4x2x256x128_d3) bitsLt_bf16_f32

theorem end_word : ∀ n : Fin 256, IntOp.subi (IntOp.addi (IntOp.muli (BitVec.ofNat 32 n.val) 16#32) 32#32) 1#32 = BitVec.ofNat 32 (n.val * 16 + 31) := by decide +kernel

theorem rEnd_apply (n : Fin 256) : rEnd (ix1 n) = BitVec.ofNat 32 (n.val * 16 + 31) := by
  pointwise [rEnd]
  exact end_word n

/-- The remainder by 256, word by word. -/
def loW (x : BitVec 32) : BitVec 32 :=
  Scalar.select
    (IntOp.andi
      (IntOp.cmpi CmpIPredicate.ne
        (IntOp.cmpi CmpIPredicate.slt (IntOp.remsi ArithUnit.host x (Scalar.select (IntOp.cmpi CmpIPredicate.eq 256#32 0#32) (1#32) 256#32)) 0#32)
        (IntOp.cmpi CmpIPredicate.slt (Scalar.select (IntOp.cmpi CmpIPredicate.eq 256#32 0#32) (1#32) 256#32) 0#32))
      (IntOp.cmpi CmpIPredicate.ne (IntOp.remsi ArithUnit.host x (Scalar.select (IntOp.cmpi CmpIPredicate.eq 256#32 0#32) (1#32) 256#32)) 0#32))
    (IntOp.addi (IntOp.remsi ArithUnit.host x (Scalar.select (IntOp.cmpi CmpIPredicate.eq 256#32 0#32) (1#32) 256#32))
      (Scalar.select (IntOp.cmpi CmpIPredicate.eq 256#32 0#32) (1#32) 256#32))
    (IntOp.remsi ArithUnit.host x (Scalar.select (IntOp.cmpi CmpIPredicate.eq 256#32 0#32) (1#32) 256#32))

theorem lo_word : ∀ n : Fin 256, loW (BitVec.ofNat 32 (n.val * 16 + 31)) = BitVec.ofNat 32 (lo n.val) := by decide +kernel

theorem hi_word : ∀ n : Fin 256, IntOp.subi (BitVec.ofNat 32 (n.val * 16 + 31)) (BitVec.ofNat 32 (lo n.val)) = BitVec.ofNat 32 (hi n.val) := by decide +kernel

theorem rLo_apply (n : Fin 256) : rLo (ix1 n) = BitVec.ofNat 32 (lo n.val) := by
  pointwise [rLo, rDiv', rEnd_apply]
  exact lo_word n

theorem rHi_apply (n : Fin 256) : rHi (ix1 n) = BitVec.ofNat 32 (hi n.val) := by
  pointwise [rHi, rEnd_apply, rLo_apply]
  exact hi_word n

theorem rCols_apply (n : Fin 256) (j : Fin 6) : rCols (ix2 n j) = pcol n.val (64 + j.val) := by
  pointwise [rCols, rLo_apply, rHi_apply]
  fin_cases j <;> rfl

theorem conv_zero : (FloatOps.sitofp (F := Ideal) .f32 0#32 : EReal) = 0 := Idealize.ShloMosaic.sitofp_zero

theorem out_eq (A : FVec Ideal S4x4096x128 .f32) (P : FVec Ideal S1x32x64 .f32) (W : FVec Ideal S1x2048x256 .f32) (W' : FVec Ideal S1x256x64 .f32) :
    rOut A P W W' = Cert.Kernel5Ideal.Cmp.OUT A P W W' := by
  funext i
  idx_vars i
  pointwise [rOut, rGelu_apply, rPre_apply, rCols_apply, Cert.Kernel5Ideal.Cmp.OUT]
  by_cases h : i3.val < 64
  · simp only [dif_pos h]
    rw [show pcol i2.val i3.val = 0#32 from if_neg (by omega), conv_zero, add_zero]
  · simp only [dif_neg h, mul_zero, Finset.sum_const_zero, zero_add]
    by_cases h' : i3.val - 64 < 6
    · rw [dif_pos h', show 64 + (i3.val - 64) = i3.val by omega]
    · rw [dif_neg h', show pcol i2.val i3.val = 0#32 from if_neg (by omega)]
      exact conv_zero.symm

end Cert.Reference5Ideal.Cmp
-- ==== Proof.CmpClaim.lean ====
module

public import proofs.«01_k».proof.Defs
public import proofs.«01_k».proof.Proof.Gen.Kernel5
public import proofs.«01_k».proof.Proof.Gen.Kernel5.Frame
public import proofs.«01_k».proof.Proof.Gen.Reference5Ideal.Run
public import proofs.«01_k».proof.Proof.CmpOut
public import Idealize.ShloMosaic.Lib.Tactic.CleanTypes
public import Idealize.ShloMosaic.Lib.Claim

@[expose] public section

/-! # The compressed keys: the claims -/

namespace Cert.Proof

open Idealize.ShloMosaic Idealize.ShloMosaic.TcCoe Idealize.ShloMosaic.StableHlo Idealize.SL.Sem

set_option maxRecDepth 65536

theorem frame_cmp : Cert.quiescent_Kernel5 := fun m ρ _ => Cert.Kernel5.Gen.frame m ρ

theorem frame_cmpIdeal : Cert.quiescent_Kernel5Ideal := fun m ρ _ => Cert.Kernel5Ideal.Gen.frame m ρ

theorem frame_cmpRef : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem algebraic_cmp : Cert.algebraic_Kernel5Ideal_Reference5Ideal := by
  intro m g m' g' _ hagree
  refine ⟨_, (θ_run _ _ _).mono (fun r h c => ⟨(h c).1.trans (Cert.Kernel5Ideal.Cmp.final m c), (h c).2⟩)
    (Cert.Kernel5Ideal.Value.run_blocks m g), ?_⟩
  refine (θ_run _ _ _).mono (fun r h c => ⟨(h c).1.trans ?_, (h c).2⟩) (Cert.Reference5Ideal.Value.run m' g')
  obtain ⟨h0, h1, h2, h3⟩ := hagree c
  have e := Cert.Reference5Ideal.Cmp.out_eq (m' ((c : Thread Cert.Reference5Ideal.nD Cert.Reference5Ideal.τ).loc Cert.Reference5Ideal.main_arg0))
    (m' ((c : Thread Cert.Reference5Ideal.nD Cert.Reference5Ideal.τ).loc Cert.Reference5Ideal.main_arg1))
    (m' ((c : Thread Cert.Reference5Ideal.nD Cert.Reference5Ideal.τ).loc Cert.Reference5Ideal.main_arg2))
    (m' ((c : Thread Cert.Reference5Ideal.nD Cert.Reference5Ideal.τ).loc Cert.Reference5Ideal.main_arg3))
  refine Eq.trans (Eq.trans rfl e) ?_
  rw [h0, h1, h2, h3]

end Cert.Proof
-- ==== Proof.CmvArr.lean ====
module

public import proofs.«01_k».proof.Proof.Gen.Kernel6Ideal.Value
public import proofs.«01_k».proof.Proof.CmpSum
public import Idealize.ShloMosaic.Lib.Pointwise
public import Idealize.ShloMosaic.Lib.Pipeline.ValueKit
public import Idealize.ShloMosaic.Lib.KernelVsHost

@[expose] public section

/-! # The compressed values: the arrays the region reads -/

set_option maxRecDepth 16384

noncomputable section

open Idealize.ShloMosaic Idealize.ShloMosaic.TcCoe Idealize.SL.Sem Idealize.ShloMosaic.StableHlo

namespace Cert.Kernel6Ideal.Cmp

open Cert.Kernel6Ideal Cert.Kernel6Ideal.Gen Cert.Cmp

variable (m : (ℓ : Loc nD τ sig) → Buf (Elt Ideal) ℓ)

/-- The tokens, sixteen to a row. -/
def aRows (A : FVec Ideal S4x4096x128 .f32) : FVec Ideal S4x256x2048 .f32 := shapeCast S4x256x2048 A shapeCasts_S4x4096x128_S4x256x2048

/-- The position's rows, once for each group. -/
def pRow (P : FVec Ideal S1x32x64 .f32) : FVec Ideal S1x4096 .f32 :=
  shapeCast S1x4096 (broadcastInDim S2x16x2x64 ![0, 1, 2, 3] bcast_S2x16x1x64_S2x16x2x64_0_1_2_3
    (shapeCast S2x16x1x64 (shapeCast S32x64 P shapeCasts_S1x32x64_S32x64) shapeCasts_S32x64_S2x16x1x64)) shapeCasts_S2x16x2x64_S1x4096

/-- One where the group is its own, zero elsewhere. -/
def eye : FVec Ideal S2x2 .f32 :=
  uitofp .f32 (cmpi .eq (addi (iotaInDim S2x2 32 0) (broadcastInDim S2x2 ![] bcast_S_S2x2 (constantI S_ 32 0#32))) (iotaInDim S2x2 32 1))

/-- The first layer's weights, with zeros at the rows of the other group. -/
def wRows (W : FVec Ideal S1x2048x256 .f32) : FVec Ideal S2x4096x256 .bf16 :=
  truncf .bf16 (shapeCast S2x4096x256 (mulf
    (broadcastInDim S2x2x16x2x64x256 ![0, 1, 2, 3, 4, 5] bcast_S2x1x1x2x1x1_S2x2x16x2x64x256_0_1_2_3_4_5 (shapeCast S2x1x1x2x1x1 eye shapeCasts_S2x2_S2x1x1x2x1x1))
    (broadcastInDim S2x2x16x2x64x256 ![0, 1, 2, 3, 4, 5] bcast_S1x2x16x1x64x256_S2x2x16x2x64x256_0_1_2_3_4_5
      (broadcastInDim S1x2x16x1x64x256 ![1, 2, 3, 4, 5] bcast_S2x16x1x64x256_S1x2x16x1x64x256_1_2_3_4_5
        (shapeCast S2x16x1x64x256 (shapeCast S2048x256 W shapeCasts_S1x2048x256_S2048x256) shapeCasts_S2048x256_S2x16x1x64x256))))
    shapeCasts_S2x2x16x2x64x256_S2x4096x256) bitsLt_bf16_f32

/-- The second layer's weights on their side, with rows of zeros behind the 64. -/
def w2Pad (W : FVec Ideal S1x256x64 .f32) : FVec Ideal S80x256 .bf16 :=
  truncf .bf16 (pad S80x256 ![0, 0] ![16, 0] ![0, 0] (transpose S64x256 [1, 0] (shapeCast S256x64 W shapeCasts_S1x256x64_S256x64) transposes_S256x64_S64x256_1_0)
    (sitofp .f32 (constantI S_ 32 0#32)) pads_S64x256_S80x256_0160_000 h_S_) bitsLt_bf16_f32

theorem V_v0 (c : Dev nD) : V m c main_v0 = aRows (m ((c : Thread nD τ).loc main_arg0)) := by
  unfold V
  simp only [List.flatten_cons, List.flatten_nil, List.append_nil, hostOps0, hostOps0_1, hostOps0_2, List.cons_append, List.nil_append]
  after_results
  rfl

theorem V_v4 (c : Dev nD) : V m c main_v4 = pRow (m ((c : Thread nD τ).loc main_arg1)) := by
  unfold V
  simp only [List.flatten_cons, List.flatten_nil, List.append_nil, hostOps0, hostOps0_1, hostOps0_2, List.cons_append, List.nil_append]
  after_results
  rfl

theorem V_v19 (c : Dev nD) : V m c main_v19 = wRows (m ((c : Thread nD τ).loc main_arg2)) := by
  unfold V
  simp only [List.flatten_cons, List.flatten_nil, List.append_nil, hostOps0, hostOps0_1, hostOps0_2, List.cons_append, List.nil_append]
  after_results
  rfl

theorem V_v23 (c : Dev nD) : V m c main_v23 = w2Pad (m ((c : Thread nD τ).loc main_arg3)) := by
  unfold V
  simp only [List.flatten_cons, List.flatten_nil, List.append_nil, hostOps0, hostOps0_1, hostOps0_2, List.cons_append, List.nil_append]
  after_results
  rfl

theorem aRows_apply (A : FVec Ideal S4x4096x128 .f32) (b : Fin 4) (n : Fin 256) (k : Fin 2048) :
    aRows A (ix3 b n k) = A (ix3 b ⟨n.val * 16 + k.val / 128, by omega⟩ ⟨k.val % 128, by omega⟩) := by
  pointwise [aRows]

theorem pRow_apply (P : FVec Ideal S1x32x64 .f32) (k : Fin 4096) : pRow P (ix2 0 k) = P (ix3 0 ⟨k.val / 128, by omega⟩ ⟨k.val % 64, by omega⟩) := by
  pointwise [pRow]
  exact congrArg P (congrArg₂ (ix3 0) (Fin.ext (by simp only []; omega)) rfl)

theorem eye_word : ∀ g g' : Fin 2, IntOp.cmpi CmpIPredicate.eq (IntOp.addi (BitVec.ofNat 32 g.val) 0#32) (BitVec.ofNat 32 g'.val) = if g = g' then 1#1 else 0#1 := by
  decide +kernel

theorem eye_apply (g g' : Fin 2) : eye (ix2 g g') = if g = g' then (1 : EReal) else 0 := by
  pointwise [eye]
  rw [eye_word g g']
  by_cases h : g = g'
  · rw [if_pos h, if_pos h]
    show (((1#1 : BitVec 1).toNat : ℝ) : EReal) = 1
    norm_num
  · rw [if_neg h, if_neg h]
    show (((0#1 : BitVec 1).toNat : ℝ) : EReal) = 0
    norm_num

theorem wRows_apply (W : FVec Ideal S1x2048x256 .f32) (g : Fin 2) (k : Fin 4096) (h : Fin 256) :
    wRows W (ix3 g k h) = eye (ix2 g ⟨k.val % 128 / 64, by omega⟩) * W (ix3 0 ⟨k.val / 128 * 64 + k.val % 64, by omega⟩ h) := by
  pointwise [wRows]
  exact congrArg₂ (· * ·) (congrArg (fun g' => eye (ix2 g g')) (Fin.ext (by simp only []; omega)))
    (congrArg (fun j => W (ix3 0 j h)) (Fin.ext (by simp only []; omega)))

theorem w2Pad_apply (W : FVec Ideal S1x256x64 .f32) (e : Fin 80) (h : Fin 256) :
    w2Pad W (ix2 e h) = if he : e.val < 64 then W (ix3 0 h ⟨e.val, he⟩) else (0 : EReal) := by
  pointwise [w2Pad]
  by_cases he : e.val < 64
  · rw [dif_pos he, dif_pos he]
  · rw [dif_neg he, dif_neg he]
    exact Idealize.ShloMosaic.sitofp_zero

end Cert.Kernel6Ideal.Cmp
-- ==== Proof.CmvKernel.lean ====
module

public import proofs.«01_k».proof.Proof.Gen.Kernel6Ideal.Frame
public import proofs.«01_k».proof.Proof.CmpKernel
public import Idealize.ShloMosaic.Lib.Pointwise
public import Idealize.ShloMosaic.Lib.Pipeline.ValueKit

@[expose] public section

/-! # The compressed values: what the body leaves at an index of the result's block -/

set_option maxRecDepth 16384

noncomputable section

open Idealize.ShloMosaic Idealize.ShloMosaic.TcCoe Idealize.SL.Sem

namespace Cert.Kernel6Ideal.Cmp

open Cert.Kernel6Ideal Cert.Kernel6Ideal.Gen Cert.Cmp

theorem row64 : ∀ e : Fin 80, IntOp.cmpi CmpIPredicate.eq (BitVec.ofNat 32 e.val) 64#32 = if e.val = 64 then 1#1 else 0#1 := by decide +kernel

/-- What the body leaves at an index of its block. -/
theorem out4 (x0 : Vec Ideal S1x256x2048 .f32) (x1 : Vec Ideal S1x4096 .f32) (x2 : Vec Ideal S1x4096x256 .bf16) (x3 : Vec Ideal S80x256 .bf16) (e : Fin 80) (n : Fin 256) :
    out0_4 x0 x1 x2 x3 (ix4 0 0 e n)
      = if e.val = 64 then (1 : EReal) else ∑ h : Fin 256, x3 (ix2 e h) * gelu (pre (fun n k => x0 (ix3 0 n k)) (fun k => x1 (ix2 0 k)) (fun k => x2 (ix3 0 k h)) n) := by
  unfold out0_4
  canon_tiles x h
  obtain ⟨a, b, c, d, rfl⟩ : ∃ (a : Fin 1) (b : Fin 1) (c : Fin 80) (d : Fin 256), x = ix4 a b c d := ⟨x 0, x 1, x 2, x 3, eq_ix4 x⟩
  obtain rfl : a = 0 := Subsingleton.elim _ _
  obtain rfl : b = 0 := Subsingleton.elim _ _
  obtain rfl : e = c := Fin.ext (by simpa using h2)
  obtain rfl : n = d := Fin.ext (by simpa using h3)
  clear h0 h1 h2 h3
  pointwise [k0_pay1, k0_pay2, gelu, pre]
  rw [row64 e]
  by_cases he : e.val = 64
  · rw [if_pos he, if_pos he]; rfl
  · rw [if_neg he, if_neg he]; rfl

end Cert.Kernel6Ideal.Cmp
-- ==== Proof.CmvValue.lean ====
module

public import proofs.«01_k».proof.Proof.CmvArr
public import proofs.«01_k».proof.Proof.CmvKernel

@[expose] public section

/-! 6 The compressed values: the result array after the run -/

set_option maxRecDepth 16384

noncomputable section

open Idealize.ShloMosaic Idealize.ShloMosaic.TcCoe Idealize.SL.Sem
open Idealize.ShloMosaic.Pipeline (Dat)

namespace Cert.Kernel6Ideal.Cmp

open Cert.Kernel6Ideal Cert.Kernel6Ideal.Gen Cert.Cmp

variable (m : (ℓ : Loc nD τ sig) → Buf (Elt Ideal) ℓ)

/-- The windows' block indices. -/
theorem idx : ∀ t : Fin cfg0.N, win0_0.index t = ![t.val / 2, 0, 0] ∧ win0_1.index t = ![0, 0] ∧ win0_2.index t = ![t.val % 2, 0, 0]
    ∧ win0_3.index t = ![0, 0] ∧ win0_4.index t = ![t.val / 2, t.val % 2, 0, 0] :=
  (by decide +kernel : ∀ t : Fin grid0.N, _)

/-- The result as an array, from the arguments. -/
def OUT (A : FVec Ideal S4x4096x128 .f32) (P : FVec Ideal S1x32x64 .f32) (W : FVec Ideal S1x2048x256 .f32) (W' : FVec Ideal S1x256x64 .f32) :
    FVec Ideal S4x2x80x256 .bf16 := fun i =>
  if (i 2).val = 64 then (1 : EReal) else
    ∑ h : Fin 256, (if he : (i 2).val < 64 then W' (ix3 0 h ⟨(i 2).val, he⟩) else (0 : EReal))
      * gelu (hid (fun t d => A (ix3 (i 0) t ⟨(i 1).val * 64 + d.val, by have h : (i 1).val < 2 := (i 1).isLt; omega⟩)) (fun l d => P (ix3 0 l d)) (fun j => W (ix3 0 j h)) (i 3))

theorem rows_apply (A : FVec Ideal S4x4096x128 .f32) (P : FVec Ideal S1x32x64 .f32) (W : FVec Ideal S1x2048x256 .f32)
    (b : Fin 4) (g : Fin 2) (n : Fin 256) (h : Fin 256) :
    pre (fun n k => aRows A (ix3 b n k)) (fun k => pRow P (ix2 0 k)) (fun k => wRows W (ix3 g k h)) n
      = hid (fun t d => A (ix3 b t ⟨g.val * 64 + d.val, by omega⟩)) (fun l d => P (ix3 0 l d)) (fun j => W (ix3 0 j h)) n := by
  refine Eq.trans ?_ (pre_eq (fun t d => A (ix3 b t d)) (fun l d => P (ix3 0 l d)) (fun j => W (ix3 0 j h)) (fun g' => eye (ix2 g g')) g (fun g' => eye_apply g g') n)
  exact congrFun (congr (congr (congrArg pre (funext fun n => funext fun k => aRows_apply A b n k)) (funext fun k => pRow_apply P k)) (funext fun k => wRows_apply W g k h)) n

theorem final (c : Dev nD) : (dats m 0 c).arrAt 4 (cfgs 0).N
    = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨a, b, e, n, rfl⟩ : ∃ (a : Fin 1) (b : Fin 1) (e : Fin 80) (n : Fin 256), y = ix4 a b e n := ⟨y 0, y 1, y 2, y 3, eq_ix4 y⟩
  obtain rfl : a = 0 := Subsingleton.elim _ _
  obtain rfl : b = 0 := Subsingleton.elim _ _
  have ht : t.val < 8 := t.isLt
  have e4 : ((cfg0.win 4).blk t).view.emb (ix4 0 0 e n) = ix4 ⟨t.val / 2, by omega⟩ ⟨t.val % 2, by omega⟩ e n := by blk_ext [idx t]
  refine (out4 _ _ _ _ e n).trans (Eq.trans ?_ (congrArg (OUT (m ((c : Thread nD τ).loc main_arg0)) (m ((c : Thread nD τ).loc main_arg1)) (m ((c : Thread nD τ).loc main_arg2)) (m ((c : Thread nD τ).loc main_arg3))) e4).symm)
  have hx : (fun (n : Fin 256) (k : Fin 2048) => iblk m c 0 t (ix3 0 n k)) = fun n k => aRows (m ((c : Thread nD τ).loc main_arg0)) (ix3 ⟨t.val / 2, by omega⟩ n k) := by
    funext n k
    have e0 : ((cfg0.win 0).blk t).view.emb (ix3 0 n k) = ix3 ⟨t.val / 2, by omega⟩ n k := by blk_ext [idx t]
    show V m c main_v0 (((cfg0.win 0).blk t).view.emb (ix3 0 n k)) = _
    rw [V_v0, e0]
  have hp : (fun (k : Fin 4096) => iblk m c 1 t (ix2 0 k)) = fun k => pRow (m ((c : Thread nD τ).loc main_arg1)) (ix2 0 k) := by
    funext k
    have e0 : ((cfg0.win 1).blk t).view.emb (ix2 0 k) = ix2 0 k := by blk_ext [idx t]
    show V m c main_v4 (((cfg0.win 1).blk t).view.emb (ix2 0 k)) = _
    rw [V_v4, e0]
  have hw (h : Fin 256) : (fun (k : Fin 4096) => iblk m c 2 t (ix3 0 k h)) = fun k => wRows (m ((c : Thread nD τ).loc main_arg2)) (ix3 ⟨t.val % 2, by omega⟩ k h) := by
    funext k
    have e0 : ((cfg0.win 2).blk t).view.emb (ix3 0 k h) = ix3 ⟨t.val % 2, by omega⟩ k h := by blk_ext [idx t]
    show V m c main_v19 (((cfg0.win 2).blk t).view.emb (ix3 0 k h)) = _
    rw [V_v19, e0]
  have hq (h : Fin 256) : iblk m c 3 t (ix2 e h) = w2Pad (m ((c : Thread nD τ).loc main_arg3)) (ix2 e h) := by
    have e0 : ((cfg0.win 3).blk t).view.emb (ix2 e h) = ix2 e h := by blk_ext [idx t]
    show V m c main_v23 (((cfg0.win 3).blk t).view.emb (ix2 e h)) = _
    rw [V_v23, e0]
  have hr (h : Fin 256) : pre (fun n k => iblk m c 0 t (ix3 0 n k)) (fun k => iblk m c 1 t (ix2 0 k)) (fun k => iblk m c 2 t (ix3 0 k h)) n
      = hid (fun t' d => (m ((c : Thread nD τ).loc main_arg0)) (ix3 ⟨t.val / 2, by omega⟩ t' ⟨t.val % 2 * 64 + d.val, by omega⟩))
          (fun l d => (m ((c : Thread nD τ).loc main_arg1)) (ix3 0 l d)) (fun j => (m ((c : Thread nD τ).loc main_arg2)) (ix3 0 j h)) n :=
    (congrFun (congr (congr (congrArg pre hx) hp) (hw h)) n).trans (rows_apply _ _ _ ⟨t.val / 2, by omega⟩ ⟨t.val % 2, by omega⟩ n h)
  exact congrArg (fun x => if e.val = 64 then (1 : EReal) else x)
    (Finset.sum_congr rfl fun h _ => congrArg₂ (· * ·) ((hq h).trans (w2Pad_apply _ e h)) (congrArg gelu (hr h)))

end Cert.Kernel6Ideal.Cmp
-- ==== Proof.CmvRef.lean ====
module

public import proofs.«01_k».proof.Proof.CmpSum
public import proofs.«01_k».proof.Proof.Gen.Reference6Ideal.Run

@[expose] public section

/-! # The compressed values' reference: a block's row before and after GELU -/

set_option maxRecDepth 16384

noncomputable section

open Idealize.ShloMosaic Idealize.ShloMosaic.TcCoe Idealize.SL.Sem

namespace Cert.Reference6Ideal.Cmp

open Cert.Reference6Ideal Cert.Reference6Ideal.Gen Cert.Cmp

/-- Token `l` of block `n`, counted from the sequence's first. -/
def rIx : IVec S256x32 32 :=
  addi (broadcastInDim S256x32 ![0, 1] bcast_S256x1_S256x32_0_1 (muli (broadcastInDim S256x1 ![0] bcast_S256_S256x1_0 (iotaInDim S256 32 0)) (broadcastInDim S256x1 ![] bcast_S_S256x1 (constantI S_ 32 16#32))))
    (broadcastInDim S256x32 ![0, 1] bcast_S1x32_S256x32_0_1 (broadcastInDim S1x32 ![1] bcast_S32_S1x32_1 (iotaInDim S32 32 0)))

/-- The divisor, guarded against zero. -/
def rDiv : IVec S_ 32 := select (cmpi .eq (id (constantI S_ 32 4096#32)) (constantI S_ 32 0#32)) (constantI S_ 32 1#32) (id (constantI S_ 32 4096#32))

/-- The remainder that takes the divisor's sign. -/
def rMod (x : IVec S256x32 32) : IVec S256x32 32 :=
  select (andi (cmpi .ne (cmpi .slt (Host.remsi x (broadcastInDim S256x32 ![] bcast_S_S256x32 rDiv)) (broadcastInDim S256x32 ![] bcast_S_S256x32 (constantI S_ 32 0#32)))
      (broadcastInDim S256x32 ![] bcast_S_S256x32 (cmpi .slt rDiv (constantI S_ 32 0#32))))
      (cmpi .ne (Host.remsi x (broadcastInDim S256x32 ![] bcast_S_S256x32 rDiv)) (broadcastInDim S256x32 ![] bcast_S_S256x32 (constantI S_ 32 0#32))))
    (addi (Host.remsi x (broadcastInDim S256x32 ![] bcast_S_S256x32 rDiv)) (broadcastInDim S256x32 ![] bcast_S_S256x32 rDiv))
    (Host.remsi x (broadcastInDim S256x32 ![] bcast_S_S256x32 rDiv))

/-- The token's number as an index: counted round, and from the end where negative. -/
def rTok : IVec S256x32x1 32 :=
  broadcastInDim S256x32x1 ![0, 1] bcast_S256x32_S256x32x1_0_1
    (select (cmpi .slt (rMod rIx) (broadcastInDim S256x32 ![] bcast_S_S256x32 (constantI S_ 32 0#32)))
      (addi (rMod rIx) (broadcastInDim S256x32 ![] bcast_S_S256x32 (constantI S_ 32 4096#32))) (rMod rIx))

/-- The blocks' tokens. -/
def rG (A : FVec Ideal S4x4096x128 .f32) : FVec Ideal S4x256x32x2x64 .f32 :=
  Host.gather gather_S4x4096x2x64_S256x32x1_S4x256x32x2x64_034_1_n_n_1_2_41264 (shapeCast S4x4096x2x64 A shapeCasts_S4x4096x128_S4x4096x2x64) rTok

/-- The first layer. -/
def rPre (A : FVec Ideal S4x4096x128 .f32) (P : FVec Ideal S1x32x64 .f32) (W : FVec Ideal S1x2048x256 .f32) : FVec Ideal S4x256x2x256 .f32 :=
  Host.dotGeneral dot_S4x256x2x2048_S2048x256_S4x256x2x256_3_0_012_1_n_n none
    (shapeCast S4x256x2x2048 (transpose S4x256x2x32x64 [0, 1, 3, 2, 4] (addf (rG A)
      (broadcastInDim S4x256x32x2x64 ![0, 1, 2, 3, 4] bcast_S1x1x32x1x64_S4x256x32x2x64_0_1_2_3_4
        (broadcastInDim S1x1x32x1x64 ![2, 4] bcast_S32x64_S1x1x32x1x64_2_4 (shapeCast S32x64 P shapeCasts_S1x32x64_S32x64))))
      transposes_S4x256x32x2x64_S4x256x2x32x64_0_1_3_2_4) shapeCasts_S4x256x2x32x64_S4x256x2x2048)
    (shapeCast S2048x256 W shapeCasts_S1x2048x256_S2048x256)

/-- GELU in its tanh form. -/
def rGelu (X : FVec Ideal S4x256x2x256 .f32) : FVec Ideal S4x256x2x256 .f32 :=
  mulf X (mulf (broadcastInDim S4x256x2x256 ![] bcast_S_S4x256x2x256 (constant S_ .f32 0x3F000000#32))
    (addf (broadcastInDim S4x256x2x256 ![] bcast_S_S4x256x2x256 (constant S_ .f32 0x3F800000#32))
      (Host.tanh (mulf (broadcastInDim S4x256x2x256 ![] bcast_S_S4x256x2x256 (constant S_ .f32 0x3F4C422A#32))
        (addf X (mulf (broadcastInDim S4x256x2x256 ![] bcast_S_S4x256x2x256 (constant S_ .f32 0x3D372713#32)) (mulf (mulf X X) X)))))))

theorem rIx_word : ∀ (n : Fin 256) (l : Fin 32), IntOp.addi (IntOp.muli (BitVec.ofNat 32 n.val) 16#32) (BitVec.ofNat 32 l.val) = BitVec.ofNat 32 (n.val * 16 + l.val) := by
  decide +kernel

theorem rIx_apply (n : Fin 256) (l : Fin 32) : rIx (ix2 n l) = BitVec.ofNat 32 (n.val * 16 + l.val) := by
  pointwise [rIx]
  exact rIx_word n l

/-- The remainder by 4096, word by word. -/
def modW (x : BitVec 32) : BitVec 32 :=
  Scalar.select
    (IntOp.andi
      (IntOp.cmpi CmpIPredicate.ne
        (IntOp.cmpi CmpIPredicate.slt (IntOp.remsi ArithUnit.host x (Scalar.select (IntOp.cmpi CmpIPredicate.eq 4096#32 0#32) (1#32) 4096#32)) 0#32)
        (IntOp.cmpi CmpIPredicate.slt (Scalar.select (IntOp.cmpi CmpIPredicate.eq 4096#32 0#32) (1#32) 4096#32) 0#32))
      (IntOp.cmpi CmpIPredicate.ne (IntOp.remsi ArithUnit.host x (Scalar.select (IntOp.cmpi CmpIPredicate.eq 4096#32 0#32) (1#32) 4096#32)) 0#32))
    (IntOp.addi (IntOp.remsi ArithUnit.host x (Scalar.select (IntOp.cmpi CmpIPredicate.eq 4096#32 0#32) (1#32) 4096#32))
      (Scalar.select (IntOp.cmpi CmpIPredicate.eq 4096#32 0#32) (1#32) 4096#32))
    (IntOp.remsi ArithUnit.host x (Scalar.select (IntOp.cmpi CmpIPredicate.eq 4096#32 0#32) (1#32) 4096#32))

theorem mod_word : ∀ t : Fin 4112, modW (BitVec.ofNat 32 t.val) = BitVec.ofNat 32 (t.val % 4096) := by decide +kernel

theorem wrap_word : ∀ t : Fin 4096, Scalar.select (IntOp.cmpi CmpIPredicate.slt (BitVec.ofNat 32 t.val) 0#32) (IntOp.addi (BitVec.ofNat 32 t.val) 4096#32) (BitVec.ofNat 32 t.val)
    = BitVec.ofNat 32 t.val := by decide +kernel

theorem rMod_apply (x : IVec S256x32 32) (n : Fin 256) (l : Fin 32) : rMod x (ix2 n l) = modW (x (ix2 n l)) := by
  pointwise [rMod, rDiv]
  rfl

theorem rTok_apply (n : Fin 256) (l : Fin 32) : rTok (ix3 n l 0) = BitVec.ofNat 32 ((n.val * 16 + l.val) % 4096) := by
  pointwise [rTok, rMod_apply, rIx_apply]
  rw [mod_word ⟨n.val * 16 + l.val, by omega⟩]
  exact wrap_word ⟨(n.val * 16 + l.val) % 4096, Nat.mod_lt _ (by norm_num)⟩

theorem clamp_word : ∀ t : Fin 4096, min (BitVec.ofNat 32 t.val).toInt.toNat 4095 = t.val := by decide +kernel

/-- The gather read at an index: the operand at the start index, read signed and clamped into the sequence. -/
theorem gather_at (x : FVec Ideal S4x4096x2x64 .f32) (idx : IVec S256x32x1 32) (b : Fin 4) (n : Fin 256) (l : Fin 32) (g : Fin 2) (e : Fin 64) :
    Host.gather gather_S4x4096x2x64_S256x32x1_S4x256x32x2x64_034_1_n_n_1_2_41264 x idx (ix5 b n l g e)
      = x (ix4 b ⟨min (idx (ix3 n l 0)).toInt.toNat 4095, by omega⟩ g e) := by
  have hsi : (gather_S4x4096x2x64_S256x32x1_S4x256x32x2x64_034_1_n_n_1_2_41264).siIdx (ix5 b n l g e) ⟨0, by decide⟩ = ix3 n l 0 := by
    funext c; refine Fin.ext ?_
    match c with
    | ⟨0, _⟩ => rfl
    | ⟨1, _⟩ => rfl
    | ⟨2, _⟩ => rfl
  have hb (a : Fin S4x4096x2x64.rank) : (gather_S4x4096x2x64_S256x32x1_S4x256x32x2x64_034_1_n_n_1_2_41264).batchCoord (ix5 b n l g e) a = 0 :=
    GatherDims.batchCoord_eq_zero _ _ _ List.not_mem_nil
  have hs (a : Fin S4x4096x2x64.rank) (h : a ∉ [(1 : Fin S4x4096x2x64.rank)]) :
      (gather_S4x4096x2x64_S256x32x1_S4x256x32x2x64_034_1_n_n_1_2_41264).start (ix5 b n l g e) idx a = 0 := dif_neg h
  have hs1 : (gather_S4x4096x2x64_S256x32x1_S4x256x32x2x64_034_1_n_n_1_2_41264).start (ix5 b n l g e) idx 1 = min (idx (ix3 n l 0)).toInt.toNat 4095 :=
    (dif_pos (show (1 : Fin S4x4096x2x64.rank) ∈ [(1 : Fin S4x4096x2x64.rank)] from List.mem_singleton.mpr rfl)).trans
      (congrArg (fun j => min (idx j).toInt.toNat 4095) hsi)
  have ho0 : (gather_S4x4096x2x64_S256x32x1_S4x256x32x2x64_034_1_n_n_1_2_41264).offCoord (ix5 b n l g e) 0 = b.val := dif_pos (by decide)
  have ho1 : (gather_S4x4096x2x64_S256x32x1_S4x256x32x2x64_034_1_n_n_1_2_41264).offCoord (ix5 b n l g e) 1 = 0 := dif_neg (by decide)
  have ho2 : (gather_S4x4096x2x64_S256x32x1_S4x256x32x2x64_034_1_n_n_1_2_41264).offCoord (ix5 b n l g e) 2 = g.val := dif_pos (by decide)
  have ho3 : (gather_S4x4096x2x64_S256x32x1_S4x256x32x2x64_034_1_n_n_1_2_41264).offCoord (ix5 b n l g e) 3 = e.val := dif_pos (by decide)
  unfold Host.gather
  refine congrArg x ?_
  funext a
  refine Fin.ext ?_
  unfold GatherDims.operandIdx
  match a with
  | ⟨0, _⟩ => exact (congrArg₂ (· + ·) (congrArg₂ (· + ·) (hs 0 (by decide)) (hb 0)) ho0).trans (Nat.zero_add _)
  | ⟨1, _⟩ => exact congrArg₂ (· + ·) (congrArg₂ (· + ·) hs1 (hb 1)) ho1
  | ⟨2, _⟩ => exact (congrArg₂ (· + ·) (congrArg₂ (· + ·) (hs 2 (by decide)) (hb 2)) ho2).trans (Nat.zero_add _)
  | ⟨3, _⟩ => exact (congrArg₂ (· + ·) (congrArg₂ (· + ·) (hs 3 (by decide)) (hb 3)) ho3).trans (Nat.zero_add _)

theorem rG_apply (A : FVec Ideal S4x4096x128 .f32) (b : Fin 4) (n : Fin 256) (l : Fin 32) (g : Fin 2) (e : Fin 64) :
    rG A (ix5 b n l g e) = A (ix3 b ⟨(n.val * 16 + l.val) % 4096, Nat.mod_lt _ (by norm_num)⟩ ⟨g.val * 64 + e.val, by omega⟩) := by
  unfold rG
  rw [gather_at]
  pointwise
  refine congrArg (fun t => A (ix3 b t ⟨g.val * 64 + e.val, by omega⟩)) (Fin.ext ?_)
  show min (rTok (ix3 n l 0)).toInt.toNat 4095 = _
  rw [rTok_apply]
  exact clamp_word ⟨(n.val * 16 + l.val) % 4096, Nat.mod_lt _ (by norm_num)⟩

theorem rPre_apply (A : FVec Ideal S4x4096x128 .f32) (P : FVec Ideal S1x32x64 .f32) (W : FVec Ideal S1x2048x256 .f32) (b : Fin 4) (n : Fin 256) (g : Fin 2) (h : Fin 256) :
    rPre A P W (ix4 b n g h) = hid (fun t d => A (ix3 b t ⟨g.val * 64 + d.val, by omega⟩)) (fun l d => P (ix3 0 l d)) (fun j => W (ix3 0 j h)) n := by
  pointwise [rPre, rG_apply]
  rfl

theorem rGelu_apply (X : FVec Ideal S4x256x2x256 .f32) (b : Fin 4) (n : Fin 256) (g : Fin 2) (h : Fin 256) :
    rGelu X (ix4 b n g h) = gelu (X (ix4 b n g h)) := by
  pointwise [rGelu]
  exact (mul_left_comm _ _ _).trans (mul_assoc _ _ _).symm

end Cert.Reference6Ideal.Cmp
-- ==== Proof.CmvOut.lean ====
module

public import proofs.«01_k».proof.Proof.CmvValue
public import proofs.«01_k».proof.Proof.CmvRef

@[expose] public section

/-! values The compressed values: the reference's result is the kernel's -/

set_option maxRecDepth 16384

noncomputable section

open Idealize.ShloMosaic Idealize.ShloMosaic.TcCoe Idealize.SL.Sem

namespace Cert.Reference6Ideal.Cmp

open Cert.Reference6Ideal Cert.Reference6Ideal.Gen Cert.Cmp

/-- The result. -/
def rOut (A : FVec Ideal S4x4096x128 .f32) (P : FVec Ideal S1x32x64 .f32) (W : FVec Ideal S1x2048x256 .f32) (W' : FVec Ideal S1x256x64 .f32) : FVec Ideal S4x2x80x256 .bf16 :=
  truncf .bf16 (concatenate S4x2x80x256 2
    [⟨S4x2x64x256, transpose S4x2x64x256 [0, 2, 3, 1] (Host.dotGeneral dot_S4x256x2x256_S256x64_S4x256x2x64_3_0_012_1_n_n none (rGelu (rPre A P W)) (shapeCast S256x64 W' shapeCasts_S1x256x64_S256x64))
        transposes_S4x256x2x64_S4x2x64x256_0_2_3_1⟩,
      ⟨S4x2x1x256, broadcastInDim S4x2x1x256 ![] bcast_S_S4x2x1x256 (constant S_ .f32 0x3F800000#32)⟩,
      ⟨S4x2x15x256, broadcastInDim S4x2x15x256 ![] bcast_S_S4x2x15x256 (constant S_ .f32 0x00000000#32)⟩]
    concatenates_S4x2x64x256_S4x2x1x256_S4x2x15x256_S4x2x80x256_d2) bitsLt_bf16_f32

theorem out_eq (A : FVec Ideal S4x4096x128 .f32) (P : FVec Ideal S1x32x64 .f32) (W : FVec Ideal S1x2048x256 .f32) (W' : FVec Ideal S1x256x64 .f32) :
    rOut A P W W' = Cert.Kernel6Ideal.Cmp.OUT A P W W' := by
  funext i
  idx_vars i
  pointwise [rOut, rGelu_apply, rPre_apply, Cert.Kernel6Ideal.Cmp.OUT]
  by_cases h : i2.val < 64
  · simp only [dif_pos h]
    have e : i2.val ≠ 64 := by omega
    exact Eq.trans (Finset.sum_congr rfl fun k _ => mul_comm _ _) (if_neg e).symm
  · simp only [dif_neg h, zero_mul, Finset.sum_const_zero]
    by_cases e : i2.val = 64
    · have q : i2.val - 64 < 1 := by omega
      rw [dif_pos q]
      exact (if_pos e).symm
    · have q : ¬ i2.val - 64 < 1 := by omega
      rw [dif_neg q]
      exact (if_neg e).symm

end Cert.Reference6Ideal.Cmp
-- ==== Proof.CmvClaim.lean ====
module

public import proofs.«01_k».proof.Defs
public import proofs.«01_k».proof.Proof.Gen.Kernel6
public import proofs.«01_k».proof.Proof.Gen.Kernel6.Frame
public import proofs.«01_k».proof.Proof.Gen.Reference6Ideal.Run
public import proofs.«01_k».proof.Proof.CmvOut
public import Idealize.ShloMosaic.Lib.Tactic.CleanTypes
public import Idealize.ShloMosaic.Lib.Claim

@[expose] public section

/-! # The compressed values: the claims -/

namespace Cert.Proof

open Idealize.ShloMosaic Idealize.ShloMosaic.TcCoe Idealize.ShloMosaic.StableHlo Idealize.SL.Sem

set_option maxRecDepth 65536

theorem frame_cmv : Cert.quiescent_Kernel6 := fun m ρ _ => Cert.Kernel6.Gen.frame m ρ

theorem frame_cmvIdeal : Cert.quiescent_Kernel6Ideal := fun m ρ _ => Cert.Kernel6Ideal.Gen.frame m ρ

theorem frame_cmvRef : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem algebraic_cmv : Cert.algebraic_Kernel6Ideal_Reference6Ideal := by
  intro m g m' g' _ hagree
  refine ⟨_, (θ_run _ _ _).mono (fun r h c => ⟨(h c).1.trans (Cert.Kernel6Ideal.Cmp.final m c), (h c).2⟩)
    (Cert.Kernel6Ideal.Value.run_blocks m g), ?_⟩
  refine (θ_run _ _ _).mono (fun r h c => ⟨(h c).1.trans ?_, (h c).2⟩) (Cert.Reference6Ideal.Value.run m' g')
  obtain ⟨h0, h1, h2, h3⟩ := hagree c
  have e := Cert.Reference6Ideal.Cmp.out_eq (m' ((c : Thread Cert.Reference6Ideal.nD Cert.Reference6Ideal.τ).loc Cert.Reference6Ideal.main_arg0))
    (m' ((c : Thread Cert.Reference6Ideal.nD Cert.Reference6Ideal.τ).loc Cert.Reference6Ideal.main_arg1))
    (m' ((c : Thread Cert.Reference6Ideal.nD Cert.Reference6Ideal.τ).loc Cert.Reference6Ideal.main_arg2))
    (m' ((c : Thread Cert.Reference6Ideal.nD Cert.Reference6Ideal.τ).loc Cert.Reference6Ideal.main_arg3))
  refine Eq.trans (Eq.trans rfl e) ?_
  rw [h0, h1, h2, h3]

end Cert.Proof
-- ==== Proof.lean ====
/-
  The proof of `Cert.Claim`: the attention call's frames and the preservation of its text, and the frames, preservation
  and values of the post call, of the input projection, of the modulation rows and of the two compressions.
-/
module

public import proofs.«01_k».proof.Defs
public import proofs.«01_k».proof.Proof.Gen.Kernel
public import proofs.«01_k».proof.Proof.Gen.KernelIdeal
public import proofs.«01_k».proof.Proof.Body
public import proofs.«01_k».proof.Proof.PostClaim
public import proofs.«01_k».proof.Proof.ProjClaim
public import proofs.«01_k».proof.Proof.AdaClaim
public import proofs.«01_k».proof.Proof.CmpClaim
public import proofs.«01_k».proof.Proof.CmvClaim
public import Idealize.ShloMosaic.Adequacy
public import Idealize.ShloMosaic.Init

@[expose] public section

namespace Cert.Proof

open Idealize.ShloMosaic Idealize.SL.Sem

set_option maxRecDepth 65536

theorem frame_ideal : Cert.quiescent_KernelIdeal := fun m ρ _ => Cert.KernelIdeal.Hand.frame m ρ

/-- The two programs have the same body table: one label, one body. -/
theorem defs₀_same : Cert.Kernel.defs₀ (F := Bits) = Cert.KernelIdeal.defs₀ (F := Bits) := by
  unfold Cert.Kernel.defs₀ Cert.KernelIdeal.defs₀
  refine congrArg Defs.onTc (funext fun b => funext fun a => ?_)
  match b, a with
  | 0, (t, s) => rfl

theorem defs_same : Cert.Kernel.defs (F := Bits) = Cert.KernelIdeal.defs (F := Bits) := by
  unfold Cert.Kernel.defs Cert.KernelIdeal.defs
  exact congrArg (Pipeline.defs Cert.KernelIdeal.pcfgs) defs₀_same

theorem frame_kernel : Cert.quiescent_Kernel := fun m ρ _ => by
  rw [defs_same]; exact Cert.KernelIdeal.Hand.frame (F := Bits) m ρ

theorem claim : Cert.Claim := ⟨Cert.Kernel.Gen.facts, Cert.KernelIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  frame_kernel, frame_ideal, frame_post, frame_postIdeal, frame_postRef, frame_proj,
  frame_projIdeal, frame_projRef, frame_ada, frame_adaIdeal, frame_adaRef, frame_cmp, frame_cmpIdeal, frame_cmpRef, frame_cmv, frame_cmvIdeal, frame_cmvRef,
  trivial, trivial, algebraic_post, trivial, algebraic_proj, trivial, algebraic_ada, trivial, algebraic_cmp, trivial, algebraic_cmv⟩

end Cert.Proof
